-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_SampleQkv (m : (ℓ : Loc Cert.SampleQkv.nD Cert.SampleQkv.τ Cert.SampleQkv.sig) → Buf (Elt Bits) ℓ) : Prop :=
  True

def Pre_SampleQkvIdeal (m : (ℓ : Loc Cert.SampleQkvIdeal.nD Cert.SampleQkvIdeal.τ Cert.SampleQkvIdeal.sig) → Buf (Elt Ideal) ℓ) : Prop :=
  True

def Pre_SampleQkvRefIdeal (m : (ℓ : Loc Cert.SampleQkvRefIdeal.nD Cert.SampleQkvRefIdeal.τ Cert.SampleQkvRefIdeal.sig) → Buf (Elt Ideal) ℓ) : Prop :=
  True

def Pre_SampleNorm (m : (ℓ : Loc Cert.SampleNorm.nD Cert.SampleNorm.τ Cert.SampleNorm.sig) → Buf (Elt Bits) ℓ) : Prop :=
  True

def Pre_SampleNormIdeal (m : (ℓ : Loc Cert.SampleNormIdeal.nD Cert.SampleNormIdeal.τ Cert.SampleNormIdeal.sig) → Buf (Elt Ideal) ℓ) : Prop :=
  True

def Pre_SampleNormRefIdeal (m : (ℓ : Loc Cert.SampleNormRefIdeal.nD Cert.SampleNormRefIdeal.τ Cert.SampleNormRefIdeal.sig) → Buf (Elt Ideal) ℓ) : Prop :=
  True

def Pre_SampleGates (m : (ℓ : Loc Cert.SampleGates.nD Cert.SampleGates.τ Cert.SampleGates.sig) → Buf (Elt Bits) ℓ) : Prop :=
  True

def Pre_SampleGatesIdeal (m : (ℓ : Loc Cert.SampleGatesIdeal.nD Cert.SampleGatesIdeal.τ Cert.SampleGatesIdeal.sig) → Buf (Elt Ideal) ℓ) : Prop :=
  True

def Pre_SampleGatesRefIdeal (m : (ℓ : Loc Cert.SampleGatesRefIdeal.nD Cert.SampleGatesRefIdeal.τ Cert.SampleGatesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_SampleQkv [hSampleQkv : Cert.SampleQkv.Facts] : Prop :=
  ∀ (m : (ℓ : Loc Cert.SampleQkv.nD Cert.SampleQkv.τ Cert.SampleQkv.sig) → Buf (Elt Bits) ℓ) (g : Dev Cert.SampleQkv.nD → PrngReg), Pre_SampleQkv m →
    θ_run (Cert.SampleQkv.defs (F := Bits)) (onTc (τ := Cert.SampleQkv.τ) (Cert.SampleQkv.main (F := Bits))) ⟨m, fun _ => 0, g⟩ (fun r => (∀ c : Dev Cert.SampleQkv.nD,
      r.2.mem ((c.tc : Thread Cert.SampleQkv.nD Cert.SampleQkv.τ).loc Cert.SampleQkv.main_arg0) = m ((c.tc : Thread Cert.SampleQkv.nD Cert.SampleQkv.τ).loc Cert.SampleQkv.main_arg0)
      ∧ r.2.mem ((c.tc : Thread Cert.SampleQkv.nD Cert.SampleQkv.τ).loc Cert.SampleQkv.main_arg1) = m ((c.tc : Thread Cert.SampleQkv.nD Cert.SampleQkv.τ).loc Cert.SampleQkv.main_arg1)
      ∧ r.2.mem ((c.tc : Thread Cert.SampleQkv.nD Cert.SampleQkv.τ).loc Cert.SampleQkv.main_arg2) = m ((c.tc : Thread Cert.SampleQkv.nD Cert.SampleQkv.τ).loc Cert.SampleQkv.main_arg2))
      ∧ r.2.sem = fun _ => 0)

def quiescent_SampleQkvIdeal [hSampleQkvIdeal : Cert.SampleQkvIdeal.Facts] : Prop :=
  ∀ (m : (ℓ : Loc Cert.SampleQkvIdeal.nD Cert.SampleQkvIdeal.τ Cert.SampleQkvIdeal.sig) → Buf (Elt Ideal) ℓ) (g : Dev Cert.SampleQkvIdeal.nD → PrngReg), Pre_SampleQkvIdeal m →
    θ_run (Cert.SampleQkvIdeal.defs (F := Ideal)) (onTc (τ := Cert.SampleQkvIdeal.τ) (Cert.SampleQkvIdeal.main (F := Ideal))) ⟨m, fun _ => 0, g⟩ (fun r => (∀ c : Dev Cert.SampleQkvIdeal.nD,
      r.2.mem ((c.tc : Thread Cert.SampleQkvIdeal.nD Cert.SampleQkvIdeal.τ).loc Cert.SampleQkvIdeal.main_arg0) = m ((c.tc : Thread Cert.SampleQkvIdeal.nD Cert.SampleQkvIdeal.τ).loc Cert.SampleQkvIdeal.main_arg0)
      ∧ r.2.mem ((c.tc : Thread Cert.SampleQkvIdeal.nD Cert.SampleQkvIdeal.τ).loc Cert.SampleQkvIdeal.main_arg1) = m ((c.tc : Thread Cert.SampleQkvIdeal.nD Cert.SampleQkvIdeal.τ).loc Cert.SampleQkvIdeal.main_arg1)
      ∧ r.2.mem ((c.tc : Thread Cert.SampleQkvIdeal.nD Cert.SampleQkvIdeal.τ).loc Cert.SampleQkvIdeal.main_arg2) = m ((c.tc : Thread Cert.SampleQkvIdeal.nD Cert.SampleQkvIdeal.τ).loc Cert.SampleQkvIdeal.main_arg2))
      ∧ r.2.sem = fun _ => 0)

def quiescent_SampleQkvRefIdeal [hSampleQkvRefIdeal : Cert.SampleQkvRefIdeal.Facts] : Prop :=
  ∀ (m : (ℓ : Loc Cert.SampleQkvRefIdeal.nD Cert.SampleQkvRefIdeal.τ Cert.SampleQkvRefIdeal.sig) → Buf (Elt Ideal) ℓ) (g : Dev Cert.SampleQkvRefIdeal.nD → PrngReg), Pre_SampleQkvRefIdeal m →
    θ_run (Cert.SampleQkvRefIdeal.defs (F := Ideal)) (onTc (τ := Cert.SampleQkvRefIdeal.τ) (Cert.SampleQkvRefIdeal.main (F := Ideal))) ⟨m, fun _ => 0, g⟩ (fun r => (∀ c : Dev Cert.SampleQkvRefIdeal.nD,
      r.2.mem ((c.tc : Thread Cert.SampleQkvRefIdeal.nD Cert.SampleQkvRefIdeal.τ).loc Cert.SampleQkvRefIdeal.main_arg0) = m ((c.tc : Thread Cert.SampleQkvRefIdeal.nD Cert.SampleQkvRefIdeal.τ).loc Cert.SampleQkvRefIdeal.main_arg0)
      ∧ r.2.mem ((c.tc : Thread Cert.SampleQkvRefIdeal.nD Cert.SampleQkvRefIdeal.τ).loc Cert.SampleQkvRefIdeal.main_arg1) = m ((c.tc : Thread Cert.SampleQkvRefIdeal.nD Cert.SampleQkvRefIdeal.τ).loc Cert.SampleQkvRefIdeal.main_arg1)
      ∧ r.2.mem ((c.tc : Thread Cert.SampleQkvRefIdeal.nD Cert.SampleQkvRefIdeal.τ).loc Cert.SampleQkvRefIdeal.main_arg2) = m ((c.tc : Thread Cert.SampleQkvRefIdeal.nD Cert.SampleQkvRefIdeal.τ).loc Cert.SampleQkvRefIdeal.main_arg2))
      ∧ r.2.sem = fun _ => 0)

def quiescent_SampleNorm [hSampleNorm : Cert.SampleNorm.Facts] : Prop :=
  ∀ (m : (ℓ : Loc Cert.SampleNorm.nD Cert.SampleNorm.τ Cert.SampleNorm.sig) → Buf (Elt Bits) ℓ) (g : Dev Cert.SampleNorm.nD → PrngReg), Pre_SampleNorm m →
    θ_run (Cert.SampleNorm.defs (F := Bits)) (onTc (τ := Cert.SampleNorm.τ) (Cert.SampleNorm.main (F := Bits))) ⟨m, fun _ => 0, g⟩ (fun r => (∀ c : Dev Cert.SampleNorm.nD,
      r.2.mem ((c.tc : Thread Cert.SampleNorm.nD Cert.SampleNorm.τ).loc Cert.SampleNorm.main_arg0) = m ((c.tc : Thread Cert.SampleNorm.nD Cert.SampleNorm.τ).loc Cert.SampleNorm.main_arg0)
      ∧ r.2.mem ((c.tc : Thread Cert.SampleNorm.nD Cert.SampleNorm.τ).loc Cert.SampleNorm.main_arg1) = m ((c.tc : Thread Cert.SampleNorm.nD Cert.SampleNorm.τ).loc Cert.SampleNorm.main_arg1))
      ∧ r.2.sem = fun _ => 0)

def quiescent_SampleNormIdeal [hSampleNormIdeal : Cert.SampleNormIdeal.Facts] : Prop :=
  ∀ (m : (ℓ : Loc Cert.SampleNormIdeal.nD Cert.SampleNormIdeal.τ Cert.SampleNormIdeal.sig) → Buf (Elt Ideal) ℓ) (g : Dev Cert.SampleNormIdeal.nD → PrngReg), Pre_SampleNormIdeal m →
    θ_run (Cert.SampleNormIdeal.defs (F := Ideal)) (onTc (τ := Cert.SampleNormIdeal.τ) (Cert.SampleNormIdeal.main (F := Ideal))) ⟨m, fun _ => 0, g⟩ (fun r => (∀ c : Dev Cert.SampleNormIdeal.nD,
      r.2.mem ((c.tc : Thread Cert.SampleNormIdeal.nD Cert.SampleNormIdeal.τ).loc Cert.SampleNormIdeal.main_arg0) = m ((c.tc : Thread Cert.SampleNormIdeal.nD Cert.SampleNormIdeal.τ).loc Cert.SampleNormIdeal.main_arg0)
      ∧ r.2.mem ((c.tc : Thread Cert.SampleNormIdeal.nD Cert.SampleNormIdeal.τ).loc Cert.SampleNormIdeal.main_arg1) = m ((c.tc : Thread Cert.SampleNormIdeal.nD Cert.SampleNormIdeal.τ).loc Cert.SampleNormIdeal.main_arg1))
      ∧ r.2.sem = fun _ => 0)

def quiescent_SampleNormRefIdeal [hSampleNormRefIdeal : Cert.SampleNormRefIdeal.Facts] : Prop :=
  ∀ (m : (ℓ : Loc Cert.SampleNormRefIdeal.nD Cert.SampleNormRefIdeal.τ Cert.SampleNormRefIdeal.sig) → Buf (Elt Ideal) ℓ) (g : Dev Cert.SampleNormRefIdeal.nD → PrngReg), Pre_SampleNormRefIdeal m →
    θ_run (Cert.SampleNormRefIdeal.defs (F := Ideal)) (onTc (τ := Cert.SampleNormRefIdeal.τ) (Cert.SampleNormRefIdeal.main (F := Ideal))) ⟨m, fun _ => 0, g⟩ (fun r => (∀ c : Dev Cert.SampleNormRefIdeal.nD,
      r.2.mem ((c.tc : Thread Cert.SampleNormRefIdeal.nD Cert.SampleNormRefIdeal.τ).loc Cert.SampleNormRefIdeal.main_arg0) = m ((c.tc : Thread Cert.SampleNormRefIdeal.nD Cert.SampleNormRefIdeal.τ).loc Cert.SampleNormRefIdeal.main_arg0)
      ∧ r.2.mem ((c.tc : Thread Cert.SampleNormRefIdeal.nD Cert.SampleNormRefIdeal.τ).loc Cert.SampleNormRefIdeal.main_arg1) = m ((c.tc : Thread Cert.SampleNormRefIdeal.nD Cert.SampleNormRefIdeal.τ).loc Cert.SampleNormRefIdeal.main_arg1))
      ∧ r.2.sem = fun _ => 0)

def quiescent_SampleGates [hSampleGates : Cert.SampleGates.Facts] : Prop :=
  ∀ (m : (ℓ : Loc Cert.SampleGates.nD Cert.SampleGates.τ Cert.SampleGates.sig) → Buf (Elt Bits) ℓ) (g : Dev Cert.SampleGates.nD → PrngReg), Pre_SampleGates m →
    θ_run (Cert.SampleGates.defs (F := Bits)) (onTc (τ := Cert.SampleGates.τ) (Cert.SampleGates.main (F := Bits))) ⟨m, fun _ => 0, g⟩ (fun r => (∀ c : Dev Cert.SampleGates.nD,
      r.2.mem ((c.tc : Thread Cert.SampleGates.nD Cert.SampleGates.τ).loc Cert.SampleGates.main_arg0) = m ((c.tc : Thread Cert.SampleGates.nD Cert.SampleGates.τ).loc Cert.SampleGates.main_arg0)
      ∧ r.2.mem ((c.tc : Thread Cert.SampleGates.nD Cert.SampleGates.τ).loc Cert.SampleGates.main_arg1) = m ((c.tc : Thread Cert.SampleGates.nD Cert.SampleGates.τ).loc Cert.SampleGates.main_arg1)
      ∧ r.2.mem ((c.tc : Thread Cert.SampleGates.nD Cert.SampleGates.τ).loc Cert.SampleGates.main_arg2) = m ((c.tc : Thread Cert.SampleGates.nD Cert.SampleGates.τ).loc Cert.SampleGates.main_arg2)
      ∧ r.2.mem ((c.tc : Thread Cert.SampleGates.nD Cert.SampleGates.τ).loc Cert.SampleGates.main_arg3) = m ((c.tc : Thread Cert.SampleGates.nD Cert.SampleGates.τ).loc Cert.SampleGates.main_arg3))
      ∧ r.2.sem = fun _ => 0)

def quiescent_SampleGatesIdeal [hSampleGatesIdeal : Cert.SampleGatesIdeal.Facts] : Prop :=
  ∀ (m : (ℓ : Loc Cert.SampleGatesIdeal.nD Cert.SampleGatesIdeal.τ Cert.SampleGatesIdeal.sig) → Buf (Elt Ideal) ℓ) (g : Dev Cert.SampleGatesIdeal.nD → PrngReg), Pre_SampleGatesIdeal m →
    θ_run (Cert.SampleGatesIdeal.defs (F := Ideal)) (onTc (τ := Cert.SampleGatesIdeal.τ) (Cert.SampleGatesIdeal.main (F := Ideal))) ⟨m, fun _ => 0, g⟩ (fun r => (∀ c : Dev Cert.SampleGatesIdeal.nD,
      r.2.mem ((c.tc : Thread Cert.SampleGatesIdeal.nD Cert.SampleGatesIdeal.τ).loc Cert.SampleGatesIdeal.main_arg0) = m ((c.tc : Thread Cert.SampleGatesIdeal.nD Cert.SampleGatesIdeal.τ).loc Cert.SampleGatesIdeal.main_arg0)
      ∧ r.2.mem ((c.tc : Thread Cert.SampleGatesIdeal.nD Cert.SampleGatesIdeal.τ).loc Cert.SampleGatesIdeal.main_arg1) = m ((c.tc : Thread Cert.SampleGatesIdeal.nD Cert.SampleGatesIdeal.τ).loc Cert.SampleGatesIdeal.main_arg1)
      ∧ r.2.mem ((c.tc : Thread Cert.SampleGatesIdeal.nD Cert.SampleGatesIdeal.τ).loc Cert.SampleGatesIdeal.main_arg2) = m ((c.tc : Thread Cert.SampleGatesIdeal.nD Cert.SampleGatesIdeal.τ).loc Cert.SampleGatesIdeal.main_arg2)
      ∧ r.2.mem ((c.tc : Thread Cert.SampleGatesIdeal.nD Cert.SampleGatesIdeal.τ).loc Cert.SampleGatesIdeal.main_arg3) = m ((c.tc : Thread Cert.SampleGatesIdeal.nD Cert.SampleGatesIdeal.τ).loc Cert.SampleGatesIdeal.main_arg3))
      ∧ r.2.sem = fun _ => 0)

def quiescent_SampleGatesRefIdeal [hSampleGatesRefIdeal : Cert.SampleGatesRefIdeal.Facts] : Prop :=
  ∀ (m : (ℓ : Loc Cert.SampleGatesRefIdeal.nD Cert.SampleGatesRefIdeal.τ Cert.SampleGatesRefIdeal.sig) → Buf (Elt Ideal) ℓ) (g : Dev Cert.SampleGatesRefIdeal.nD → PrngReg), Pre_SampleGatesRefIdeal m →
    θ_run (Cert.SampleGatesRefIdeal.defs (F := Ideal)) (onTc (τ := Cert.SampleGatesRefIdeal.τ) (Cert.SampleGatesRefIdeal.main (F := Ideal))) ⟨m, fun _ => 0, g⟩ (fun r => (∀ c : Dev Cert.SampleGatesRefIdeal.nD,
      r.2.mem ((c.tc : Thread Cert.SampleGatesRefIdeal.nD Cert.SampleGatesRefIdeal.τ).loc Cert.SampleGatesRefIdeal.main_arg0) = m ((c.tc : Thread Cert.SampleGatesRefIdeal.nD Cert.SampleGatesRefIdeal.τ).loc Cert.SampleGatesRefIdeal.main_arg0)
      ∧ r.2.mem ((c.tc : Thread Cert.SampleGatesRefIdeal.nD Cert.SampleGatesRefIdeal.τ).loc Cert.SampleGatesRefIdeal.main_arg1) = m ((c.tc : Thread Cert.SampleGatesRefIdeal.nD Cert.SampleGatesRefIdeal.τ).loc Cert.SampleGatesRefIdeal.main_arg1)
      ∧ r.2.mem ((c.tc : Thread Cert.SampleGatesRefIdeal.nD Cert.SampleGatesRefIdeal.τ).loc Cert.SampleGatesRefIdeal.main_arg2) = m ((c.tc : Thread Cert.SampleGatesRefIdeal.nD Cert.SampleGatesRefIdeal.τ).loc Cert.SampleGatesRefIdeal.main_arg2)
      ∧ r.2.mem ((c.tc : Thread Cert.SampleGatesRefIdeal.nD Cert.SampleGatesRefIdeal.τ).loc Cert.SampleGatesRefIdeal.main_arg3) = m ((c.tc : Thread Cert.SampleGatesRefIdeal.nD Cert.SampleGatesRefIdeal.τ).loc Cert.SampleGatesRefIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v7_0)) (v1 : (c : Dev Cert.GatesIdeal.nD) → Buf (Elt Ideal) ((c.tc : Thread Cert.GatesIdeal.nD Cert.GatesIdeal.τ).loc Cert.GatesIdeal.main_v7_1)) (v2 : (c : Dev Cert.GatesIdeal.nD) → Buf (Elt Ideal) ((c.tc : Thread Cert.GatesIdeal.nD Cert.GatesIdeal.τ).loc Cert.GatesIdeal.main_v7_2)) (v3 : (c : Dev Cert.GatesIdeal.nD) → Buf (Elt Ideal) ((c.tc : Thread Cert.GatesIdeal.nD Cert.GatesIdeal.τ).loc Cert.GatesIdeal.main_v7_3)) (v4 : (c : Dev Cert.GatesIdeal.nD) → Buf (Elt Ideal) ((c.tc : Thread Cert.GatesIdeal.nD Cert.GatesIdeal.τ).loc Cert.GatesIdeal.main_v9)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v7_0) = v0 c
          ∧ r.2.mem ((c.tc : Thread Cert.GatesIdeal.nD Cert.GatesIdeal.τ).loc Cert.GatesIdeal.main_v7_1) = v1 c
          ∧ r.2.mem ((c.tc : Thread Cert.GatesIdeal.nD Cert.GatesIdeal.τ).loc Cert.GatesIdeal.main_v7_2) = v2 c
          ∧ r.2.mem ((c.tc : Thread Cert.GatesIdeal.nD Cert.GatesIdeal.τ).loc Cert.GatesIdeal.main_v7_3) = v3 c
          ∧ r.2.mem ((c.tc : Thread Cert.GatesIdeal.nD Cert.GatesIdeal.τ).loc Cert.GatesIdeal.main_v9) = v4 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v19) = v0 c
          ∧ r.2.mem ((c.tc : Thread Cert.GatesRefIdeal.nD Cert.GatesRefIdeal.τ).loc Cert.GatesRefIdeal.main_v23) = v1 c
          ∧ r.2.mem ((c.tc : Thread Cert.GatesRefIdeal.nD Cert.GatesRefIdeal.τ).loc Cert.GatesRefIdeal.main_v21) = v2 c
          ∧ r.2.mem ((c.tc : Thread Cert.GatesRefIdeal.nD Cert.GatesRefIdeal.τ).loc Cert.GatesRefIdeal.main_v29) = v3 c
          ∧ r.2.mem ((c.tc : Thread Cert.GatesRefIdeal.nD Cert.GatesRefIdeal.τ).loc Cert.GatesRefIdeal.main_v33) = v4 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v5)) (v2 : (c : Dev Cert.QkvIdeal.nD) → Buf (Elt Ideal) ((c.tc : Thread Cert.QkvIdeal.nD Cert.QkvIdeal.τ).loc Cert.QkvIdeal.main_v7)) (v3 : (c : Dev Cert.QkvIdeal.nD) → Buf (Elt Ideal) ((c.tc : Thread Cert.QkvIdeal.nD Cert.QkvIdeal.τ).loc Cert.QkvIdeal.main_v3_3)) (v4 : (c : Dev Cert.QkvIdeal.nD) → Buf (Elt Ideal) ((c.tc : Thread Cert.QkvIdeal.nD Cert.QkvIdeal.τ).loc Cert.QkvIdeal.main_v10)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v5) = v1 c
          ∧ r.2.mem ((c.tc : Thread Cert.QkvIdeal.nD Cert.QkvIdeal.τ).loc Cert.QkvIdeal.main_v7) = v2 c
          ∧ r.2.mem ((c.tc : Thread Cert.QkvIdeal.nD Cert.QkvIdeal.τ).loc Cert.QkvIdeal.main_v3_3) = v3 c
          ∧ r.2.mem ((c.tc : Thread Cert.QkvIdeal.nD Cert.QkvIdeal.τ).loc Cert.QkvIdeal.main_v10) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v19) = v0 c
          ∧ r.2.mem ((c.tc : Thread Cert.QkvRefIdeal.nD Cert.QkvRefIdeal.τ).loc Cert.QkvRefIdeal.main_v28) = v1 c
          ∧ r.2.mem ((c.tc : Thread Cert.QkvRefIdeal.nD Cert.QkvRefIdeal.τ).loc Cert.QkvRefIdeal.main_v34) = v2 c
          ∧ r.2.mem ((c.tc : Thread Cert.QkvRefIdeal.nD Cert.QkvRefIdeal.τ).loc Cert.QkvRefIdeal.main_v22) = v3 c
          ∧ r.2.mem ((c.tc : Thread Cert.QkvRefIdeal.nD Cert.QkvRefIdeal.τ).loc Cert.QkvRefIdeal.main_v37) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_SampleQkv_SampleQkvIdeal : Prop :=
  True

def algebraic_SampleQkvIdeal_SampleQkvRefIdeal [hSampleQkvIdeal : Cert.SampleQkvIdeal.Facts] [hSampleQkvRefIdeal : Cert.SampleQkvRefIdeal.Facts] : Prop :=
  ∀ (m : (ℓ : Loc Cert.SampleQkvIdeal.nD Cert.SampleQkvIdeal.τ Cert.SampleQkvIdeal.sig) → Buf (Elt Ideal) ℓ) (g : Dev Cert.SampleQkvIdeal.nD → PrngReg)
    (m' : (ℓ : Loc Cert.SampleQkvRefIdeal.nD Cert.SampleQkvRefIdeal.τ Cert.SampleQkvRefIdeal.sig) → Buf (Elt Ideal) ℓ) (g' : Dev Cert.SampleQkvRefIdeal.nD → PrngReg), Pre_SampleQkvIdeal m →
    (∀ c : Dev Cert.SampleQkvIdeal.nD,
      m' ((c.tc : Thread Cert.SampleQkvRefIdeal.nD Cert.SampleQkvRefIdeal.τ).loc Cert.SampleQkvRefIdeal.main_arg0) = m ((c.tc : Thread Cert.SampleQkvIdeal.nD Cert.SampleQkvIdeal.τ).loc Cert.SampleQkvIdeal.main_arg0)
      ∧ m' ((c.tc : Thread Cert.SampleQkvRefIdeal.nD Cert.SampleQkvRefIdeal.τ).loc Cert.SampleQkvRefIdeal.main_arg1) = m ((c.tc : Thread Cert.SampleQkvIdeal.nD Cert.SampleQkvIdeal.τ).loc Cert.SampleQkvIdeal.main_arg1)
      ∧ m' ((c.tc : Thread Cert.SampleQkvRefIdeal.nD Cert.SampleQkvRefIdeal.τ).loc Cert.SampleQkvRefIdeal.main_arg2) = m ((c.tc : Thread Cert.SampleQkvIdeal.nD Cert.SampleQkvIdeal.τ).loc Cert.SampleQkvIdeal.main_arg2)) →
    ∃ (v0 : (c : Dev Cert.SampleQkvIdeal.nD) → Buf (Elt Ideal) ((c.tc : Thread Cert.SampleQkvIdeal.nD Cert.SampleQkvIdeal.τ).loc Cert.SampleQkvIdeal.main_v3_0)) (v1 : (c : Dev Cert.SampleQkvIdeal.nD) → Buf (Elt Ideal) ((c.tc : Thread Cert.SampleQkvIdeal.nD Cert.SampleQkvIdeal.τ).loc Cert.SampleQkvIdeal.main_v4)) (v2 : (c : Dev Cert.SampleQkvIdeal.nD) → Buf (Elt Ideal) ((c.tc : Thread Cert.SampleQkvIdeal.nD Cert.SampleQkvIdeal.τ).loc Cert.SampleQkvIdeal.main_v5)) (v3 : (c : Dev Cert.SampleQkvIdeal.nD) → Buf (Elt Ideal) ((c.tc : Thread Cert.SampleQkvIdeal.nD Cert.SampleQkvIdeal.τ).loc Cert.SampleQkvIdeal.main_v3_3)) (v4 : (c : Dev Cert.SampleQkvIdeal.nD) → Buf (Elt Ideal) ((c.tc : Thread Cert.SampleQkvIdeal.nD Cert.SampleQkvIdeal.τ).loc Cert.SampleQkvIdeal.main_v8)),
      θ_run (Cert.SampleQkvIdeal.defs (F := Ideal)) (onTc (τ := Cert.SampleQkvIdeal.τ) (Cert.SampleQkvIdeal.main (F := Ideal))) ⟨m, fun _ => 0, g⟩ (fun r => ∀ c : Dev Cert.SampleQkvIdeal.nD,
          r.2.mem ((c.tc : Thread Cert.SampleQkvIdeal.nD Cert.SampleQkvIdeal.τ).loc Cert.SampleQkvIdeal.main_v3_0) = v0 c
          ∧ r.2.mem ((c.tc : Thread Cert.SampleQkvIdeal.nD Cert.SampleQkvIdeal.τ).loc Cert.SampleQkvIdeal.main_v4) = v1 c
          ∧ r.2.mem ((c.tc : Thread Cert.SampleQkvIdeal.nD Cert.SampleQkvIdeal.τ).loc Cert.SampleQkvIdeal.main_v5) = v2 c
          ∧ r.2.mem ((c.tc : Thread Cert.SampleQkvIdeal.nD Cert.SampleQkvIdeal.τ).loc Cert.SampleQkvIdeal.main_v3_3) = v3 c
          ∧ r.2.mem ((c.tc : Thread Cert.SampleQkvIdeal.nD Cert.SampleQkvIdeal.τ).loc Cert.SampleQkvIdeal.main_v8) = v4 c
          ∧ r.2.mem ((c.tc : Thread Cert.SampleQkvIdeal.nD Cert.SampleQkvIdeal.τ).loc Cert.SampleQkvIdeal.main_arg0) = m ((c.tc : Thread Cert.SampleQkvIdeal.nD Cert.SampleQkvIdeal.τ).loc Cert.SampleQkvIdeal.main_arg0)
          ∧ r.2.mem ((c.tc : Thread Cert.SampleQkvIdeal.nD Cert.SampleQkvIdeal.τ).loc Cert.SampleQkvIdeal.main_arg1) = m ((c.tc : Thread Cert.SampleQkvIdeal.nD Cert.SampleQkvIdeal.τ).loc Cert.SampleQkvIdeal.main_arg1)
          ∧ r.2.mem ((c.tc : Thread Cert.SampleQkvIdeal.nD Cert.SampleQkvIdeal.τ).loc Cert.SampleQkvIdeal.main_arg2) = m ((c.tc : Thread Cert.SampleQkvIdeal.nD Cert.SampleQkvIdeal.τ).loc Cert.SampleQkvIdeal.main_arg2))
      ∧ θ_run (Cert.SampleQkvRefIdeal.defs (F := Ideal)) (onTc (τ := Cert.SampleQkvRefIdeal.τ) (Cert.SampleQkvRefIdeal.main (F := Ideal))) ⟨m', fun _ => 0, g'⟩ (fun r => ∀ c : Dev Cert.SampleQkvRefIdeal.nD,
          r.2.mem ((c.tc : Thread Cert.SampleQkvRefIdeal.nD Cert.SampleQkvRefIdeal.τ).loc Cert.SampleQkvRefIdeal.main_v19) = v0 c
          ∧ r.2.mem ((c.tc : Thread Cert.SampleQkvRefIdeal.nD Cert.SampleQkvRefIdeal.τ).loc Cert.SampleQkvRefIdeal.main_v23) = v1 c
          ∧ r.2.mem ((c.tc : Thread Cert.SampleQkvRefIdeal.nD Cert.SampleQkvRefIdeal.τ).loc Cert.SampleQkvRefIdeal.main_v24) = v2 c
          ∧ r.2.mem ((c.tc : Thread Cert.SampleQkvRefIdeal.nD Cert.SampleQkvRefIdeal.τ).loc Cert.SampleQkvRefIdeal.main_v22) = v3 c
          ∧ r.2.mem ((c.tc : Thread Cert.SampleQkvRefIdeal.nD Cert.SampleQkvRefIdeal.τ).loc Cert.SampleQkvRefIdeal.main_v27) = v4 c
          ∧ r.2.mem ((c.tc : Thread Cert.SampleQkvRefIdeal.nD Cert.SampleQkvRefIdeal.τ).loc Cert.SampleQkvRefIdeal.main_arg0) = m' ((c.tc : Thread Cert.SampleQkvRefIdeal.nD Cert.SampleQkvRefIdeal.τ).loc Cert.SampleQkvRefIdeal.main_arg0)
          ∧ r.2.mem ((c.tc : Thread Cert.SampleQkvRefIdeal.nD Cert.SampleQkvRefIdeal.τ).loc Cert.SampleQkvRefIdeal.main_arg1) = m' ((c.tc : Thread Cert.SampleQkvRefIdeal.nD Cert.SampleQkvRefIdeal.τ).loc Cert.SampleQkvRefIdeal.main_arg1)
          ∧ r.2.mem ((c.tc : Thread Cert.SampleQkvRefIdeal.nD Cert.SampleQkvRefIdeal.τ).loc Cert.SampleQkvRefIdeal.main_arg2) = m' ((c.tc : Thread Cert.SampleQkvRefIdeal.nD Cert.SampleQkvRefIdeal.τ).loc Cert.SampleQkvRefIdeal.main_arg2))

def preserves_SampleNorm_SampleNormIdeal : Prop :=
  True

def algebraic_SampleNormIdeal_SampleNormRefIdeal [hSampleNormIdeal : Cert.SampleNormIdeal.Facts] [hSampleNormRefIdeal : Cert.SampleNormRefIdeal.Facts] : Prop :=
  ∀ (m : (ℓ : Loc Cert.SampleNormIdeal.nD Cert.SampleNormIdeal.τ Cert.SampleNormIdeal.sig) → Buf (Elt Ideal) ℓ) (g : Dev Cert.SampleNormIdeal.nD → PrngReg)
    (m' : (ℓ : Loc Cert.SampleNormRefIdeal.nD Cert.SampleNormRefIdeal.τ Cert.SampleNormRefIdeal.sig) → Buf (Elt Ideal) ℓ) (g' : Dev Cert.SampleNormRefIdeal.nD → PrngReg), Pre_SampleNormIdeal m →
    (∀ c : Dev Cert.SampleNormIdeal.nD,
      m' ((c.tc : Thread Cert.SampleNormRefIdeal.nD Cert.SampleNormRefIdeal.τ).loc Cert.SampleNormRefIdeal.main_arg0) = m ((c.tc : Thread Cert.SampleNormIdeal.nD Cert.SampleNormIdeal.τ).loc Cert.SampleNormIdeal.main_arg0)
      ∧ m' ((c.tc : Thread Cert.SampleNormRefIdeal.nD Cert.SampleNormRefIdeal.τ).loc Cert.SampleNormRefIdeal.main_arg1) = m ((c.tc : Thread Cert.SampleNormIdeal.nD Cert.SampleNormIdeal.τ).loc Cert.SampleNormIdeal.main_arg1)) →
    ∃ (v0 : (c : Dev Cert.SampleNormIdeal.nD) → Buf (Elt Ideal) ((c.tc : Thread Cert.SampleNormIdeal.nD Cert.SampleNormIdeal.τ).loc Cert.SampleNormIdeal.main_v1)),
      θ_run (Cert.SampleNormIdeal.defs (F := Ideal)) (onTc (τ := Cert.SampleNormIdeal.τ) (Cert.SampleNormIdeal.main (F := Ideal))) ⟨m, fun _ => 0, g⟩ (fun r => ∀ c : Dev Cert.SampleNormIdeal.nD,
          r.2.mem ((c.tc : Thread Cert.SampleNormIdeal.nD Cert.SampleNormIdeal.τ).loc Cert.SampleNormIdeal.main_v1) = v0 c
          ∧ r.2.mem ((c.tc : Thread Cert.SampleNormIdeal.nD Cert.SampleNormIdeal.τ).loc Cert.SampleNormIdeal.main_arg0) = m ((c.tc : Thread Cert.SampleNormIdeal.nD Cert.SampleNormIdeal.τ).loc Cert.SampleNormIdeal.main_arg0)
          ∧ r.2.mem ((c.tc : Thread Cert.SampleNormIdeal.nD Cert.SampleNormIdeal.τ).loc Cert.SampleNormIdeal.main_arg1) = m ((c.tc : Thread Cert.SampleNormIdeal.nD Cert.SampleNormIdeal.τ).loc Cert.SampleNormIdeal.main_arg1))
      ∧ θ_run (Cert.SampleNormRefIdeal.defs (F := Ideal)) (onTc (τ := Cert.SampleNormRefIdeal.τ) (Cert.SampleNormRefIdeal.main (F := Ideal))) ⟨m', fun _ => 0, g'⟩ (fun r => ∀ c : Dev Cert.SampleNormRefIdeal.nD,
          r.2.mem ((c.tc : Thread Cert.SampleNormRefIdeal.nD Cert.SampleNormRefIdeal.τ).loc Cert.SampleNormRefIdeal.main_v12) = v0 c
          ∧ r.2.mem ((c.tc : Thread Cert.SampleNormRefIdeal.nD Cert.SampleNormRefIdeal.τ).loc Cert.SampleNormRefIdeal.main_arg0) = m' ((c.tc : Thread Cert.SampleNormRefIdeal.nD Cert.SampleNormRefIdeal.τ).loc Cert.SampleNormRefIdeal.main_arg0)
          ∧ r.2.mem ((c.tc : Thread Cert.SampleNormRefIdeal.nD Cert.SampleNormRefIdeal.τ).loc Cert.SampleNormRefIdeal.main_arg1) = m' ((c.tc : Thread Cert.SampleNormRefIdeal.nD Cert.SampleNormRefIdeal.τ).loc Cert.SampleNormRefIdeal.main_arg1))

def preserves_SampleGates_SampleGatesIdeal : Prop :=
  True

def algebraic_SampleGatesIdeal_SampleGatesRefIdeal [hSampleGatesIdeal : Cert.SampleGatesIdeal.Facts] [hSampleGatesRefIdeal : Cert.SampleGatesRefIdeal.Facts] : Prop :=
  ∀ (m : (ℓ : Loc Cert.SampleGatesIdeal.nD Cert.SampleGatesIdeal.τ Cert.SampleGatesIdeal.sig) → Buf (Elt Ideal) ℓ) (g : Dev Cert.SampleGatesIdeal.nD → PrngReg)
    (m' : (ℓ : Loc Cert.SampleGatesRefIdeal.nD Cert.SampleGatesRefIdeal.τ Cert.SampleGatesRefIdeal.sig) → Buf (Elt Ideal) ℓ) (g' : Dev Cert.SampleGatesRefIdeal.nD → PrngReg), Pre_SampleGatesIdeal m →
    (∀ c : Dev Cert.SampleGatesIdeal.nD,
      m' ((c.tc : Thread Cert.SampleGatesRefIdeal.nD Cert.SampleGatesRefIdeal.τ).loc Cert.SampleGatesRefIdeal.main_arg0) = m ((c.tc : Thread Cert.SampleGatesIdeal.nD Cert.SampleGatesIdeal.τ).loc Cert.SampleGatesIdeal.main_arg0)
      ∧ m' ((c.tc : Thread Cert.SampleGatesRefIdeal.nD Cert.SampleGatesRefIdeal.τ).loc Cert.SampleGatesRefIdeal.main_arg1) = m ((c.tc : Thread Cert.SampleGatesIdeal.nD Cert.SampleGatesIdeal.τ).loc Cert.SampleGatesIdeal.main_arg1)
      ∧ m' ((c.tc : Thread Cert.SampleGatesRefIdeal.nD Cert.SampleGatesRefIdeal.τ).loc Cert.SampleGatesRefIdeal.main_arg2) = m ((c.tc : Thread Cert.SampleGatesIdeal.nD Cert.SampleGatesIdeal.τ).loc Cert.SampleGatesIdeal.main_arg2)
      ∧ m' ((c.tc : Thread Cert.SampleGatesRefIdeal.nD Cert.SampleGatesRefIdeal.τ).loc Cert.SampleGatesRefIdeal.main_arg3) = m ((c.tc : Thread Cert.SampleGatesIdeal.nD Cert.SampleGatesIdeal.τ).loc Cert.SampleGatesIdeal.main_arg3)) →
    ∃ (v0 : (c : Dev Cert.SampleGatesIdeal.nD) → Buf (Elt Ideal) ((c.tc : Thread Cert.SampleGatesIdeal.nD Cert.SampleGatesIdeal.τ).loc Cert.SampleGatesIdeal.main_v7_0)) (v1 : (c : Dev Cert.SampleGatesIdeal.nD) → Buf (Elt Ideal) ((c.tc : Thread Cert.SampleGatesIdeal.nD Cert.SampleGatesIdeal.τ).loc Cert.SampleGatesIdeal.main_v7_1)) (v2 : (c : Dev Cert.SampleGatesIdeal.nD) → Buf (Elt Ideal) ((c.tc : Thread Cert.SampleGatesIdeal.nD Cert.SampleGatesIdeal.τ).loc Cert.SampleGatesIdeal.main_v7_2)) (v3 : (c : Dev Cert.SampleGatesIdeal.nD) → Buf (Elt Ideal) ((c.tc : Thread Cert.SampleGatesIdeal.nD Cert.SampleGatesIdeal.τ).loc Cert.SampleGatesIdeal.main_v7_3)) (v4 : (c : Dev Cert.SampleGatesIdeal.nD) → Buf (Elt Ideal) ((c.tc : Thread Cert.SampleGatesIdeal.nD Cert.SampleGatesIdeal.τ).loc Cert.SampleGatesIdeal.main_v10)),
      θ_run (Cert.SampleGatesIdeal.defs (F := Ideal)) (onTc (τ := Cert.SampleGatesIdeal.τ) (Cert.SampleGatesIdeal.main (F := Ideal))) ⟨m, fun _ => 0, g⟩ (fun r => ∀ c : Dev Cert.SampleGatesIdeal.nD,
          r.2.mem ((c.tc : Thread Cert.SampleGatesIdeal.nD Cert.SampleGatesIdeal.τ).loc Cert.SampleGatesIdeal.main_v7_0) = v0 c
          ∧ r.2.mem ((c.tc : Thread Cert.SampleGatesIdeal.nD Cert.SampleGatesIdeal.τ).loc Cert.SampleGatesIdeal.main_v7_1) = v1 c
          ∧ r.2.mem ((c.tc : Thread Cert.SampleGatesIdeal.nD Cert.SampleGatesIdeal.τ).loc Cert.SampleGatesIdeal.main_v7_2) = v2 c
          ∧ r.2.mem ((c.tc : Thread Cert.SampleGatesIdeal.nD Cert.SampleGatesIdeal.τ).loc Cert.SampleGatesIdeal.main_v7_3) = v3 c
          ∧ r.2.mem ((c.tc : Thread Cert.SampleGatesIdeal.nD Cert.SampleGatesIdeal.τ).loc Cert.SampleGatesIdeal.main_v10) = v4 c
          ∧ r.2.mem ((c.tc : Thread Cert.SampleGatesIdeal.nD Cert.SampleGatesIdeal.τ).loc Cert.SampleGatesIdeal.main_arg0) = m ((c.tc : Thread Cert.SampleGatesIdeal.nD Cert.SampleGatesIdeal.τ).loc Cert.SampleGatesIdeal.main_arg0)
          ∧ r.2.mem ((c.tc : Thread Cert.SampleGatesIdeal.nD Cert.SampleGatesIdeal.τ).loc Cert.SampleGatesIdeal.main_arg1) = m ((c.tc : Thread Cert.SampleGatesIdeal.nD Cert.SampleGatesIdeal.τ).loc Cert.SampleGatesIdeal.main_arg1)
          ∧ r.2.mem ((c.tc : Thread Cert.SampleGatesIdeal.nD Cert.SampleGatesIdeal.τ).loc Cert.SampleGatesIdeal.main_arg2) = m ((c.tc : Thread Cert.SampleGatesIdeal.nD Cert.SampleGatesIdeal.τ).loc Cert.SampleGatesIdeal.main_arg2)
          ∧ r.2.mem ((c.tc : Thread Cert.SampleGatesIdeal.nD Cert.SampleGatesIdeal.τ).loc Cert.SampleGatesIdeal.main_arg3) = m ((c.tc : Thread Cert.SampleGatesIdeal.nD Cert.SampleGatesIdeal.τ).loc Cert.SampleGatesIdeal.main_arg3))
      ∧ θ_run (Cert.SampleGatesRefIdeal.defs (F := Ideal)) (onTc (τ := Cert.SampleGatesRefIdeal.τ) (Cert.SampleGatesRefIdeal.main (F := Ideal))) ⟨m', fun _ => 0, g'⟩ (fun r => ∀ c : Dev Cert.SampleGatesRefIdeal.nD,
          r.2.mem ((c.tc : Thread Cert.SampleGatesRefIdeal.nD Cert.SampleGatesRefIdeal.τ).loc Cert.SampleGatesRefIdeal.main_v19) = v0 c
          ∧ r.2.mem ((c.tc : Thread Cert.SampleGatesRefIdeal.nD Cert.SampleGatesRefIdeal.τ).loc Cert.SampleGatesRefIdeal.main_v23) = v1 c
          ∧ r.2.mem ((c.tc : Thread Cert.SampleGatesRefIdeal.nD Cert.SampleGatesRefIdeal.τ).loc Cert.SampleGatesRefIdeal.main_v21) = v2 c
          ∧ r.2.mem ((c.tc : Thread Cert.SampleGatesRefIdeal.nD Cert.SampleGatesRefIdeal.τ).loc Cert.SampleGatesRefIdeal.main_v29) = v3 c
          ∧ r.2.mem ((c.tc : Thread Cert.SampleGatesRefIdeal.nD Cert.SampleGatesRefIdeal.τ).loc Cert.SampleGatesRefIdeal.main_v32) = v4 c
          ∧ r.2.mem ((c.tc : Thread Cert.SampleGatesRefIdeal.nD Cert.SampleGatesRefIdeal.τ).loc Cert.SampleGatesRefIdeal.main_arg0) = m' ((c.tc : Thread Cert.SampleGatesRefIdeal.nD Cert.SampleGatesRefIdeal.τ).loc Cert.SampleGatesRefIdeal.main_arg0)
          ∧ r.2.mem ((c.tc : Thread Cert.SampleGatesRefIdeal.nD Cert.SampleGatesRefIdeal.τ).loc Cert.SampleGatesRefIdeal.main_arg1) = m' ((c.tc : Thread Cert.SampleGatesRefIdeal.nD Cert.SampleGatesRefIdeal.τ).loc Cert.SampleGatesRefIdeal.main_arg1)
          ∧ r.2.mem ((c.tc : Thread Cert.SampleGatesRefIdeal.nD Cert.SampleGatesRefIdeal.τ).loc Cert.SampleGatesRefIdeal.main_arg2) = m' ((c.tc : Thread Cert.SampleGatesRefIdeal.nD Cert.SampleGatesRefIdeal.τ).loc Cert.SampleGatesRefIdeal.main_arg2)
          ∧ r.2.mem ((c.tc : Thread Cert.SampleGatesRefIdeal.nD Cert.SampleGatesRefIdeal.τ).loc Cert.SampleGatesRefIdeal.main_arg3) = m' ((c.tc : Thread Cert.SampleGatesRefIdeal.nD Cert.SampleGatesRefIdeal.τ).loc Cert.SampleGatesRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hGates : Cert.Gates.Facts) (hGatesIdeal : Cert.GatesIdeal.Facts) (hGatesRefIdeal : Cert.GatesRefIdeal.Facts) (hQkv : Cert.Qkv.Facts) (hQkvIdeal : Cert.QkvIdeal.Facts) (hQkvRefIdeal : Cert.QkvRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hSampleQkv : Cert.SampleQkv.Facts) (hSampleQkvIdeal : Cert.SampleQkvIdeal.Facts) (hSampleQkvRefIdeal : Cert.SampleQkvRefIdeal.Facts) (hSampleNorm : Cert.SampleNorm.Facts) (hSampleNormIdeal : Cert.SampleNormIdeal.Facts) (hSampleNormRefIdeal : Cert.SampleNormRefIdeal.Facts) (hSampleGates : Cert.SampleGates.Facts) (hSampleGatesIdeal : Cert.SampleGatesIdeal.Facts) (hSampleGatesRefIdeal : Cert.SampleGatesRefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Gates (hGates := hGates)
    ∧ quiescent_GatesIdeal (hGatesIdeal := hGatesIdeal)
    ∧ quiescent_GatesRefIdeal (hGatesRefIdeal := hGatesRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_SampleQkv (hSampleQkv := hSampleQkv)
    ∧ quiescent_SampleQkvIdeal (hSampleQkvIdeal := hSampleQkvIdeal)
    ∧ quiescent_SampleQkvRefIdeal (hSampleQkvRefIdeal := hSampleQkvRefIdeal)
    ∧ quiescent_SampleNorm (hSampleNorm := hSampleNorm)
    ∧ quiescent_SampleNormIdeal (hSampleNormIdeal := hSampleNormIdeal)
    ∧ quiescent_SampleNormRefIdeal (hSampleNormRefIdeal := hSampleNormRefIdeal)
    ∧ quiescent_SampleGates (hSampleGates := hSampleGates)
    ∧ quiescent_SampleGatesIdeal (hSampleGatesIdeal := hSampleGatesIdeal)
    ∧ quiescent_SampleGatesRefIdeal (hSampleGatesRefIdeal := hSampleGatesRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Gates_GatesIdeal
    ∧ algebraic_GatesIdeal_GatesRefIdeal (hGatesIdeal := hGatesIdeal) (hGatesRefIdeal := hGatesRefIdeal)
    ∧ preserves_Qkv_QkvIdeal
    ∧ algebraic_QkvIdeal_QkvRefIdeal (hQkvIdeal := hQkvIdeal) (hQkvRefIdeal := hQkvRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_SampleQkv_SampleQkvIdeal
    ∧ algebraic_SampleQkvIdeal_SampleQkvRefIdeal (hSampleQkvIdeal := hSampleQkvIdeal) (hSampleQkvRefIdeal := hSampleQkvRefIdeal)
    ∧ preserves_SampleNorm_SampleNormIdeal
    ∧ algebraic_SampleNormIdeal_SampleNormRefIdeal (hSampleNormIdeal := hSampleNormIdeal) (hSampleNormRefIdeal := hSampleNormRefIdeal)
    ∧ preserves_SampleGates_SampleGatesIdeal
    ∧ algebraic_SampleGatesIdeal_SampleGatesRefIdeal (hSampleGatesIdeal := hSampleGatesIdeal) (hSampleGatesRefIdeal := hSampleGatesRefIdeal)
-- ==== Kernel.lean ====
abbrev S16384x512 : Shape := ⟨2, ![16384, 512]⟩
abbrev S4x4x512x4096 : Shape := ⟨4, ![4, 4, 512, 4096]⟩
abbrev S8 : Shape := ⟨1, ![8]⟩
abbrev S512x128 : Shape := ⟨2, ![512, 128]⟩
abbrev S1x1x128x4096 : Shape := ⟨4, ![1, 1, 128, 4096]⟩
abbrev S128x4096 : Shape := ⟨2, ![128, 4096]⟩
abbrev S256x128 : Shape := ⟨2, ![256, 128]⟩
abbrev S256x256 : Shape := ⟨2, ![256, 256]⟩
abbrev S1 : Shape := ⟨1, ![1]⟩
abbrev S256x1 : Shape := ⟨2, ![256, 1]⟩
abbrev S128x256 : Shape := ⟨2, ![128, 256]⟩

abbrev nBuf : Space → Nat
  | .hbm => 5
  | .vmem => 10
  | .smem => 1
  | _ => 0

abbrev bufTy : (tb : Table) → Fin (tcTables nBuf tb) → BufTy
  | .hbm, ⟨0, _⟩ => ⟨S16384x512, .f32⟩
  | .hbm, ⟨1, _⟩ => ⟨S4x4x512x4096, .f32⟩
  | .hbm, ⟨2, _⟩ => ⟨S4x4x512x4096, .f32⟩
  | .hbm, ⟨3, _⟩ => ⟨S8, .f32⟩
  | .hbm, ⟨4, _⟩ => ⟨S16384x512, .f32⟩
  | .local _ .vmem, ⟨0, _⟩ => ⟨S512x128, .f32⟩
  | .local _ .vmem, ⟨1, _⟩ => ⟨S512x128, .f32⟩
  | .local _ .vmem, ⟨2, _⟩ => ⟨S1x1x128x4096, .f32⟩
  | .local _ .vmem, ⟨3, _⟩ => ⟨S1x1x128x4096, .f32⟩
  | .local _ .vmem, ⟨4, _⟩ => ⟨S1x1x128x4096, .f32⟩
  | .local _ .vmem, ⟨5, _⟩ => ⟨S1x1x128x4096, .f32⟩
  | .local _ .vmem, ⟨6, _⟩ => ⟨S512x128, .f32⟩
  | .local _ .vmem, ⟨7, _⟩ => ⟨S512x128, .f32⟩
  | .local _ .vmem, ⟨8, _⟩ => ⟨S128x4096, .bf16⟩
  | .local _ .vmem, ⟨9, _⟩ => ⟨S128x4096, .bf16⟩
  | .local _ .smem, ⟨0, _⟩ => ⟨S8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 8], ![false, false, false]⟩

def k0_off1 (i : grid0.Coords) (c0_i32_2 : BitVec 32) : Fin 1 → Nat :=
  let c2_i32 : BitVec 32 := 2#32
  let arg1 : BitVec 32 := BitVec.ofNat 32 (i 1).val
  let v14 : BitVec 32 := Scalar.muli c2_i32 arg1
  let v15 : BitVec 32 := Scalar.addi v14 c0_i32_2
  let v16 : Index := Scalar.indexCast v15
  ![v16.toNat]
def k0_mult1 (i : grid0.Coords) : BitVec 32 :=
  let c2_i32_53 : BitVec 32 := 2#32
  let arg2 : BitVec 32 := BitVec.ofNat 32 (i 2).val
  let v154 : BitVec 32 := Scalar.muli c2_i32_53 arg2
  let c1_i32_54 : BitVec 32 := 1#32
  let v155 : BitVec 32 := Scalar.addi v154 c1_i32_54
  let c256_i32 : BitVec 32 := 256#32
  let v156 : BitVec 32 := Scalar.muli v155 c256_i32
  v156
def k0_off2 (i : grid0.Coords) : Fin 2 → Nat :=
  let c0_55 : Index := 0#32
  let c2_i32_53 : BitVec 32 := 2#32
  let arg2 : BitVec 32 := BitVec.ofNat 32 (i 2).val
  let v154 : BitVec 32 := Scalar.muli c2_i32_53 arg2
  let c1_i32_54 : BitVec 32 := 1#32
  let v155 : BitVec 32 := Scalar.addi v154 c1_i32_54
  let c256_i32 : BitVec 32 := 256#32
  let v156 : BitVec 32 := Scalar.muli v155 c256_i32
  let v157 : BitVec 32 := v156
  let v158 : Index := Scalar.indexCast v157
  ![0, v158.toNat]
def k0_mult2 (i : grid0.Coords) : BitVec 32 :=
  let c2_i32_53 : BitVec 32 := 2#32
  let arg2 : BitVec 32 := BitVec.ofNat 32 (i 2).val
  let v154 : BitVec 32 := Scalar.muli c2_i32_53 arg2
  let c256_i32_57 : BitVec 32 := 256#32
  let v162 : BitVec 32 := Scalar.muli v154 c256_i32_57
  v162
def k0_off3 (i : grid0.Coords) : Fin 2 → Nat :=
  let c0_58 : Index := 0#32
  let c2_i32_53 : BitVec 32 := 2#32
  let arg2 : BitVec 32 := BitVec.ofNat 32 (i 2).val
  let v154 : BitVec 32 := Scalar.muli c2_i32_53 arg2
  let c256_i32_57 : BitVec 32 := 256#32
  let v162 : BitVec 32 := Scalar.muli v154 c256_i32_57
  let v163 : BitVec 32 := v162
  let v164 : Index := Scalar.indexCast v163
  ![0, v164.toNat]
@[reducible] def k0_t1_loop (i : grid0.Coords) : Scf.Loop 32 :=
  let c0_i32_110 : BitVec 32 := 0#32
  let arg2 : BitVec 32 := BitVec.ofNat 32 (i 2).val
  let v340 : BitVec 32 := Scalar.subi arg2 c0_i32_110
  let c1_i32_111 : BitVec 32 := 1#32
  let v342 : BitVec 32 := Scalar.divsi v340 c1_i32_111
  let v343 : BitVec 32 := Scalar.muli v342 c1_i32_111
  let v344 : BitVec 32 := Scalar.addi c0_i32_110 v343
  let c1_i32_112 : BitVec 32 := 1#32
  ⟨c0_i32_110, v344, c1_i32_112⟩
def k0_mult3 (i : grid0.Coords) (k0_t1 : Fin (k0_t1_loop i).trips) : BitVec 32 :=
  let c2_i32_53 : BitVec 32 := 2#32
  let arg2 : BitVec 32 := BitVec.ofNat 32 (i 2).val
  let v154 : BitVec 32 := Scalar.muli c2_i32_53 arg2
  let c1_i32_120 : BitVec 32 := 1#32
  let v355 : BitVec 32 := Scalar.subi v154 c1_i32_120
  let c2_i32_121 : BitVec 32 := 2#32
  let c0_i32_110 : BitVec 32 := 0#32
  let c1_i32_112 : BitVec 32 := 1#32
  let arg10 : BitVec 32 := Scf.iv c0_i32_110 c1_i32_112 k0_t1
  let v356 : BitVec 32 := Scalar.muli c2_i32_121 arg10
  let v357 : BitVec 32 := Scalar.subi v355 v356
  let c256_i32_123 : BitVec 32 := 256#32
  let v359 : BitVec 32 := Scalar.muli v357 c256_i32_123
  v359
def k0_off4 (i : grid0.Coords) (k0_t1 : Fin (k0_t1_loop i).trips) : Fin 2 → Nat :=
  let c0_124 : Index := 0#32
  let c2_i32_53 : BitVec 32 := 2#32
  let arg2 : BitVec 32 := BitVec.ofNat 32 (i 2).val
  let v154 : BitVec 32 := Scalar.muli c2_i32_53 arg2
  let c1_i32_120 : BitVec 32 := 1#32
  let v355 : BitVec 32 := Scalar.subi v154 c1_i32_120
  let c2_i32_121 : BitVec 32 := 2#32
  let c0_i32_110 : BitVec 32 := 0#32
  let c1_i32_112 : BitVec 32 := 1#32
  let arg10 : BitVec 32 := Scf.iv c0_i32_110 c1_i32_112 k0_t1
  let v356 : BitVec 32 := Scalar.muli c2_i32_121 arg10
  let v357 : BitVec 32 := Scalar.subi v355 v356
  let c256_i32_123 : BitVec 32 := 256#32
  let v359 : BitVec 32 := Scalar.muli v357 c256_i32_123
  let v360 : BitVec 32 := v359
  let v361 : Index := Scalar.indexCast v360
  ![0, v361.toNat]
def k0_mult4 (i : grid0.Coords) (k0_t1 : Fin (k0_t1_loop i).trips) : BitVec 32 :=
  let c2_i32_53 : BitVec 32 := 2#32
  let arg2 : BitVec 32 := BitVec.ofNat 32 (i 2).val
  let v154 : BitVec 32 := Scalar.muli c2_i32_53 arg2
  let c1_i32_120 : BitVec 32 := 1#32
  let v355 : BitVec 32 := Scalar.subi v154 c1_i32_120
  let c2_i32_121 : BitVec 32 := 2#32
  let c0_i32_110 : BitVec 32 := 0#32
  let c1_i32_112 : BitVec 32 := 1#32
  let arg10 : BitVec 32 := Scf.iv c0_i32_110 c1_i32_112 k0_t1
  let v356 : BitVec 32 := Scalar.muli c2_i32_121 arg10
  let v357 : BitVec 32 := Scalar.subi v355 v356
  let c1_i32_122 : BitVec 32 := 1#32
  let v358 : BitVec 32 := Scalar.subi v357 c1_i32_122
  let c256_i32_126 : BitVec 32 := 256#32
  let v365 : BitVec 32 := Scalar.muli v358 c256_i32_126
  v365
def k0_off5 (i : grid0.Coords) (k0_t1 : Fin (k0_t1_loop i).trips) : Fin 2 → Nat :=
  let c0_127 : Index := 0#32
  let c2_i32_53 : BitVec 32 := 2#32
  let arg2 : BitVec 32 := BitVec.ofNat 32 (i 2).val
  let v154 : BitVec 32 := Scalar.muli c2_i32_53 arg2
  let c1_i32_120 : BitVec 32 := 1#32
  let v355 : BitVec 32 := Scalar.subi v154 c1_i32_120
  let c2_i32_121 : BitVec 32 := 2#32
  let c0_i32_110 : BitVec 32 := 0#32
  let c1_i32_112 : BitVec 32 := 1#32
  let arg10 : BitVec 32 := Scf.iv c0_i32_110 c1_i32_112 k0_t1
  let v356 : BitVec 32 := Scalar.muli c2_i32_121 arg10
  let v357 : BitVec 32 := Scalar.subi v355 v356
  let c1_i32_122 : BitVec 32 := 1#32
  let v358 : BitVec 32 := Scalar.subi v357 c1_i32_122
  let c256_i32_126 : BitVec 32 := 256#32
  let v365 : BitVec 32 := Scalar.muli v358 c256_i32_126
  let v366 : BitVec 32 := v365
  let v367 : Index := Scalar.indexCast v366
  ![0, v367.toNat]
@[reducible] def k0_t2_loop (i : grid0.Coords) : Scf.Loop 32 :=
  let c0_i32_110 : BitVec 32 := 0#32
  let arg2 : BitVec 32 := BitVec.ofNat 32 (i 2).val
  let v340 : BitVec 32 := Scalar.subi arg2 c0_i32_110
  let c1_i32_111 : BitVec 32 := 1#32
  let v342 : BitVec 32 := Scalar.divsi v340 c1_i32_111
  let v343 : BitVec 32 := Scalar.muli v342 c1_i32_111
  let v344 : BitVec 32 := Scalar.addi c0_i32_110 v343
  let v341 : BitVec 32 := Scalar.addi c0_i32_110 v340
  let c1_i32_113 : BitVec 32 := 1#32
  ⟨v344, v341, c1_i32_113⟩
def k0_mult5 (i : grid0.Coords) (k0_t2 : Fin (k0_t2_loop i).trips) : BitVec 32 :=
  let c2_i32_53 : BitVec 32 := 2#32
  let arg2 : BitVec 32 := BitVec.ofNat 32 (i 2).val
  let v154 : BitVec 32 := Scalar.muli c2_i32_53 arg2
  let c1_i32_120 : BitVec 32 := 1#32
  let v355 : BitVec 32 := Scalar.subi v154 c1_i32_120
  let c2_i32_121 : BitVec 32 := 2#32
  let c0_i32_110 : BitVec 32 := 0#32
  let v340 : BitVec 32 := Scalar.subi arg2 c0_i32_110
  let c1_i32_111 : BitVec 32 := 1#32
  let v342 : BitVec 32 := Scalar.divsi v340 c1_i32_111
  let v343 : BitVec 32 := Scalar.muli v342 c1_i32_111
  let v344 : BitVec 32 := Scalar.addi c0_i32_110 v343
  let c1_i32_113 : BitVec 32 := 1#32
  let arg10 : BitVec 32 := Scf.iv v344 c1_i32_113 k0_t2
  let v356 : BitVec 32 := Scalar.muli c2_i32_121 arg10
  let v357 : BitVec 32 := Scalar.subi v355 v356
  let c256_i32_123 : BitVec 32 := 256#32
  let v359 : BitVec 32 := Scalar.muli v357 c256_i32_123
  v359
def k0_off6 (i : grid0.Coords) (k0_t2 : Fin (k0_t2_loop i).trips) : Fin 2 → Nat :=
  let c0_124 : Index := 0#32
  let c2_i32_53 : BitVec 32 := 2#32
  let arg2 : BitVec 32 := BitVec.ofNat 32 (i 2).val
  let v154 : BitVec 32 := Scalar.muli c2_i32_53 arg2
  let c1_i32_120 : BitVec 32 := 1#32
  let v355 : BitVec 32 := Scalar.subi v154 c1_i32_120
  let c2_i32_121 : BitVec 32 := 2#32
  let c0_i32_110 : BitVec 32 := 0#32
  let v340 : BitVec 32 := Scalar.subi arg2 c0_i32_110
  let c1_i32_111 : BitVec 32 := 1#32
  let v342 : BitVec 32 := Scalar.divsi v340 c1_i32_111
  let v343 : BitVec 32 := Scalar.muli v342 c1_i32_111
  let v344 : BitVec 32 := Scalar.addi c0_i32_110 v343
  let c1_i32_113 : BitVec 32 := 1#32
  let arg10 : BitVec 32 := Scf.iv v344 c1_i32_113 k0_t2
  let v356 : BitVec 32 := Scalar.muli c2_i32_121 arg10
  let v357 : BitVec 32 := Scalar.subi v355 v356
  let c256_i32_123 : BitVec 32 := 256#32
  let v359 : BitVec 32 := Scalar.muli v357 c256_i32_123
  let v360 : BitVec 32 := v359
  let v361 : Index := Scalar.indexCast v360
  ![0, v361.toNat]
def k0_mult6 (i : grid0.Coords) (k0_t2 : Fin (k0_t2_loop i).trips) : BitVec 32 :=
  let c2_i32_53 : BitVec 32 := 2#32
  let arg2 : BitVec 32 := BitVec.ofNat 32 (i 2).val
  let v154 : BitVec 32 := Scalar.muli c2_i32_53 arg2
  let c1_i32_120 : BitVec 32 := 1#32
  let v355 : BitVec 32 := Scalar.subi v154 c1_i32_120
  let c2_i32_121 : BitVec 32 := 2#32
  let c0_i32_110 : BitVec 32 := 0#32
  let v340 : BitVec 32 := Scalar.subi arg2 c0_i32_110
  let c1_i32_111 : BitVec 32 := 1#32
  let v342 : BitVec 32 := Scalar.divsi v340 c1_i32_111
  let v343 : BitVec 32 := Scalar.muli v342 c1_i32_111
  let v344 : BitVec 32 := Scalar.addi c0_i32_110 v343
  let c1_i32_113 : BitVec 32 := 1#32
  let arg10 : BitVec 32 := Scf.iv v344 c1_i32_113 k0_t2
  let v356 : BitVec 32 := Scalar.muli c2_i32_121 arg10
  let v357 : BitVec 32 := Scalar.subi v355 v356
  let c1_i32_122 : BitVec 32 := 1#32
  let v358 : BitVec 32 := Scalar.subi v357 c1_i32_122
  let c256_i32_126 : BitVec 32 := 256#32
  let v365 : BitVec 32 := Scalar.muli v358 c256_i32_126
  v365
def k0_off7 (i : grid0.Coords) (k0_t2 : Fin (k0_t2_loop i).trips) : Fin 2 → Nat :=
  let c0_127 : Index := 0#32
  let c2_i32_53 : BitVec 32 := 2#32
  let arg2 : BitVec 32 := BitVec.ofNat 32 (i 2).val
  let v154 : BitVec 32 := Scalar.muli c2_i32_53 arg2
  let c1_i32_120 : BitVec 32 := 1#32
  let v355 : BitVec 32 := Scalar.subi v154 c1_i32_120
  let c2_i32_121 : BitVec 32 := 2#32
  let c0_i32_110 : BitVec 32 := 0#32
  let v340 : BitVec 32 := Scalar.subi arg2 c0_i32_110
  let c1_i32_111 : BitVec 32 := 1#32
  let v342 : BitVec 32 := Scalar.divsi v340 c1_i32_111
  let v343 : BitVec 32 := Scalar.muli v342 c1_i32_111
  let v344 : BitVec 32 := Scalar.addi c0_i32_110 v343
  let c1_i32_113 : BitVec 32 := 1#32
  let arg10 : BitVec 32 := Scf.iv v344 c1_i32_113 k0_t2
  let v356 : BitVec 32 := Scalar.muli c2_i32_121 arg10
  let v357 : BitVec 32 := Scalar.subi v355 v356
  let c1_i32_122 : BitVec 32 := 1#32
  let v358 : BitVec 32 := Scalar.subi v357 c1_i32_122
  let c256_i32_126 : BitVec 32 := 256#32
  let v365 : BitVec 32 := Scalar.muli v358 c256_i32_126
  let v366 : BitVec 32 := v365
  let v367 : Index := Scalar.indexCast v366
  ![0, v367.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale" => some (((1 / 8) * (Real.log 2)⁻¹ : ℝ) : EReal)
  | _ => none
-- ==== ReferenceIdeal.lean ====
abbrev S16384x512 : Shape := ⟨2, ![16384, 512]⟩
abbrev S4x4x512x4096 : Shape := ⟨4, ![4, 4, 512, 4096]⟩
abbrev S8 : Shape := ⟨1, ![8]⟩
abbrev S4x4096x8x64 : Shape := ⟨4, ![4, 4096, 8, 64]⟩
abbrev S4x1x512x4096 : Shape := ⟨4, ![4, 1, 512, 4096]⟩
abbrev S4x512x4096 : Shape := ⟨3, ![4, 512, 4096]⟩
abbrev S4x8x64x4096 : Shape := ⟨4, ![4, 8, 64, 4096]⟩
abbrev S4x8x4096x4096 : Shape := ⟨4, ![4, 8, 4096, 4096]⟩
abbrev S_ : Shape := ⟨0, ![]⟩
abbrev S1x8x1x1 : Shape := ⟨4, ![1, 8, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 79
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4x4x512x4096, .f32⟩
  | .hbm, ⟨2, _⟩ => ⟨S4x4x512x4096, .f32⟩
  | .hbm, ⟨3, _⟩ => ⟨S8, .f32⟩
  | .hbm, ⟨4, _⟩ => ⟨S4x4096x8x64, .f32⟩
  | .hbm, ⟨5, _⟩ => ⟨S4x1x512x4096, .f32⟩
  | .hbm, ⟨6, _⟩ => ⟨S4x512x4096, .f32⟩
  | .hbm, ⟨7, _⟩ => ⟨S4x8x64x4096, .f32⟩
  | .hbm, ⟨8, _⟩ => ⟨S4x4096x8x64, .f32⟩
  | .hbm, ⟨9, _⟩ => ⟨S4x1x512x4096, .f32⟩
  | .hbm, ⟨10, _⟩ => ⟨S4x512x4096, .f32⟩
  | .hbm, ⟨11, _⟩ => ⟨S4x8x64x4096, .f32⟩
  | .hbm, ⟨12, _⟩ => ⟨S4x4096x8x64, .f32⟩
  | .hbm, ⟨13, _⟩ => ⟨S4x8x4096x4096, .f32⟩
  | .hbm, ⟨14, _⟩ => ⟨S_, .f32⟩
  | .hbm, ⟨15, _⟩ => ⟨S4x8x4096x4096, .f32⟩
  | .hbm, ⟨16, _⟩ => ⟨S4x8x4096x4096, .f32⟩
  | .hbm, ⟨17, _⟩ => ⟨S1x8x1x1, .f32⟩
  | .hbm, ⟨18, _⟩ => ⟨S4x8x4096x4096, .f32⟩
  | .hbm, ⟨19, _⟩ => ⟨S4x8x4096x4096, .f32⟩
  | .hbm, ⟨20, _⟩ => ⟨S4096, .i32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S4x8x4096x4096, .f32⟩
  | .hbm, ⟨28, _⟩ => ⟨S4x8x4096x4096, .f32⟩
  | .hbm, ⟨29, _⟩ => ⟨S_, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S4x8x4096x4096, .i1⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S_, .f32⟩
  | .hbm, ⟨45, _⟩ => ⟨S_, .f32⟩
  | .hbm, ⟨46, _⟩ => ⟨S4x8x4096x4096, .i1⟩
  | .hbm, ⟨47, _⟩ => ⟨S4x8x4096x4096, .f32⟩
  | .hbm, ⟨48, _⟩ => ⟨S4x8x4096x4096, .f32⟩
  | .hbm, ⟨49, _⟩ => ⟨S_, .f32⟩
  | .hbm, ⟨50, _⟩ => ⟨S_, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S_, .f32⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .i1⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S4x8x4096x4096, .f32⟩
  | .hbm, ⟨65, _⟩ => ⟨S4x8x4096x4096, .f32⟩
  | .hbm, ⟨66, _⟩ => ⟨S4x8x4096x4096, .f32⟩
  | .hbm, ⟨67, _⟩ => ⟨S4x8x4096x4096, .f32⟩
  | .hbm, ⟨68, _⟩ => ⟨S4x8x4096x4096, .f32⟩
  | .hbm, ⟨69, _⟩ => ⟨S4x8x4096x4096, .f32⟩
  | .hbm, ⟨70, _⟩ => ⟨S4x8x4096x4096, .f32⟩
  | .hbm, ⟨71, _⟩ => ⟨S_, .f32⟩
  | .hbm, ⟨72, _⟩ => ⟨S_, .f32⟩
  | .hbm, ⟨73, _⟩ => ⟨S4x8x4096x4096, .i1⟩
  | .hbm, ⟨74, _⟩ => ⟨S4x8x4096x4096, .f32⟩
  | .hbm, ⟨75, _⟩ => ⟨S4x8x4096x4096, .f32⟩
  | .hbm, ⟨76, _⟩ => ⟨S4x8x64x4096, .f32⟩
  | .hbm, ⟨77, _⟩ => ⟨S4x4096x8x64, .f32⟩
  | .hbm, ⟨78, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v23 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_call2_cst : Ref sig .tc := ⟨.hbm, 49, rfl⟩
abbrev main_call2_v0 : Ref sig .tc := ⟨.hbm, 50, rfl⟩
abbrev main_v25 : Ref sig .tc := ⟨.hbm, 51, rfl⟩
abbrev main_v26 : Ref sig .tc := ⟨.hbm, 52, rfl⟩
abbrev main_call3_v0 : Ref sig .tc := ⟨.hbm, 53, rfl⟩
abbrev main_call3_call0_cst : Ref sig .tc := ⟨.hbm, 54, rfl⟩
abbrev main_call3_call0_v0 : Ref sig .tc := ⟨.hbm, 55, rfl⟩
abbrev main_call3_call0_v1 : Ref sig .tc := ⟨.hbm, 56, rfl⟩
abbrev main_call3_call0_v2 : Ref sig .tc := ⟨.hbm, 57, rfl⟩
abbrev main_call3_call0_v3 : Ref sig .tc := ⟨.hbm, 58, rfl⟩
abbrev main_call3_call0_v4 : Ref sig .tc := ⟨.hbm, 59, rfl⟩
abbrev main_call3_call0_v5 : Ref sig .tc := ⟨.hbm, 60, rfl⟩
abbrev main_call3_call0_v6 : Ref sig .tc := ⟨.hbm, 61, rfl⟩
abbrev main_call3_call0_v7 : Ref sig .tc := ⟨.hbm, 62, rfl⟩
abbrev main_call3_call0_v8 : Ref sig .tc := ⟨.hbm, 63, rfl⟩
abbrev main_call3_call0_v9 : Ref sig .tc := ⟨.hbm, 64, rfl⟩
abbrev main_call3_call0_v10 : Ref sig .tc := ⟨.hbm, 65, rfl⟩
abbrev main_call3_call0_v11 : Ref sig .tc := ⟨.hbm, 66, rfl⟩
abbrev main_call3_v1 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_1 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩

abbrev nD : Nat := 1
abbrev τ : Topo := Topo.v7x

variable {F : FTy → Type} [FloatOps F]
-- ==== Ffn.lean ====
abbrev S16384x1024 : Shape := ⟨2, ![16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1x1024, .f32⟩
  | .hbm, ⟨6, _⟩ => ⟨S4x1024x2816, .bf16⟩
  | .hbm, ⟨7, _⟩ => ⟨S4x1024x2816, .bf16⟩
  | .hbm, ⟨8, _⟩ => ⟨S4x2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x2816, .f32⟩
  | .hbm, ⟨24, _⟩ => ⟨S1024x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S1x1024x2816, .f32⟩
  | .hbm, ⟨36, _⟩ => ⟨S1024x2816, .f32⟩
  | .hbm, ⟨37, _⟩ => ⟨S16384x2816, .f32⟩
  | .hbm, ⟨38, _⟩ => ⟨S16384x2816, .f32⟩
  | .hbm, ⟨39, _⟩ => ⟨S1x2816x1024, .f32⟩
  | .hbm, ⟨40, _⟩ => ⟨S2816x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Gates.lean ====
abbrev S16384x1024 : Shape := ⟨2, ![16384, 1024]⟩
abbrev S4x1024 : Shape := ⟨2, ![4, 1024]⟩
abbrev S4x1024x8456 : Shape := ⟨3, ![4, 1024, 8456]⟩
abbrev S4x1024x1536 : Shape := ⟨3, ![4, 1024, 1536]⟩
abbrev S4x1024x8 : Shape := ⟨3, ![4, 1024, 8]⟩
abbrev S_ : Shape := ⟨0, ![]⟩
abbrev S4x1024x128 : Shape := ⟨3, ![4, 1024, 128]⟩
abbrev S4x1024x3584 : Shape := ⟨3, ![4, 1024, 3584]⟩
abbrev S4x1024x5248 : Shape := ⟨3, ![4, 1024, 5248]⟩
abbrev S4x1x1024 : Shape := ⟨3, ![4, 1, 1024]⟩
abbrev S16384x1536 : Shape := ⟨2, ![16384, 1536]⟩
abbrev S16384x128 : Shape := ⟨2, ![16384, 128]⟩
abbrev S16384x512 : Shape := ⟨2, ![16384, 512]⟩
abbrev S16384x3072 : Shape := ⟨2, ![16384, 3072]⟩
abbrev S512x1024 : Shape := ⟨2, ![512, 1024]⟩
abbrev S1x1x1024 : Shape := ⟨3, ![1, 1, 1024]⟩
abbrev S1x1024x5248 : Shape := ⟨3, ![1, 1024, 5248]⟩
abbrev S512x1536 : Shape := ⟨2, ![512, 1536]⟩
abbrev S512x128 : Shape := ⟨2, ![512, 128]⟩
abbrev S512x512 : Shape := ⟨2, ![512, 512]⟩
abbrev S512x3072 : Shape := ⟨2, ![512, 3072]⟩
abbrev S1x1024 : Shape := ⟨2, ![1, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S1x1024x128 : Shape := ⟨3, ![1, 1024, 128]⟩
abbrev S1024x128 : Shape := ⟨2, ![1024, 128]⟩
abbrev S1x1024x512 : Shape := ⟨3, ![1, 1024, 512]⟩
abbrev S1024x512 : Shape := ⟨2, ![1024, 512]⟩
abbrev S1x1024x3072 : Shape := ⟨3, ![1, 1024, 3072]⟩
abbrev S1024x3072 : Shape := ⟨2, ![1024, 3072]⟩
abbrev S4x4096x1536 : Shape := ⟨3, ![4, 4096, 1536]⟩
abbrev S4x3x1536 : Shape := ⟨3, ![4, 3, 1536]⟩

abbrev nBuf : Space → Nat
  | .hbm => 18
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x8456, .f32⟩
  | .hbm, ⟨3, _⟩ => ⟨S4x1024x1536, .f32⟩
  | .hbm, ⟨4, _⟩ => ⟨S4x1024x8, .f32⟩
  | .hbm, ⟨5, _⟩ => ⟨S_, .i32⟩
  | .hbm, ⟨6, _⟩ => ⟨S_, .f32⟩
  | .hbm, ⟨7, _⟩ => ⟨S4x1024x128, .f32⟩
  | .hbm, ⟨8, _⟩ => ⟨S4x1024x3584, .f32⟩
  | .hbm, ⟨9, _⟩ => ⟨S4x1024x5248, .f32⟩
  | .hbm, ⟨10, _⟩ => ⟨S4x1024x5248, .bf16⟩
  | .hbm, ⟨11, _⟩ => ⟨S4x1x1024, .f32⟩
  | .hbm, ⟨12, _⟩ => ⟨S16384x1536, .f32⟩
  | .hbm, ⟨13, _⟩ => ⟨S16384x128, .f32⟩
  | .hbm, ⟨14, _⟩ => ⟨S16384x512, .f32⟩
  | .hbm, ⟨15, _⟩ => ⟨S16384x3072, .f32⟩
  | .hbm, ⟨16, _⟩ => ⟨S4x4096x1536, .f32⟩
  | .hbm, ⟨17, _⟩ => ⟨S4x3x1536, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x5248, .bf16⟩
  | .local _ .vmem, ⟨4, _⟩ => ⟨S512x1536, .f32⟩
  | .local _ .vmem, ⟨5, _⟩ => ⟨S512x1536, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x3072, .f32⟩
  | .local _ .vmem, ⟨11, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatesRefIdeal.lean ====
abbrev S16384x1024 : Shape := ⟨2, ![16384, 1024]⟩
abbrev S4x1024 : Shape := ⟨2, ![4, 1024]⟩
abbrev S4x1024x8456 : Shape := ⟨3, ![4, 1024, 8456]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x8456 : Shape := ⟨3, ![1, 1024, 8456]⟩
abbrev S1024x8456 : Shape := ⟨2, ![1024, 8456]⟩
abbrev S16384x8456 : Shape := ⟨2, ![16384, 8456]⟩
abbrev S16384x5128 : Shape := ⟨2, ![16384, 5128]⟩
abbrev S16384x1536 : Shape := ⟨2, ![16384, 1536]⟩
abbrev S16384x8 : Shape := ⟨2, ![16384, 8]⟩
abbrev S16384x512 : Shape := ⟨2, ![16384, 512]⟩
abbrev S16384x3072 : Shape := ⟨2, ![16384, 3072]⟩
abbrev S16384x128 : Shape := ⟨2, ![16384, 128]⟩
abbrev S4x3x1536 : Shape := ⟨3, ![4, 3, 1536]⟩
abbrev S4x4096x1536 : Shape := ⟨3, ![4, 4096, 1536]⟩
abbrev S4x4099x1536 : Shape := ⟨3, ![4, 4099, 1536]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x8456, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1x1024x8456, .f32⟩
  | .hbm, ⟨22, _⟩ => ⟨S1024x8456, .f32⟩
  | .hbm, ⟨23, _⟩ => ⟨S16384x8456, .f32⟩
  | .hbm, ⟨24, _⟩ => ⟨S16384x5128, .f32⟩
  | .hbm, ⟨25, _⟩ => ⟨S16384x1536, .f32⟩
  | .hbm, ⟨26, _⟩ => ⟨S16384x8, .f32⟩
  | .hbm, ⟨27, _⟩ => ⟨S16384x512, .f32⟩
  | .hbm, ⟨28, _⟩ => ⟨S16384x3072, .f32⟩
  | .hbm, ⟨29, _⟩ => ⟨S_, .i32⟩
  | .hbm, ⟨30, _⟩ => ⟨S_, .f32⟩
  | .hbm, ⟨31, _⟩ => ⟨S16384x128, .f32⟩
  | .hbm, ⟨32, _⟩ => ⟨S16384x3072, .f32⟩
  | .hbm, ⟨33, _⟩ => ⟨S16384x3072, .f32⟩
  | .hbm, ⟨34, _⟩ => ⟨S_, .f32⟩
  | .hbm, ⟨35, _⟩ => ⟨S16384x3072, .f32⟩
  | .hbm, ⟨36, _⟩ => ⟨S16384x3072, .f32⟩
  | .hbm, ⟨37, _⟩ => ⟨S_, .f32⟩
  | .hbm, ⟨38, _⟩ => ⟨S16384x3072, .f32⟩
  | .hbm, ⟨39, _⟩ => ⟨S16384x3072, .f32⟩
  | .hbm, ⟨40, _⟩ => ⟨S_, .f32⟩
  | .hbm, ⟨41, _⟩ => ⟨S4x3x1536, .f32⟩
  | .hbm, ⟨42, _⟩ => ⟨S4x4096x1536, .f32⟩
  | .hbm, ⟨43, _⟩ => ⟨S4x4099x1536, .f32⟩
  | .hbm, ⟨44, _⟩ => ⟨S4x3x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Qkv.lean ====
abbrev S16384x1024 : Shape := ⟨2, ![16384, 1024]⟩
abbrev S4x1024 : Shape := ⟨2, ![4, 1024]⟩
abbrev S4x1024x8456 : Shape := ⟨3, ![4, 1024, 8456]⟩
abbrev S4x4x512x4096 : Shape := ⟨4, ![4, 4, 512, 4096]⟩
abbrev S4x1024x3328 : Shape := ⟨3, ![4, 1024, 3328]⟩
abbrev S4x1x1024 : Shape := ⟨3, ![4, 1, 1024]⟩
abbrev S16384x512 : Shape := ⟨2, ![16384, 512]⟩
abbrev S16384x1792 : Shape := ⟨2, ![16384, 1792]⟩
abbrev S512x1024 : Shape := ⟨2, ![512, 1024]⟩
abbrev S1x1x1024 : Shape := ⟨3, ![1, 1, 1024]⟩
abbrev S1x1024x3328 : Shape := ⟨3, ![1, 1024, 3328]⟩
abbrev S512x512 : Shape := ⟨2, ![512, 512]⟩
abbrev S1x1x512x512 : Shape := ⟨4, ![1, 1, 512, 512]⟩
abbrev S512x1792 : Shape := ⟨2, ![512, 1792]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x1024x1792 : Shape := ⟨3, ![1, 1024, 1792]⟩
abbrev S1024x1792 : Shape := ⟨2, ![1024, 1792]⟩
abbrev S4x4x8x64x4096 : Shape := ⟨5, ![4, 4, 8, 64, 4096]⟩
abbrev S4x4x4096x8x64 : Shape := ⟨5, ![4, 4, 4096, 8, 64]⟩
abbrev S4x4096x1792 : Shape := ⟨3, ![4, 4096, 1792]⟩
abbrev S4x1x1792 : Shape := ⟨3, ![4, 1, 1792]⟩
abbrev S4x1792 : Shape := ⟨2, ![4, 1792]⟩

abbrev nBuf : Space → Nat
  | .hbm => 19
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x8456, .f32⟩
  | .hbm, ⟨3, _⟩ => ⟨S4x4x512x4096, .f32⟩
  | .hbm, ⟨4, _⟩ => ⟨S4x4x512x4096, .f32⟩
  | .hbm, ⟨5, _⟩ => ⟨S4x1024x3328, .f32⟩
  | .hbm, ⟨6, _⟩ => ⟨S4x1024x3328, .bf16⟩
  | .hbm, ⟨7, _⟩ => ⟨S4x1x1024, .f32⟩
  | .hbm, ⟨8, _⟩ => ⟨S16384x512, .f32⟩
  | .hbm, ⟨9, _⟩ => ⟨S4x4x512x4096, .f32⟩
  | .hbm, ⟨10, _⟩ => ⟨S4x4x512x4096, .f32⟩
  | .hbm, ⟨11, _⟩ => ⟨S16384x1792, .f32⟩
  | .hbm, ⟨12, _⟩ => ⟨S4x4x8x64x4096, .f32⟩
  | .hbm, ⟨13, _⟩ => ⟨S4x4x4096x8x64, .f32⟩
  | .hbm, ⟨14, _⟩ => ⟨S4x4x8x64x4096, .f32⟩
  | .hbm, ⟨15, _⟩ => ⟨S4x4x4096x8x64, .f32⟩
  | .hbm, ⟨16, _⟩ => ⟨S4x4096x1792, .f32⟩
  | .hbm, ⟨17, _⟩ => ⟨S4x1x1792, .f32⟩
  | .hbm, ⟨18, _⟩ => ⟨S4x1792, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x3328, .bf16⟩
  | .local _ .vmem, ⟨4, _⟩ => ⟨S512x512, .f32⟩
  | .local _ .vmem, ⟨5, _⟩ => ⟨S512x512, .f32⟩
  | .local _ .vmem, ⟨6, _⟩ => ⟨S1x1x512x512, .f32⟩
  | .local _ .vmem, ⟨7, _⟩ => ⟨S1x1x512x512, .f32⟩
  | .local _ .vmem, ⟨8, _⟩ => ⟨S1x1x512x512, .f32⟩
  | .local _ .vmem, ⟨9, _⟩ => ⟨S1x1x512x512, .f32⟩
  | .local _ .vmem, ⟨10, _⟩ => ⟨S512x1792, .f32⟩
  | .local _ .vmem, ⟨11, _⟩ => ⟨S512x1792, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  ![v16.toNat, c3_i32.toNat, c0_i32_10.toNat, v26.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  ![v16.toNat, c3_i32.toNat, c0_i32_10.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvRefIdeal.lean ====
abbrev S16384x1024 : Shape := ⟨2, ![16384, 1024]⟩
abbrev S4x1024 : Shape := ⟨2, ![4, 1024]⟩
abbrev S4x1024x8456 : Shape := ⟨3, ![4, 1024, 8456]⟩
abbrev S4x4x512x4096 : Shape := ⟨4, ![4, 4, 512, 4096]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x8456 : Shape := ⟨3, ![1, 1024, 8456]⟩
abbrev S1024x8456 : Shape := ⟨2, ![1024, 8456]⟩
abbrev S16384x8456 : Shape := ⟨2, ![16384, 8456]⟩
abbrev S16384x3328 : Shape := ⟨2, ![16384, 3328]⟩
abbrev S16384x512 : Shape := ⟨2, ![16384, 512]⟩
abbrev S16384x1792 : Shape := ⟨2, ![16384, 1792]⟩
abbrev S4x3x512x4096 : Shape := ⟨4, ![4, 3, 512, 4096]⟩
abbrev S4x3x8x64x4096 : Shape := ⟨5, ![4, 3, 8, 64, 4096]⟩
abbrev S4x3x4096x8x64 : Shape := ⟨5, ![4, 3, 4096, 8, 64]⟩
abbrev S4x4096x8x64 : Shape := ⟨4, ![4, 4096, 8, 64]⟩
abbrev S4x1x4096x8x64 : Shape := ⟨5, ![4, 1, 4096, 8, 64]⟩
abbrev S4x4x4096x8x64 : Shape := ⟨5, ![4, 4, 4096, 8, 64]⟩
abbrev S4x4096x1792 : Shape := ⟨3, ![4, 4096, 1792]⟩
abbrev S4x1x1792 : Shape := ⟨3, ![4, 1, 1792]⟩
abbrev S4x1792 : Shape := ⟨2, ![4, 1792]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x8456, .f32⟩
  | .hbm, ⟨3, _⟩ => ⟨S4x4x512x4096, .f32⟩
  | .hbm, ⟨4, _⟩ => ⟨S4x4x512x4096, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x8456, .f32⟩
  | .hbm, ⟨24, _⟩ => ⟨S1024x8456, .f32⟩
  | .hbm, ⟨25, _⟩ => ⟨S16384x8456, .f32⟩
  | .hbm, ⟨26, _⟩ => ⟨S16384x3328, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x1792, .f32⟩
  | .hbm, ⟨31, _⟩ => ⟨S4x3x512x4096, .f32⟩
  | .hbm, ⟨32, _⟩ => ⟨S4x3x8x64x4096, .f32⟩
  | .hbm, ⟨33, _⟩ => ⟨S4x3x4096x8x64, .f32⟩
  | .hbm, ⟨34, _⟩ => ⟨S4x4096x8x64, .f32⟩
  | .hbm, ⟨35, _⟩ => ⟨S4x1x4096x8x64, .f32⟩
  | .hbm, ⟨36, _⟩ => ⟨S4x4x4096x8x64, .f32⟩
  | .hbm, ⟨37, _⟩ => ⟨S4x3x512x4096, .f32⟩
  | .hbm, ⟨38, _⟩ => ⟨S4x3x8x64x4096, .f32⟩
  | .hbm, ⟨39, _⟩ => ⟨S4x3x4096x8x64, .f32⟩
  | .hbm, ⟨40, _⟩ => ⟨S4x4096x8x64, .f32⟩
  | .hbm, ⟨41, _⟩ => ⟨S4x1x4096x8x64, .f32⟩
  | .hbm, ⟨42, _⟩ => ⟨S4x4x4096x8x64, .f32⟩
  | .hbm, ⟨43, _⟩ => ⟨S4x4096x1792, .f32⟩
  | .hbm, ⟨44, _⟩ => ⟨S4x1x1792, .f32⟩
  | .hbm, ⟨45, _⟩ => ⟨S4x1792, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x3072 : Shape := ⟨2, ![16384, 3072]⟩
abbrev S4x512x1024 : Shape := ⟨3, ![4, 512, 1024]⟩
abbrev S4x1024x1024 : Shape := ⟨3, ![4, 1024, 1024]⟩
abbrev S512x1024 : Shape := ⟨2, ![512, 1024]⟩
abbrev S512x512 : Shape := ⟨2, ![512, 512]⟩
abbrev S1x512x1024 : Shape := ⟨3, ![1, 512, 1024]⟩
abbrev S1x1024x1024 : Shape := ⟨3, ![1, 1024, 1024]⟩
abbrev S1024x1024 : Shape := ⟨2, ![1024, 1024]⟩

abbrev nBuf : Space → Nat
  | .hbm => 14
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x3072, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x1024x1024, .f32⟩
  | .hbm, ⟨9, _⟩ => ⟨S4x512x1024, .bf16⟩
  | .hbm, ⟨10, _⟩ => ⟨S4x512x1024, .bf16⟩
  | .hbm, ⟨11, _⟩ => ⟨S4x512x1024, .bf16⟩
  | .hbm, ⟨12, _⟩ => ⟨S4x1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .bf16⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S16384x1024 : Shape := ⟨2, ![16384, 1024]⟩
abbrev S16384x512 : Shape := ⟨2, ![16384, 512]⟩
abbrev S16384x3072 : Shape := ⟨2, ![16384, 3072]⟩
abbrev S4x512x1024 : Shape := ⟨3, ![4, 512, 1024]⟩
abbrev S4x1024x1024 : Shape := ⟨3, ![4, 1024, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x3072, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x1024x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S1x512x1024, .f32⟩
  | .hbm, ⟨13, _⟩ => ⟨S512x1024, .f32⟩
  | .hbm, ⟨14, _⟩ => ⟨S16384x1024, .f32⟩
  | .hbm, ⟨15, _⟩ => ⟨S16384x1024, .f32⟩
  | .hbm, ⟨16, _⟩ => ⟨S1x512x1024, .f32⟩
  | .hbm, ⟨17, _⟩ => ⟨S512x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1x512x1024, .f32⟩
  | .hbm, ⟨22, _⟩ => ⟨S512x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1x1024x1024, .f32⟩
  | .hbm, ⟨27, _⟩ => ⟨S1024x1024, .f32⟩
  | .hbm, ⟨28, _⟩ => ⟨S16384x1024, .f32⟩
  | .hbm, ⟨29, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== SampleQkv.lean ====
abbrev S512x1024 : Shape := ⟨2, ![512, 1024]⟩
abbrev S4x1024 : Shape := ⟨2, ![4, 1024]⟩
abbrev S4x1024x8456 : Shape := ⟨3, ![4, 1024, 8456]⟩
abbrev S4x1024x3328 : Shape := ⟨3, ![4, 1024, 3328]⟩
abbrev S4x1x1024 : Shape := ⟨3, ![4, 1, 1024]⟩
abbrev S512x512 : Shape := ⟨2, ![512, 512]⟩
abbrev S512x1792 : Shape := ⟨2, ![512, 1792]⟩
abbrev S1x1x1024 : Shape := ⟨3, ![1, 1, 1024]⟩
abbrev S1x1024x3328 : Shape := ⟨3, ![1, 1024, 3328]⟩
abbrev S1x1024 : Shape := ⟨2, ![1, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x1024x1792 : Shape := ⟨3, ![1, 1024, 1792]⟩
abbrev S1024x1792 : Shape := ⟨2, ![1024, 1792]⟩
abbrev S128x4x8x64 : Shape := ⟨4, ![128, 4, 8, 64]⟩
abbrev S128x4x1792 : Shape := ⟨3, ![128, 4, 1792]⟩
abbrev S128x1x1792 : Shape := ⟨3, ![128, 1, 1792]⟩
abbrev S128x1792 : Shape := ⟨2, ![128, 1792]⟩

abbrev nBuf : Space → Nat
  | .hbm => 15
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S4x1024, .f32⟩
  | .hbm, ⟨2, _⟩ => ⟨S4x1024x8456, .f32⟩
  | .hbm, ⟨3, _⟩ => ⟨S4x1024x3328, .f32⟩
  | .hbm, ⟨4, _⟩ => ⟨S4x1024x3328, .bf16⟩
  | .hbm, ⟨5, _⟩ => ⟨S4x1x1024, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x1792, .f32⟩
  | .hbm, ⟨10, _⟩ => ⟨S128x4x8x64, .f32⟩
  | .hbm, ⟨11, _⟩ => ⟨S128x4x8x64, .f32⟩
  | .hbm, ⟨12, _⟩ => ⟨S128x4x1792, .f32⟩
  | .hbm, ⟨13, _⟩ => ⟨S128x1x1792, .f32⟩
  | .hbm, ⟨14, _⟩ => ⟨S128x1792, .f32⟩
  | .local _ .vmem, ⟨0, _⟩ => ⟨S512x1024, .f32⟩
  | .local _ .vmem, ⟨1, _⟩ => ⟨S1x1x1024, .f32⟩
  | .local _ .vmem, ⟨2, _⟩ => ⟨S1x1024x3328, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1792, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== SampleQkvRefIdeal.lean ====
abbrev S512x1024 : Shape := ⟨2, ![512, 1024]⟩
abbrev S4x1024 : Shape := ⟨2, ![4, 1024]⟩
abbrev S4x1024x8456 : Shape := ⟨3, ![4, 1024, 8456]⟩
abbrev S1x1024 : Shape := ⟨2, ![1, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024x8456 : Shape := ⟨3, ![1, 1024, 8456]⟩
abbrev S1024x8456 : Shape := ⟨2, ![1024, 8456]⟩
abbrev S512x8456 : Shape := ⟨2, ![512, 8456]⟩
abbrev S512x3328 : Shape := ⟨2, ![512, 3328]⟩
abbrev S512x512 : Shape := ⟨2, ![512, 512]⟩
abbrev S512x1792 : Shape := ⟨2, ![512, 1792]⟩
abbrev S128x4x8x64 : Shape := ⟨4, ![128, 4, 8, 64]⟩
abbrev S128x4x1792 : Shape := ⟨3, ![128, 4, 1792]⟩
abbrev S128x1x1792 : Shape := ⟨3, ![128, 1, 1792]⟩
abbrev S128x1792 : Shape := ⟨2, ![128, 1792]⟩

abbrev nBuf : Space → Nat
  | .hbm => 34
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S4x1024, .f32⟩
  | .hbm, ⟨2, _⟩ => ⟨S4x1024x8456, .f32⟩
  | .hbm, ⟨3, _⟩ => ⟨S1x1024, .f32⟩
  | .hbm, ⟨4, _⟩ => ⟨S1024, .f32⟩
  | .hbm, ⟨5, _⟩ => ⟨S512x1024, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x1024, .f32⟩
  | .hbm, ⟨17, _⟩ => ⟨S512x1024, .f32⟩
  | .hbm, ⟨18, _⟩ => ⟨S1x1024, .f32⟩
  | .hbm, ⟨19, _⟩ => ⟨S512x1024, .f32⟩
  | .hbm, ⟨20, _⟩ => ⟨S512x1024, .f32⟩
  | .hbm, ⟨21, _⟩ => ⟨S1x1024x8456, .f32⟩
  | .hbm, ⟨22, _⟩ => ⟨S1024x8456, .f32⟩
  | .hbm, ⟨23, _⟩ => ⟨S512x8456, .f32⟩
  | .hbm, ⟨24, _⟩ => ⟨S512x3328, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x1792, .f32⟩
  | .hbm, ⟨29, _⟩ => ⟨S128x4x8x64, .f32⟩
  | .hbm, ⟨30, _⟩ => ⟨S128x4x8x64, .f32⟩
  | .hbm, ⟨31, _⟩ => ⟨S128x4x1792, .f32⟩
  | .hbm, ⟨32, _⟩ => ⟨S128x1x1792, .f32⟩
  | .hbm, ⟨33, _⟩ => ⟨S128x1792, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== SampleNorm.lean ====
abbrev S512x1024 : Shape := ⟨2, ![512, 1024]⟩
abbrev S1024 : Shape := ⟨1, ![1024]⟩
abbrev S1x1024 : Shape := ⟨2, ![1, 1024]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1x1024, .f32⟩
  | .hbm, ⟨3, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SampleNormRefIdeal.lean ====
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S1x1024, .f32⟩
  | .hbm, ⟨16, _⟩ => ⟨S512x1024, .f32⟩
  | .hbm, ⟨17, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== SampleGates.lean ====
abbrev S512x1024 : Shape := ⟨2, ![512, 1024]⟩
abbrev S4x1024 : Shape := ⟨2, ![4, 1024]⟩
abbrev S4x1024x8456 : Shape := ⟨3, ![4, 1024, 8456]⟩
abbrev S128x3x1536 : Shape := ⟨3, ![128, 3, 1536]⟩
abbrev S4x1024x1536 : Shape := ⟨3, ![4, 1024, 1536]⟩
abbrev S4x1024x8 : Shape := ⟨3, ![4, 1024, 8]⟩
abbrev S_ : Shape := ⟨0, ![]⟩
abbrev S4x1024x128 : Shape := ⟨3, ![4, 1024, 128]⟩
abbrev S4x1024x3584 : Shape := ⟨3, ![4, 1024, 3584]⟩
abbrev S4x1024x5248 : Shape := ⟨3, ![4, 1024, 5248]⟩
abbrev S4x1x1024 : Shape := ⟨3, ![4, 1, 1024]⟩
abbrev S512x1536 : Shape := ⟨2, ![512, 1536]⟩
abbrev S512x128 : Shape := ⟨2, ![512, 128]⟩
abbrev S512x512 : Shape := ⟨2, ![512, 512]⟩
abbrev S512x3072 : Shape := ⟨2, ![512, 3072]⟩
abbrev S1x1x1024 : Shape := ⟨3, ![1, 1, 1024]⟩
abbrev S1x1024x5248 : Shape := ⟨3, ![1, 1024, 5248]⟩
abbrev S1x1024 : Shape := ⟨2, ![1, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S1x1024x128 : Shape := ⟨3, ![1, 1024, 128]⟩
abbrev S1024x128 : Shape := ⟨2, ![1024, 128]⟩
abbrev S1x1024x512 : Shape := ⟨3, ![1, 1024, 512]⟩
abbrev S1024x512 : Shape := ⟨2, ![1024, 512]⟩
abbrev S1x1024x3072 : Shape := ⟨3, ![1, 1024, 3072]⟩
abbrev S1024x3072 : Shape := ⟨2, ![1024, 3072]⟩
abbrev S128x4x1536 : Shape := ⟨3, ![128, 4, 1536]⟩
abbrev S128x7x1536 : Shape := ⟨3, ![128, 7, 1536]⟩

abbrev nBuf : Space → Nat
  | .hbm => 20
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S4x1024, .f32⟩
  | .hbm, ⟨2, _⟩ => ⟨S4x1024x8456, .f32⟩
  | .hbm, ⟨3, _⟩ => ⟨S128x3x1536, .f32⟩
  | .hbm, ⟨4, _⟩ => ⟨S4x1024x1536, .f32⟩
  | .hbm, ⟨5, _⟩ => ⟨S4x1024x8, .f32⟩
  | .hbm, ⟨6, _⟩ => ⟨S_, .i32⟩
  | .hbm, ⟨7, _⟩ => ⟨S_, .f32⟩
  | .hbm, ⟨8, _⟩ => ⟨S4x1024x128, .f32⟩
  | .hbm, ⟨9, _⟩ => ⟨S4x1024x3584, .f32⟩
  | .hbm, ⟨10, _⟩ => ⟨S4x1024x5248, .f32⟩
  | .hbm, ⟨11, _⟩ => ⟨S4x1024x5248, .bf16⟩
  | .hbm, ⟨12, _⟩ => ⟨S4x1x1024, .f32⟩
  | .hbm, ⟨13, _⟩ => ⟨S512x1536, .f32⟩
  | .hbm, ⟨14, _⟩ => ⟨S512x128, .f32⟩
  | .hbm, ⟨15, _⟩ => ⟨S512x512, .f32⟩
  | .hbm, ⟨16, _⟩ => ⟨S512x3072, .f32⟩
  | .hbm, ⟨17, _⟩ => ⟨S128x4x1536, .f32⟩
  | .hbm, ⟨18, _⟩ => ⟨S128x7x1536, .f32⟩
  | .hbm, ⟨19, _⟩ => ⟨S128x3x1536, .f32⟩
  | .local _ .vmem, ⟨0, _⟩ => ⟨S512x1024, .f32⟩
  | .local _ .vmem, ⟨1, _⟩ => ⟨S1x1x1024, .f32⟩
  | .local _ .vmem, ⟨2, _⟩ => ⟨S1x1024x5248, .bf16⟩
  | .local _ .vmem, ⟨3, _⟩ => ⟨S512x1536, .f32⟩
  | .local _ .vmem, ⟨4, _⟩ => ⟨S512x128, .f32⟩
  | .local _ .vmem, ⟨5, _⟩ => ⟨S512x512, .f32⟩
  | .local _ .vmem, ⟨6, _⟩ => ⟨S512x3072, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== SampleGatesRefIdeal.lean ====
abbrev S512x1024 : Shape := ⟨2, ![512, 1024]⟩
abbrev S4x1024 : Shape := ⟨2, ![4, 1024]⟩
abbrev S4x1024x8456 : Shape := ⟨3, ![4, 1024, 8456]⟩
abbrev S128x3x1536 : Shape := ⟨3, ![128, 3, 1536]⟩
abbrev S1x1024 : Shape := ⟨2, ![1, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024x8456 : Shape := ⟨3, ![1, 1024, 8456]⟩
abbrev S1024x8456 : Shape := ⟨2, ![1024, 8456]⟩
abbrev S512x8456 : Shape := ⟨2, ![512, 8456]⟩
abbrev S512x5128 : Shape := ⟨2, ![512, 5128]⟩
abbrev S512x1536 : Shape := ⟨2, ![512, 1536]⟩
abbrev S512x8 : Shape := ⟨2, ![512, 8]⟩
abbrev S512x512 : Shape := ⟨2, ![512, 512]⟩
abbrev S512x3072 : Shape := ⟨2, ![512, 3072]⟩
abbrev S512x128 : Shape := ⟨2, ![512, 128]⟩
abbrev S128x4x1536 : Shape := ⟨3, ![128, 4, 1536]⟩
abbrev S128x7x1536 : Shape := ⟨3, ![128, 7, 1536]⟩

abbrev nBuf : Space → Nat
  | .hbm => 44
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S4x1024, .f32⟩
  | .hbm, ⟨2, _⟩ => ⟨S4x1024x8456, .f32⟩
  | .hbm, ⟨3, _⟩ => ⟨S128x3x1536, .f32⟩
  | .hbm, ⟨4, _⟩ => ⟨S1x1024, .f32⟩
  | .hbm, ⟨5, _⟩ => ⟨S1024, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S1x1024x8456, .f32⟩
  | .hbm, ⟨23, _⟩ => ⟨S1024x8456, .f32⟩
  | .hbm, ⟨24, _⟩ => ⟨S512x8456, .f32⟩
  | .hbm, ⟨25, _⟩ => ⟨S512x5128, .f32⟩
  | .hbm, ⟨26, _⟩ => ⟨S512x1536, .f32⟩
  | .hbm, ⟨27, _⟩ => ⟨S512x8, .f32⟩
  | .hbm, ⟨28, _⟩ => ⟨S512x512, .f32⟩
  | .hbm, ⟨29, _⟩ => ⟨S512x3072, .f32⟩
  | .hbm, ⟨30, _⟩ => ⟨S_, .i32⟩
  | .hbm, ⟨31, _⟩ => ⟨S_, .f32⟩
  | .hbm, ⟨32, _⟩ => ⟨S512x128, .f32⟩
  | .hbm, ⟨33, _⟩ => ⟨S512x3072, .f32⟩
  | .hbm, ⟨34, _⟩ => ⟨S512x3072, .f32⟩
  | .hbm, ⟨35, _⟩ => ⟨S_, .f32⟩
  | .hbm, ⟨36, _⟩ => ⟨S512x3072, .f32⟩
  | .hbm, ⟨37, _⟩ => ⟨S512x3072, .f32⟩
  | .hbm, ⟨38, _⟩ => ⟨S_, .f32⟩
  | .hbm, ⟨39, _⟩ => ⟨S512x3072, .f32⟩
  | .hbm, ⟨40, _⟩ => ⟨S512x3072, .f32⟩
  | .hbm, ⟨41, _⟩ => ⟨S128x4x1536, .f32⟩
  | .hbm, ⟨42, _⟩ => ⟨S128x7x1536, .f32⟩
  | .hbm, ⟨43, _⟩ => ⟨S128x3x1536, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Attn.Step.lean ====
/-
  One block step of the attention kernel, as the program's own operations: a chain carries the accumulated output of 256 query
  rows (`256 × 128`) and the accumulated softplus of each row (`256 × 1`), and a step takes it past one block of 256 keys.
  A trip of the kernel's loop is two such steps for each of the four chains.
-/
module

public import proofs.«01_k».proof.Proof.Gen.KernelIdeal.Value
public import Idealize.ShloMosaic.Lib.LoopRemainder

@[expose] public section

set_option maxRecDepth 65536

noncomputable section

namespace Cert.Attn

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F] [Named F]

/-- What one chain carries: the accumulated output and the accumulated softplus. -/
abbrev Acc (F : FTy → Type) [FloatOps F] : Type := FVec F S256x128 .f32 × FVec F S256x1 .f32

/-- What the loop carries: the four chains' pairs, one after another. -/
abbrev Acc4 (F : FTy → Type) [FloatOps F] : Type :=
  FVec F S256x128 .f32 × FVec F S256x1 .f32 × FVec F S256x128 .f32 × FVec F S256x1 .f32
    × FVec F S256x128 .f32 × FVec F S256x1 .f32 × FVec F S256x128 .f32 × FVec F S256x1 .f32

/-- The logits of 256 queries against 256 keys (keys transposed), plus the bias. -/
def zBlk (b : F .f32) (qh : FVec F S256x128 .bf16) (kb : Vec F S128x256 .bf16) : FVec F S256x256 .f32 :=
  addf (matmul dot_S256x128_S128x256_S256x256_1_0_0_1_n_n none qh kb (constant S256x256 .f32 0x00000000#32)) (broadcast S256x256 b)

/-- The softplus in base 2 of a block of logits: `max z 0 + log (1 + 2^(0 - |z|)) · log2 e`. -/
def spBlk (z : FVec F S256x256 .f32) : FVec F S256x256 .f32 :=
  addf (maximumf z (broadcast S256x256 (Scalar.ofBits .f32 0x00000000#32)))
    (mulf (log (addf (broadcast S256x256 (Scalar.ofBits .f32 0x3F800000#32))
        (exp2 (subf (broadcast S256x256 (Scalar.ofBits .f32 0x00000000#32)) (absf z)))))
      (broadcast S256x256 (Named.named κ "log2e" 0x3FB8AA3B#32)))

/-- Zero outside the mask. -/
def masked (m : IVec S256x256 1) (x : FVec F S256x256 .f32) : FVec F S256x256 .f32 :=
  select m x (broadcast S256x256 (Scalar.ofBits .f32 0x00000000#32))

/-- The sums along a block of keys from each key to the block's last, by a product with a triangle of ones. -/
def csBlk (tri : FVec F S256x256 .bf16) (sp : FVec F S256x256 .f32) : FVec F S256x256 .f32 :=
  matmul dot_S256x256_S256x256_S256x256_1_0_0_1_n_n none (truncf .bf16 sp bitsLt_bf16_f32) tri (constant S256x256 .f32 0x00000000#32)

/-- The weights of a block: `2^(z - (r + cs))`. -/
def aBlk (z cs : FVec F S256x256 .f32) (r : FVec F S256x1 .f32) : FVec F S256x256 .f32 :=
  exp2 (subf z (addf (broadcastTo S256x256 r broadcasts_S256x1_S256x256) cs))

/-- The accumulated output after a block. -/
def oBlk (a : FVec F S256x256 .f32) (vb : Vec F S128x256 .bf16) (o : FVec F S256x128 .f32) : FVec F S256x128 .f32 :=
  addf o (matmul dot_S256x256_S128x256_S256x128_1_1_0_0_n_n none (truncf .bf16 a bitsLt_bf16_f32) vb (constant S256x128 .f32 0x00000000#32))

/-- The accumulated softplus after a block. -/
def rBlk (cs : FVec F S256x256 .f32) (r : FVec F S256x1 .f32) : FVec F S256x1 .f32 :=
  addf r (extractStridedSlice S256x1 ![0, 0] cs slices_S256x256_o0_0_S256x1)

/-- A chain's step past one block of keys, all of them before every query. -/
def step (tri : FVec F S256x256 .bf16) (b : F .f32) (qh : FVec F S256x128 .bf16) (kb vb : Vec F S128x256 .bf16) (p : Acc F) : Acc F :=
  (oBlk (aBlk (zBlk b qh kb) (csBlk tri (spBlk (zBlk b qh kb))) p.2) vb p.1, rBlk (csBlk tri (spBlk (zBlk b qh kb))) p.2)

/-- A chain's step past the block on the diagonal, masked to the keys before each query. -/
def stepMasked (m : IVec S256x256 1) (tri : FVec F S256x256 .bf16) (b : F .f32) (qh : FVec F S256x128 .bf16) (kb vb : Vec F S128x256 .bf16)
    (p : Acc F) : Acc F :=
  (oBlk (masked m (aBlk (zBlk b qh kb) (csBlk tri (masked m (spBlk (zBlk b qh kb)))) p.2)) vb p.1,
    rBlk (csBlk tri (masked m (spBlk (zBlk b qh kb)))) p.2)

/-- Two steps, the block nearer the queries first. -/
def step2 (tri : FVec F S256x256 .bf16) (b : F .f32) (qh : FVec F S256x128 .bf16) (kb₁ vb₁ kb₂ vb₂ : Vec F S128x256 .bf16) (p : Acc F) : Acc F :=
  step tri b qh kb₂ vb₂ (step tri b qh kb₁ vb₁ p)

/-- The chains side by side. -/
def pack (p₀ p₁ p₂ p₃ : Acc F) : Acc4 F := (p₀.1, p₀.2, p₁.1, p₁.2, p₂.1, p₂.2, p₃.1, p₃.2)

/-- A trip of the loop: two steps of each of the four chains. -/
def trip4 (tri : FVec F S256x256 .bf16) (b₀ b₁ : F .f32) (q₀₀ q₀₁ q₁₀ q₁₁ : FVec F S256x128 .bf16) (kb₁ vb₁ kb₂ vb₂ : Vec F S128x256 .bf16)
    (p : Acc4 F) : Acc4 F :=
  pack (step2 tri b₀ q₀₀ kb₁ vb₁ kb₂ vb₂ (p.1, p.2.1))
    (step2 tri b₁ q₀₁ kb₁ vb₁ kb₂ vb₂ (p.2.2.1, p.2.2.2.1))
    (step2 tri b₀ q₁₀ kb₁ vb₁ kb₂ vb₂ (p.2.2.2.2.1, p.2.2.2.2.2.1))
    (step2 tri b₁ q₁₁ kb₁ vb₁ kb₂ vb₂ (p.2.2.2.2.2.2.1, p.2.2.2.2.2.2.2))

/-- A block of 256 columns of a `128 × 4096` buffer, at the offset the program computes. -/
abbrev colBlk (M : Memref sig .tc .vmem S128x4096 .bf16) (off : Fin 2 → ℕ) (h : ∀ a, off a + S128x256.size a ≤ S128x4096.size a)
    (X : BufTy.Contents (Elt F) M.view.ty) : Vec F S128x256 .bf16 :=
  M.view.readAt (Elt F) (Rect.unit (s := S128x4096) off S128x256.size h).toLoadRect X

set_option maxHeartbeats 2000000 in
/-- What one trip of the loop computes: two steps of each chain, on the two blocks of keys and values it loads. -/
theorem trip_eq (𝒱 : Variants) (c : Dev nD) (bd : Option 𝒱.V) (i : grid0.Coords) (arg3 : Memref sig .tc .smem S8 .f32) (harg3 : arg3.IsWhole) (arg4 : Memref sig .tc .vmem S512x128 .f32) (harg4 : arg4.IsWhole) (arg5 : Memref sig .tc .vmem S1x1x128x4096 .f32) (harg5 : arg5.IsWhole) (arg6 : Memref sig .tc .vmem S1x1x128x4096 .f32) (harg6 : arg6.IsWhole) (arg7 : Memref sig .tc .vmem S512x128 .f32) (harg7 : arg7.IsWhole) (arg8 : Memref sig .tc .vmem S128x4096 .bf16) (harg8 : arg8.IsWhole) (arg9 : Memref sig .tc .vmem S128x4096 .bf16) (harg9 : arg9.IsWhole) (arg2 : BitVec 32) (v3 : IVec S256x128 32) (v6 : IVec S256x256 1) (v13 : FVec F S256x256 .bf16) (v18 : F .f32) (v23 : F .f32) (v55 : FVec F S256x128 .bf16) (v84 : FVec F S256x128 .bf16) (v116 : FVec F S256x128 .bf16) (v145 : FVec F S256x128 .bf16) (v152 : FVec F S256x128 .f32) (v153 : FVec F S256x1 .f32) (v154 : BitVec 32) (v161 : Vec F S128x256 .bf16) (v167 : Vec F S128x256 .bf16) (v195 : FVec F S256x256 .f32) (v214 : FVec F S256x256 .f32) (v239 : FVec F S256x128 .f32) (v241 : FVec F S256x1 .f32) (v244 : FVec F S256x256 .f32) (v260 : FVec F S256x256 .f32) (v269 : FVec F S256x128 .f32) (v271 : FVec F S256x1 .f32) (v285 : FVec F S256x256 .f32) (v294 : FVec F S256x128 .f32) (v296 : FVec F S256x1 .f32) (v301 : FVec F S256x256 .f32) (v302 : FVec F S256x256 .f32) (v303 : FVec F S256x256 .f32) (X_arg8 : BufTy.Contents (Elt F) arg8.view.ty) (X_arg9 : BufTy.Contents (Elt F) arg9.view.ty) (k : Fin (k0_t1_loop i).trips) (acc : Acc4 F) :
    tripR_k0_t1 (F := F) 𝒱 c bd i arg3 harg3 arg4 harg4 arg5 harg5 arg6 harg6 arg7 harg7 arg8 harg8 arg9 harg9 arg2 v3 v6 v13 v18 v23 v55 v84 v116 v145 v152 v153 v154 v161 v167 v195 v214 v239 v241 v244 v260 v269 v271 v285 v294 v296 v301 v302 v303 X_arg8 X_arg9 k acc
      = trip4 v13 v18 v23 v55 v84 v116 v145 (colBlk arg8 (k0_off4 i k) (k0_off4_inb i k) X_arg8) (colBlk arg9 (k0_off4 i k) (k0_off4_inb i k) X_arg9)
          (colBlk arg8 (k0_off5 i k) (k0_off5_inb i k) X_arg8) (colBlk arg9 (k0_off5 i k) (k0_off5_inb i k) X_arg9) acc := by
  unfold tripR_k0_t1 trip_k0_t1
  dsimp only
  sl_unfold_words
  rfl

/-- The loop's recursion with its trip read: iterate `trip4`. -/
def loopSt (i : grid0.Coords) (tri : FVec F S256x256 .bf16) (b₀ b₁ : F .f32) (q₀₀ q₀₁ q₁₀ q₁₁ : FVec F S256x128 .bf16)
    (kb vb : Vec F S128x4096 .bf16) (init : Acc4 F) : ℕ → Acc4 F
  | 0 => init
  | n + 1 => if h : n < (k0_t1_loop i).trips then
      trip4 tri b₀ b₁ q₀₀ q₀₁ q₁₀ q₁₁ (View.ld kb (Rect.unit (s := S128x4096) (k0_off4 i ⟨n, h⟩) S128x256.size (k0_off4_inb i ⟨n, h⟩)))
        (View.ld vb (Rect.unit (s := S128x4096) (k0_off4 i ⟨n, h⟩) S128x256.size (k0_off4_inb i ⟨n, h⟩)))
        (View.ld kb (Rect.unit (s := S128x4096) (k0_off5 i ⟨n, h⟩) S128x256.size (k0_off5_inb i ⟨n, h⟩)))
        (View.ld vb (Rect.unit (s := S128x4096) (k0_off5 i ⟨n, h⟩) S128x256.size (k0_off5_inb i ⟨n, h⟩)))
        (loopSt i tri b₀ b₁ q₀₀ q₀₁ q₁₀ q₁₁ kb vb init n)
    else loopSt i tri b₀ b₁ q₀₀ q₀₁ q₁₀ q₁₁ kb vb init n

/-- The run's recursion is `loopSt` at what the two buffers read. -/
theorem st_eq (𝒱 : Variants) (c : Dev nD) (bd : Option 𝒱.V) (i : grid0.Coords) (arg3 : Memref sig .tc .smem S8 .f32) (harg3 : arg3.IsWhole) (arg4 : Memref sig .tc .vmem S512x128 .f32) (harg4 : arg4.IsWhole) (arg5 : Memref sig .tc .vmem S1x1x128x4096 .f32) (harg5 : arg5.IsWhole) (arg6 : Memref sig .tc .vmem S1x1x128x4096 .f32) (harg6 : arg6.IsWhole) (arg7 : Memref sig .tc .vmem S512x128 .f32) (harg7 : arg7.IsWhole) (arg8 : Memref sig .tc .vmem S128x4096 .bf16) (harg8 : arg8.IsWhole) (arg9 : Memref sig .tc .vmem S128x4096 .bf16) (harg9 : arg9.IsWhole) (arg2 : BitVec 32) (v3 : IVec S256x128 32) (v6 : IVec S256x256 1) (v13 : FVec F S256x256 .bf16) (v18 : F .f32) (v23 : F .f32) (v55 : FVec F S256x128 .bf16) (v84 : FVec F S256x128 .bf16) (v116 : FVec F S256x128 .bf16) (v145 : FVec F S256x128 .bf16) (v152 : FVec F S256x128 .f32) (v153 : FVec F S256x1 .f32) (v154 : BitVec 32) (v161 : Vec F S128x256 .bf16) (v167 : Vec F S128x256 .bf16) (v195 : FVec F S256x256 .f32) (v214 : FVec F S256x256 .f32) (v239 : FVec F S256x128 .f32) (v241 : FVec F S256x1 .f32) (v244 : FVec F S256x256 .f32) (v260 : FVec F S256x256 .f32) (v269 : FVec F S256x128 .f32) (v271 : FVec F S256x1 .f32) (v285 : FVec F S256x256 .f32) (v294 : FVec F S256x128 .f32) (v296 : FVec F S256x1 .f32) (v301 : FVec F S256x256 .f32) (v302 : FVec F S256x256 .f32) (v303 : FVec F S256x256 .f32) (X_arg8 : BufTy.Contents (Elt F) arg8.view.ty) (X_arg9 : BufTy.Contents (Elt F) arg9.view.ty) (init : Acc4 F) :
    ∀ n, n ≤ (k0_t1_loop i).trips → st_k0_t1 (F := F) 𝒱 c bd i arg3 harg3 arg4 harg4 arg5 harg5 arg6 harg6 arg7 harg7 arg8 harg8 arg9 harg9 arg2 v3 v6 v13 v18 v23 v55 v84 v116 v145 v152 v153 v154 v161 v167 v195 v214 v239 v241 v244 v260 v269 v271 v285 v294 v296 v301 v302 v303 X_arg8 X_arg9 init n
      = loopSt i v13 v18 v23 v55 v84 v116 v145 (arg8.view.read (Elt F) X_arg8) (arg9.view.read (Elt F) X_arg9) init n
  | 0, _ => rfl
  | n + 1, hn => by
    have h : n < (k0_t1_loop i).trips := hn
    rw [st_k0_t1_succ 𝒱 c bd i arg3 harg3 arg4 harg4 arg5 harg5 arg6 harg6 arg7 harg7 arg8 harg8 arg9 harg9 arg2 v3 v6 v13 v18 v23 v55 v84 v116 v145 v152 v153 v154 v161 v167 v195 v214 v239 v241 v244 v260 v269 v271 v285 v294 v296 v301 v302 v303 X_arg8 X_arg9 init ⟨n, h⟩, trip_eq, loopSt, dif_pos h,
      st_eq 𝒱 c bd i arg3 harg3 arg4 harg4 arg5 harg5 arg6 harg6 arg7 harg7 arg8 harg8 arg9 harg9 arg2 v3 v6 v13 v18 v23 v55 v84 v116 v145 v152 v153 v154 v161 v167 v195 v214 v239 v241 v244 v260 v269 v271 v285 v294 v296 v301 v302 v303 X_arg8 X_arg9 init n (Nat.le_of_lt h)]
    simp only [colBlk, View.readAt_eq_ld]

end Cert.Attn
-- ==== Proof.Attn.Body.lean ====
/-
  The attention kernel's body at a point: what it leaves in the output block is two row blocks, each selecting by lane
  between the results of two chains, a chain running over the diagonal block, the block before it and the loop's trips.
-/
module

public import proofs.«01_k».proof.Proof.Attn.Step

@[expose] public section

set_option maxRecDepth 65536

noncomputable section

namespace Cert.Attn

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F] [Named F]

/-- The second loop, over the steps left by the first, makes no trip. -/
theorem trips2 (i : grid0.Coords) : (k0_t2_loop i).trips = 0 := Scf.rem_trips _ _

/-- So it leaves the carried value as it was. -/
theorem st2_eq (𝒱 : Variants) (c : Dev nD) (bd : Option 𝒱.V) (i : grid0.Coords) (arg3 : Memref sig .tc .smem S8 .f32) (harg3 : arg3.IsWhole) (arg4 : Memref sig .tc .vmem S512x128 .f32) (harg4 : arg4.IsWhole) (arg5 : Memref sig .tc .vmem S1x1x128x4096 .f32) (harg5 : arg5.IsWhole) (arg6 : Memref sig .tc .vmem S1x1x128x4096 .f32) (harg6 : arg6.IsWhole) (arg7 : Memref sig .tc .vmem S512x128 .f32) (harg7 : arg7.IsWhole) (arg8 : Memref sig .tc .vmem S128x4096 .bf16) (harg8 : arg8.IsWhole) (arg9 : Memref sig .tc .vmem S128x4096 .bf16) (harg9 : arg9.IsWhole) (arg2 : BitVec 32) (v3 : IVec S256x128 32) (v6 : IVec S256x256 1) (v13 : FVec F S256x256 .bf16) (v18 : F .f32) (v23 : F .f32) (v55 : FVec F S256x128 .bf16) (v84 : FVec F S256x128 .bf16) (v116 : FVec F S256x128 .bf16) (v145 : FVec F S256x128 .bf16) (v152 : FVec F S256x128 .f32) (v153 : FVec F S256x1 .f32) (v154 : BitVec 32) (v161 : Vec F S128x256 .bf16) (v167 : Vec F S128x256 .bf16) (v195 : FVec F S256x256 .f32) (v214 : FVec F S256x256 .f32) (v239 : FVec F S256x128 .f32) (v241 : FVec F S256x1 .f32) (v244 : FVec F S256x256 .f32) (v260 : FVec F S256x256 .f32) (v269 : FVec F S256x128 .f32) (v271 : FVec F S256x1 .f32) (v285 : FVec F S256x256 .f32) (v294 : FVec F S256x128 .f32) (v296 : FVec F S256x1 .f32) (v301 : FVec F S256x256 .f32) (v302 : FVec F S256x256 .f32) (v303 : FVec F S256x256 .f32) (v344 : BitVec 32) (X_arg8 : BufTy.Contents (Elt F) arg8.view.ty) (X_arg9 : BufTy.Contents (Elt F) arg9.view.ty) (init : Acc4 F) :
    st_k0_t2 (F := F) 𝒱 c bd i arg3 harg3 arg4 harg4 arg5 harg5 arg6 harg6 arg7 harg7 arg8 harg8 arg9 harg9 arg2 v3 v6 v13 v18 v23 v55 v84 v116 v145 v152 v153 v154 v161 v167 v195 v214 v239 v241 v244 v260 v269 v271 v285 v294 v296 v301 v302 v303 v344 X_arg8 X_arg9 init (Scf.trips (k0_t2_loop i).lb (k0_t2_loop i).ub (k0_t2_loop i).st) = init := by
  have h : Scf.trips (k0_t2_loop i).lb (k0_t2_loop i).ub (k0_t2_loop i).st = 0 := trips2 i
  rw [h]; rfl

/-- The first loop's result. -/
theorem st1_eq (𝒱 : Variants) (c : Dev nD) (bd : Option 𝒱.V) (i : grid0.Coords) (arg3 : Memref sig .tc .smem S8 .f32) (harg3 : arg3.IsWhole) (arg4 : Memref sig .tc .vmem S512x128 .f32) (harg4 : arg4.IsWhole) (arg5 : Memref sig .tc .vmem S1x1x128x4096 .f32) (harg5 : arg5.IsWhole) (arg6 : Memref sig .tc .vmem S1x1x128x4096 .f32) (harg6 : arg6.IsWhole) (arg7 : Memref sig .tc .vmem S512x128 .f32) (harg7 : arg7.IsWhole) (arg8 : Memref sig .tc .vmem S128x4096 .bf16) (harg8 : arg8.IsWhole) (arg9 : Memref sig .tc .vmem S128x4096 .bf16) (harg9 : arg9.IsWhole) (arg2 : BitVec 32) (v3 : IVec S256x128 32) (v6 : IVec S256x256 1) (v13 : FVec F S256x256 .bf16) (v18 : F .f32) (v23 : F .f32) (v55 : FVec F S256x128 .bf16) (v84 : FVec F S256x128 .bf16) (v116 : FVec F S256x128 .bf16) (v145 : FVec F S256x128 .bf16) (v152 : FVec F S256x128 .f32) (v153 : FVec F S256x1 .f32) (v154 : BitVec 32) (v161 : Vec F S128x256 .bf16) (v167 : Vec F S128x256 .bf16) (v195 : FVec F S256x256 .f32) (v214 : FVec F S256x256 .f32) (v239 : FVec F S256x128 .f32) (v241 : FVec F S256x1 .f32) (v244 : FVec F S256x256 .f32) (v260 : FVec F S256x256 .f32) (v269 : FVec F S256x128 .f32) (v271 : FVec F S256x1 .f32) (v285 : FVec F S256x256 .f32) (v294 : FVec F S256x128 .f32) (v296 : FVec F S256x1 .f32) (v301 : FVec F S256x256 .f32) (v302 : FVec F S256x256 .f32) (v303 : FVec F S256x256 .f32) (X_arg8 : BufTy.Contents (Elt F) arg8.view.ty) (X_arg9 : BufTy.Contents (Elt F) arg9.view.ty) (init : Acc4 F) :
    st_k0_t1 (F := F) 𝒱 c bd i arg3 harg3 arg4 harg4 arg5 harg5 arg6 harg6 arg7 harg7 arg8 harg8 arg9 harg9 arg2 v3 v6 v13 v18 v23 v55 v84 v116 v145 v152 v153 v154 v161 v167 v195 v214 v239 v241 v244 v260 v269 v271 v285 v294 v296 v301 v302 v303 X_arg8 X_arg9 init (Scf.trips (k0_t1_loop i).lb (k0_t1_loop i).ub (k0_t1_loop i).st)
      = loopSt i v13 v18 v23 v55 v84 v116 v145 (arg8.view.read (Elt F) X_arg8) (arg9.view.read (Elt F) X_arg9) init (k0_t1_loop i).trips :=
  st_eq 𝒱 c bd i arg3 harg3 arg4 harg4 arg5 harg5 arg6 harg6 arg7 harg7 arg8 harg8 arg9 harg9 arg2 v3 v6 v13 v18 v23 v55 v84 v116 v145 v152 v153 v154 v161 v167 v195 v214 v239 v241 v244 v260 v269 v271 v285 v294 v296 v301 v302 v303 X_arg8 X_arg9 init _ le_rfl

/-- The lane numbers of a `256 × 128` block. -/
abbrev lanes : IVec S256x128 32 := iota .tc S256x128 32 [1] iota_S256x128_d1_w32

/-- Queries 0 to 255 of the block, and queries 256 to 511. -/
abbrev xTop (x1 : Vec F S512x128 .f32) : Vec F S256x128 .f32 :=
  View.ld x1 (Rect.unit (s := S512x128) ![0, 0] S256x128.size inb_S512x128_S256x128_0_0)
/-- Queries 256 to 511 of the block. -/
abbrev xBot (x1 : Vec F S512x128 .f32) : Vec F S256x128 .f32 :=
  View.ld x1 (Rect.unit (s := S512x128) ![256, 0] S256x128.size inb_S512x128_S256x128_256_0)

/-- The bias of the lane pair's first head (`hh = 0#32`) or second (`hh = 1#32`), scaled. -/
abbrev bias0 (i : grid0.Coords) (x0 : Vec F S8 .f32) : F .f32 :=
  k0_pay64 (View.ld x0 (Rect.unit (s := S8) (k0_off1 i 0#32) S1.size (k0_off1_inb i 0)) (Shape.Idx.first (Nat.lt_of_lt_of_eq Nat.one_pos numel1_S1.symm)))
/-- The bias of the lane pair's second head, scaled. -/
abbrev bias1 (i : grid0.Coords) (x0 : Vec F S8 .f32) : F .f32 :=
  k0_pay65 (View.ld x0 (Rect.unit (s := S8) (k0_off1 i 1#32) S1.size (k0_off1_inb i 1)) (Shape.Idx.first (Nat.lt_of_lt_of_eq Nat.one_pos numel1_S1.symm)))

/-- The queries of each chain: one row block, scaled, the other head's lanes zero. -/
abbrev q00 (x1 : Vec F S512x128 .f32) : FVec F S256x128 .bf16 :=
  k0_pay69 lanes (k0_pay66 (xTop x1)) 64#32 k0_pay67 k0_pay68 (Scalar.extui (Scalar.cmpi .sgt 64#32 0#32)) 0#32
/-- Row block 0, second head. -/
abbrev q01 (x1 : Vec F S512x128 .f32) : FVec F S256x128 .bf16 := k0_pay70 lanes (k0_pay66 (xTop x1))
/-- Row block 1, first head. -/
abbrev q10 (x1 : Vec F S512x128 .f32) : FVec F S256x128 .bf16 := k0_pay72 lanes (xBot x1)
/-- Row block 1, second head. -/
abbrev q11 (x1 : Vec F S512x128 .f32) : FVec F S256x128 .bf16 :=
  k0_pay75 lanes (k0_pay71 (xBot x1)) 64#32 (k0_pay73 lanes) (k0_pay74 lanes) (Scalar.extui (Scalar.cmpi .sgt 64#32 0#32)) 0#32

/-- The block of keys (or values) on the diagonal of row block 1. -/
abbrev colHi (i : grid0.Coords) (kb : Vec F S128x4096 .bf16) : Vec F S128x256 .bf16 :=
  View.ld kb (Rect.unit (s := S128x4096) (k0_off2 i) S128x256.size (k0_off2_inb i))
/-- The block of keys (or values) on the diagonal of row block 0. -/
abbrev colLo (i : grid0.Coords) (kb : Vec F S128x4096 .bf16) : Vec F S128x256 .bf16 :=
  View.ld kb (Rect.unit (s := S128x4096) (k0_off3 i) S128x256.size (k0_off3_inb i))

/-- A chain before its first block: zero output, zero softplus. -/
def acc0 : Acc F := (broadcast S256x128 (Scalar.ofBits .f32 0x00000000#32), broadcast S256x1 (Scalar.ofBits .f32 0x00000000#32))

/-- Row block 0 past its diagonal block. -/
def startTop (i : grid0.Coords) (b : F .f32) (q : FVec F S256x128 .bf16) (kb vb : Vec F S128x4096 .bf16) : Acc F :=
  stepMasked k0_pay62 k0_pay63 b q (colLo i kb) (colLo i vb) acc0
/-- Row block 1 past its diagonal block and the block before it. -/
def startBot (i : grid0.Coords) (b : F .f32) (q : FVec F S256x128 .bf16) (kb vb : Vec F S128x4096 .bf16) : Acc F :=
  step k0_pay63 b q (colLo i kb) (colLo i vb) (stepMasked k0_pay62 k0_pay63 b q (colHi i kb) (colHi i vb) acc0)

/-- The four chains after the loop. -/
def accEnd (i : grid0.Coords) (x0 : Vec F S8 .f32) (x1 : Vec F S512x128 .f32) (kb vb : Vec F S128x4096 .bf16) : Acc4 F :=
  loopSt i k0_pay63 (bias0 i x0) (bias1 i x0) (q00 x1) (q01 x1) (q10 x1) (q11 x1) kb vb
    (pack (startTop i (bias0 i x0) (q00 x1) kb vb) (startTop i (bias1 i x0) (q01 x1) kb vb)
      (startBot i (bias0 i x0) (q10 x1) kb vb) (startBot i (bias1 i x0) (q11 x1) kb vb)) (k0_t1_loop i).trips

/-- The body's two stores, last first. -/
def pieces (i : grid0.Coords) (x0 : Vec F S8 .f32) (x1 : Vec F S512x128 .f32) (kb vb : Vec F S128x4096 .bf16) :
    List (View.Piece (Elt F) S512x128 .f32) :=
  [⟨Rect.unit ![256, 0] S256x128.size inb_S512x128_S256x128_256_0,
      k0_pay1 lanes (accEnd i x0 x1 kb vb).2.2.2.2.1 (accEnd i x0 x1 kb vb).2.2.2.2.2.2.1⟩,
    ⟨Rect.unit ![0, 0] S256x128.size inb_S512x128_S256x128_0_0,
      k0_pay127 lanes (accEnd i x0 x1 kb vb).1 (accEnd i x0 x1 kb vb).2.2.1⟩]

set_option maxHeartbeats 4000000 in
/-- At a point that finds the keys and values in scratch: the output block is the two stores over them. -/
theorem out_B (c : Dev nD) (i : grid0.Coords) (arg3 : Memref sig .tc .smem S8 .f32) (harg3 : arg3.IsWhole) (arg4 : Memref sig .tc .vmem S512x128 .f32) (harg4 : arg4.IsWhole) (arg5 : Memref sig .tc .vmem S1x1x128x4096 .f32) (harg5 : arg5.IsWhole) (arg6 : Memref sig .tc .vmem S1x1x128x4096 .f32) (harg6 : arg6.IsWhole) (arg7 : Memref sig .tc .vmem S512x128 .f32) (harg7 : arg7.IsWhole) (arg8 : Memref sig .tc .vmem S128x4096 .bf16) (harg8 : arg8.IsWhole) (arg9 : Memref sig .tc .vmem S128x4096 .bf16) (harg9 : arg9.IsWhole) (hc0 : ¬ cond0_0 i) (x0 : Vec F S8 .f32) (x1 : Vec F S512x128 .f32) (x2 x3 : Vec F S1x1x128x4096 .f32) (xs0 xs1 : Vec F S128x4096 .bf16) :
    out0_B_4 c i arg3 harg3 arg4 harg4 arg5 harg5 arg6 harg6 arg7 harg7 arg8 harg8 arg9 harg9 hc0 x0 x1 x2 x3 xs0 xs1 = View.canon (pieces i x0 x1 xs0 xs1) := by
  unfold out0_B_4
  rw [View.read_writes_eq_canon _ _ _ (cover0_B_4 c i arg3 harg3 arg4 harg4 arg5 harg5 arg6 harg6 arg7 harg7 arg8 harg8 arg9 harg9 hc0 x0 x1 x2 x3 xs0 xs1)]
  unfold kernelRun0_B
  dsimp only
  unfold kernelRun0_B.sl.r_34 kernelRun0_B.sl.r_35 kernelRun0_B.sl.r_36
  rw [st2_eq, st1_eq]
  rw [harg8.read_unread, harg9.read_unread]
  dsimp only
  sl_unfold_words
  simp only [View.readAt_eq_ld, harg3.read_unread, harg4.read_unread, harg8.read_unread, harg9.read_unread]
  rfl

/-- What one whole-buffer store of the truncated keys leaves. -/
theorem canon_keys (c : Dev nD) (arg5 : Memref sig .tc .vmem S1x1x128x4096 .f32) (harg5 : arg5.IsWhole) (x : Vec F S1x1x128x4096 .f32) :
    View.canon (kernelRun0_A.sl.HS0_1 c arg5 harg5 x) = k0_pay60 x := by
  unfold kernelRun0_A.sl.HS0_1
  rw [View.canon_unit_zero (by funext a; fin_cases a <;> rfl)]
  rw [View.readAt_eq_ld, harg5.read_unread, View.ld_unit_zero (by funext a; fin_cases a <;> rfl)]

/-- What one whole-buffer store of the truncated values leaves. -/
theorem canon_vals (c : Dev nD) (arg6 : Memref sig .tc .vmem S1x1x128x4096 .f32) (harg6 : arg6.IsWhole) (x : Vec F S1x1x128x4096 .f32) :
    View.canon (kernelRun0_A.sl.HS1_1 c arg6 harg6 x) = k0_pay61 x := by
  unfold kernelRun0_A.sl.HS1_1
  rw [View.canon_unit_zero (by funext a; fin_cases a <;> rfl)]
  rw [View.readAt_eq_ld, harg6.read_unread, View.ld_unit_zero (by funext a; fin_cases a <;> rfl)]

/-- At a point that stores the scratch: the keys it leaves. -/
theorem sout_A_0 (c : Dev nD) (i : grid0.Coords) (arg3 : Memref sig .tc .smem S8 .f32) (harg3 : arg3.IsWhole) (arg4 : Memref sig .tc .vmem S512x128 .f32) (harg4 : arg4.IsWhole) (arg5 : Memref sig .tc .vmem S1x1x128x4096 .f32) (harg5 : arg5.IsWhole) (arg6 : Memref sig .tc .vmem S1x1x128x4096 .f32) (harg6 : arg6.IsWhole) (arg7 : Memref sig .tc .vmem S512x128 .f32) (harg7 : arg7.IsWhole) (arg8 : Memref sig .tc .vmem S128x4096 .bf16) (harg8 : arg8.IsWhole) (arg9 : Memref sig .tc .vmem S128x4096 .bf16) (harg9 : arg9.IsWhole) (hc0 : cond0_0 i) (x0 : Vec F S8 .f32) (x1 : Vec F S512x128 .f32) (x2 x3 : Vec F S1x1x128x4096 .f32) :
    sout0_A_0 c i arg3 harg3 arg4 harg4 arg5 harg5 arg6 harg6 arg7 harg7 arg8 harg8 arg9 harg9 hc0 x0 x1 x2 x3 = k0_pay60 x2 := by
  unfold sout0_A_0
  rw [View.read_writes_eq_canon _ _ _ (scover0_A_0 c i arg3 harg3 arg4 harg4 arg5 harg5 arg6 harg6 arg7 harg7 arg8 harg8 arg9 harg9 hc0 x0 x1 x2 x3)]
  exact canon_keys c arg5 harg5 x2
/-- At a point that stores the scratch: the values it leaves. -/
theorem sout_A_1 (c : Dev nD) (i : grid0.Coords) (arg3 : Memref sig .tc .smem S8 .f32) (harg3 : arg3.IsWhole) (arg4 : Memref sig .tc .vmem S512x128 .f32) (harg4 : arg4.IsWhole) (arg5 : Memref sig .tc .vmem S1x1x128x4096 .f32) (harg5 : arg5.IsWhole) (arg6 : Memref sig .tc .vmem S1x1x128x4096 .f32) (harg6 : arg6.IsWhole) (arg7 : Memref sig .tc .vmem S512x128 .f32) (harg7 : arg7.IsWhole) (arg8 : Memref sig .tc .vmem S128x4096 .bf16) (harg8 : arg8.IsWhole) (arg9 : Memref sig .tc .vmem S128x4096 .bf16) (harg9 : arg9.IsWhole) (hc0 : cond0_0 i) (x0 : Vec F S8 .f32) (x1 : Vec F S512x128 .f32) (x2 x3 : Vec F S1x1x128x4096 .f32) :
    sout0_A_1 c i arg3 harg3 arg4 harg4 arg5 harg5 arg6 harg6 arg7 harg7 arg8 harg8 arg9 harg9 hc0 x0 x1 x2 x3 = k0_pay61 x3 := by
  unfold sout0_A_1
  rw [View.read_writes_eq_canon _ _ _ (scover0_A_1 c i arg3 harg3 arg4 harg4 arg5 harg5 arg6 harg6 arg7 harg7 arg8 harg8 arg9 harg9 hc0 x0 x1 x2 x3)]
  exact canon_vals c arg6 harg6 x3

set_option maxHeartbeats 4000000 in
/-- At a point that stores the scratch: the output block is the two stores over the keys and values it stored. -/
theorem out_A (c : Dev nD) (i : grid0.Coords) (arg3 : Memref sig .tc .smem S8 .f32) (harg3 : arg3.IsWhole) (arg4 : Memref sig .tc .vmem S512x128 .f32) (harg4 : arg4.IsWhole) (arg5 : Memref sig .tc .vmem S1x1x128x4096 .f32) (harg5 : arg5.IsWhole) (arg6 : Memref sig .tc .vmem S1x1x128x4096 .f32) (harg6 : arg6.IsWhole) (arg7 : Memref sig .tc .vmem S512x128 .f32) (harg7 : arg7.IsWhole) (arg8 : Memref sig .tc .vmem S128x4096 .bf16) (harg8 : arg8.IsWhole) (arg9 : Memref sig .tc .vmem S128x4096 .bf16) (harg9 : arg9.IsWhole) (hc0 : cond0_0 i) (x0 : Vec F S8 .f32) (x1 : Vec F S512x128 .f32) (x2 x3 : Vec F S1x1x128x4096 .f32) :
    out0_A_4 c i arg3 harg3 arg4 harg4 arg5 harg5 arg6 harg6 arg7 harg7 arg8 harg8 arg9 harg9 hc0 x0 x1 x2 x3 = View.canon (pieces i x0 x1 (k0_pay60 x2) (k0_pay61 x3)) := by
  unfold out0_A_4
  rw [View.read_writes_eq_canon _ _ _ (cover0_A_4 c i arg3 harg3 arg4 harg4 arg5 harg5 arg6 harg6 arg7 harg7 arg8 harg8 arg9 harg9 hc0 x0 x1 x2 x3)]
  unfold kernelRun0_A
  dsimp only
  unfold kernelRun0_A.sl.r_34 kernelRun0_A.sl.r_35 kernelRun0_A.sl.r_36
  rw [st2_eq, st1_eq]
  rw [View.read_writes_junk_eq_canon, View.read_writes_junk_eq_canon, canon_keys, canon_vals]
  dsimp only
  have hk (r : Rect S128x4096) : View.readAt (Elt F) arg8.view r.toLoadRect
      (arg8.view.writes (Elt F) arg8.view.junk [⟨Rect.unit (s := S128x4096) ![0, 0] S128x4096.size inb_S128x4096_S128x4096_0_0, k0_pay60 (View.readAt (Elt F) arg5.view (Rect.unit (s := S1x1x128x4096) ![0, 0, 0, 0] S1x1x128x4096.size inb_S1x1x128x4096_S1x1x128x4096_0_0_0_0).toLoadRect (harg5.unread x2))⟩]) = View.ld (k0_pay60 x2) r := by
    rw [View.readAt_eq_ld, View.read_writes_junk_eq_canon]
    exact congrArg (fun X => View.ld X r) (canon_keys c arg5 harg5 x2)
  have hv (r : Rect S128x4096) : View.readAt (Elt F) arg9.view r.toLoadRect
      (arg9.view.writes (Elt F) arg9.view.junk [⟨Rect.unit (s := S128x4096) ![0, 0] S128x4096.size inb_S128x4096_S128x4096_0_0, k0_pay61 (View.readAt (Elt F) arg6.view (Rect.unit (s := S1x1x128x4096) ![0, 0, 0, 0] S1x1x128x4096.size inb_S1x1x128x4096_S1x1x128x4096_0_0_0_0).toLoadRect (harg6.unread x3))⟩]) = View.ld (k0_pay61 x3) r := by
    rw [View.readAt_eq_ld, View.read_writes_junk_eq_canon]
    exact congrArg (fun X => View.ld X r) (canon_vals c arg6 harg6 x3)
  sl_unfold_words
  simp only [hk, hv]
  simp only [View.readAt_eq_ld, harg3.read_unread, harg4.read_unread]
  rfl

end Cert.Attn
-- ==== Proof.Attn.Math.lean ====
/-
  Stick-breaking weights over the extended reals: softplus in base 2 and in base e, and the weight of a key written both ways.
-/
module

public import Idealize.ShloMosaic.PureOps.Ideal.Laws

@[expose] public section

noncomputable section

namespace Cert.Attn

open Idealize.ShloMosaic

/-- `log2 e` as an extended real. -/
def L : EReal := (((Real.log 2)⁻¹ : ℝ) : EReal)
/-- An eighth of `log2 e`. -/
def L8 : EReal := (((1 / 8) * (Real.log 2)⁻¹ : ℝ) : EReal)

/-- Softplus in base 2, as the kernel computes it. -/
def sp (z : EReal) : EReal := max z 0 + Ideal.log (1 + Ideal.exp2 (0 - max z (-z))) * L

/-- Softplus in base e. -/
def S (z : EReal) : EReal := max z 0 + Ideal.log1p (Ideal.exp (-(max z (-z))))

theorem log2_pos : 0 < Real.log 2 := Real.log_pos (by norm_num)
theorem Lr_pos : 0 < (Real.log 2)⁻¹ := inv_pos.mpr log2_pos
theorem L_nonneg : 0 ≤ L := EReal.coe_nonneg.mpr Lr_pos.le
theorem L_ne_top : L ≠ ⊤ := EReal.coe_ne_top _
theorem top_mul_L : ⊤ * L = ⊤ := EReal.top_mul_coe_of_pos Lr_pos
theorem bot_mul_L : ⊥ * L = ⊥ := EReal.bot_mul_coe_of_pos Lr_pos

/-- Softplus of a real. -/
def sR (x : ℝ) : ℝ := max x 0 + Real.log (1 + Real.exp (-|x|))

theorem coe_max' (x y : ℝ) : ((max x y : ℝ) : EReal) = max (x : EReal) (y : EReal) := EReal.coe_strictMono.monotone.map_max
theorem log_one : Ideal.log 1 = 0 := by
  rw [← EReal.coe_one, Ideal.log_coe, if_neg (by norm_num), Real.log_one, EReal.coe_zero]

theorem max_neg_coe (x : ℝ) : max (x : EReal) (-(x : EReal)) = ((|x| : ℝ) : EReal) := by
  rw [← EReal.coe_neg, ← coe_max']; rfl

theorem S_coe (x : ℝ) : S x = (sR x : EReal) := by
  have h : ¬ (1 + Real.exp (-|x|) ≤ 0) := not_le.mpr (by positivity)
  unfold S sR Ideal.log1p
  rw [max_neg_coe, ← EReal.coe_neg, Ideal.exp_coe, ← EReal.coe_one, ← EReal.coe_add, Ideal.log_coe, if_neg h, ← EReal.coe_zero,
    ← coe_max', ← EReal.coe_add]

theorem S_top : S ⊤ = ⊤ := by
  simp [S, Ideal.log1p, log_one]
theorem S_bot : S ⊥ = 0 := by
  simp [S, Ideal.log1p, log_one]

theorem sR_eq (x : ℝ) : sR x = Real.log (1 + Real.exp x) := by
  unfold sR
  rcases le_total 0 x with h | h
  · rw [max_eq_left h, abs_of_nonneg h]
    have : 1 + Real.exp x = Real.exp x * (1 + Real.exp (-x)) := by
      rw [mul_add, ← Real.exp_add]; simp [add_comm]
    rw [this, Real.log_mul (Real.exp_pos x).ne' (by positivity), Real.log_exp]
  · rw [max_eq_right h, abs_of_nonpos h, neg_neg, zero_add]

theorem sR_neg (x : ℝ) : sR (-x) = sR x - x := by
  rw [sR_eq, sR_eq]
  have : 1 + Real.exp x = Real.exp x * (1 + Real.exp (-x)) := by
    rw [mul_add, ← Real.exp_add]; simp [add_comm]
  rw [this, Real.log_mul (Real.exp_pos x).ne' (by positivity), Real.log_exp]; ring

theorem sR_nonneg (x : ℝ) : 0 ≤ sR x := by
  rw [sR_eq]; exact Real.log_nonneg (by linarith [Real.exp_pos x])

theorem S_nonneg (z : EReal) : 0 ≤ S z := by
  induction z using EReal.rec with
  | bot => rw [S_bot]
  | top => rw [S_top]; exact le_top
  | coe x => rw [S_coe]; exact EReal.coe_nonneg.mpr (sR_nonneg x)

theorem rpow_two (x : ℝ) : Real.rpow 2 (x * (Real.log 2)⁻¹) = Real.exp x := by
  rw [show Real.rpow 2 (x * (Real.log 2)⁻¹) = (2 : ℝ) ^ (x * (Real.log 2)⁻¹) from rfl]
  rw [Real.rpow_def_of_pos (by norm_num)]
  congr 1; field_simp [log2_pos.ne']

/-- Scaling the logit by `log2 e` scales the softplus by it. -/
theorem sp_mul (z : EReal) : sp (z * L) = S z * L := by
  induction z using EReal.rec with
  | bot => rw [bot_mul_L, S_bot]; simp [sp, log_one]
  | top => rw [top_mul_L, S_top, top_mul_L]; simp [sp, log_one]
  | coe x =>
    have h : ¬ (1 + Real.exp (-|x|) ≤ 0) := not_le.mpr (by positivity)
    have ha : |x * (Real.log 2)⁻¹| = |x| * (Real.log 2)⁻¹ := by rw [abs_mul, abs_of_pos Lr_pos]
    rw [S_coe]
    unfold sp L
    rw [← EReal.coe_mul, max_neg_coe, ← EReal.coe_zero, ← EReal.coe_sub, Ideal.exp2_coe, ha,
      show (0 : ℝ) - |x| * (Real.log 2)⁻¹ = -|x| * (Real.log 2)⁻¹ by ring, rpow_two,
      ← EReal.coe_one, ← EReal.coe_add, Ideal.log_coe, if_neg h, ← coe_max', ← EReal.coe_mul, ← EReal.coe_mul, ← EReal.coe_add]
    congr 1
    unfold sR
    rw [add_mul, max_mul_of_nonneg _ _ Lr_pos.le, zero_mul]

/-- A weight both ways: with `R` the softplus summed over the keys between, `2^(z·L - (S z + R)·L)` is
    `exp (log_sigmoid z + rest)`, `rest` the sum of the log-complements from the key on, less its own. -/
theorem weight_eq (z R : EReal) (hR : 0 ≤ R) :
    Ideal.exp2 (z * L - (S z + R) * L) = Ideal.exp (-(S (-z)) + (-(S z + R) - -(S z))) := by
  induction z using EReal.rec with
  | bot => rw [bot_mul_L, sub_eq_add_neg, EReal.bot_add, EReal.neg_bot, S_top, EReal.neg_top, EReal.bot_add]; rfl
  | top =>
    rw [S_top, EReal.top_add_of_ne_bot (ne_bot_of_le_ne_bot (by simp) hR), top_mul_L]
    simp [S_bot, sub_eq_add_neg]
  | coe x =>
    induction R using EReal.rec with
    | bot => simp at hR
    | top =>
      rw [S_coe, EReal.coe_add_top, top_mul_L, EReal.neg_top, sub_eq_add_neg, sub_eq_add_neg, EReal.neg_top, EReal.add_bot,
        EReal.bot_add, EReal.add_bot]; rfl
    | coe r =>
      rw [← EReal.coe_neg x, S_coe, S_coe]
      unfold L
      rw [← EReal.coe_add, ← EReal.coe_mul, ← EReal.coe_mul, ← EReal.coe_sub, Ideal.exp2_coe]
      rw [← sub_mul, rpow_two, ← EReal.coe_neg, ← EReal.coe_neg, ← EReal.coe_neg, ← EReal.coe_sub, ← EReal.coe_add, Ideal.exp_coe]
      congr 2
      rw [sR_neg]; ring

/-- Negation goes through a sum of nonnegative terms. -/
theorem sum_neg {ι : Type*} (s : Finset ι) (f : ι → EReal) (hf : ∀ i ∈ s, 0 ≤ f i) : ∑ i ∈ s, -(f i) = -∑ i ∈ s, f i := by
  classical
  induction s using Finset.induction_on with
  | empty => simp
  | insert a s ha ih =>
    have h1 : f a ≠ ⊥ := ne_bot_of_le_ne_bot (by simp) (hf a (Finset.mem_insert_self a s))
    have h2 : ∑ i ∈ s, f i ≠ ⊥ := ne_bot_of_le_ne_bot (by simp) (Finset.sum_nonneg fun i hi => hf i (Finset.mem_insert_of_mem hi))
    rw [Finset.sum_insert ha, Finset.sum_insert ha, ih fun i hi => hf i (Finset.mem_insert_of_mem hi), EReal.neg_add (.inl h1) (.inr h2), sub_eq_add_neg]

/-- A factor that is a nonnegative real goes out of a sum. -/
theorem sum_mul_real {ι : Type*} (s : Finset ι) (f : ι → EReal) (c : EReal) (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, mul_comm _ c, mul_comm _ c, mul_comm _ c, EReal.left_distrib_of_nonneg_of_ne_top h0 ht]

end Cert.Attn

end
-- ==== Proof.Attn.Reads.lean ====
/-
  The attention kernel's operations read at one index over the extended reals.
-/
module

public import proofs.«01_k».proof.Proof.Attn.Body
public import proofs.«01_k».proof.Proof.Attn.Math
public import Idealize.ShloMosaic.Lib.Pointwise
public import Idealize.ShloMosaic.Lib.MatmulPlain

@[expose] public section

set_option maxRecDepth 65536

noncomputable section

namespace Cert.Attn

open Idealize.ShloMosaic Idealize.ShloMosaic.TcCoe Idealize.ShloMosaic.Tactic
open Cert.KernelIdeal Cert.KernelIdeal.Gen

theorem named_log2e : (Named.named κ "log2e" 0x3FB8AA3B#32 : Ideal .f32) = L := rfl
theorem named_scale : (Named.named κ "scale" 0x3E38AA3B#32 : Ideal .f32) = L8 := rfl

/-- A logit: the product of a query row and a key column, plus the bias. -/
theorem zBlk_apply (b : EReal) (qh : FVec Ideal S256x128 .bf16) (kb : Vec Ideal S128x256 .bf16) (r c : Fin 256) :
    zBlk (F := Ideal) b qh kb (ix2 r c) = (∑ k : Fin 128, (qh (ix2 r k) : EReal) * kb (ix2 k c)) + b := by
  pointwise [zBlk]

/-- The product with the triangle. -/
theorem csBlk_apply (tri : FVec Ideal S256x256 .bf16) (sp : FVec Ideal S256x256 .f32) (r c : Fin 256) :
    csBlk (F := Ideal) tri sp (ix2 r c) = ∑ k : Fin 256, (sp (ix2 r k) : EReal) * tri (ix2 k c) := by
  pointwise [csBlk]

/-- The output grows by the weights times the values. -/
theorem oBlk_apply (a : FVec Ideal S256x256 .f32) (vb : Vec Ideal S128x256 .bf16) (o : FVec Ideal S256x128 .f32) (r : Fin 256) (d : Fin 128) :
    oBlk (F := Ideal) a vb o (ix2 r d) = o (ix2 r d) + ∑ k : Fin 256, (a (ix2 r k) : EReal) * vb (ix2 d k) := by
  pointwise [oBlk]

/-- The accumulated softplus grows by the block's whole sum. -/
theorem rBlk_apply (cs : FVec Ideal S256x256 .f32) (p : FVec Ideal S256x1 .f32) (r : Fin 256) :
    rBlk (F := Ideal) cs p (ix2 r (0 : Fin 1)) = p (ix2 r (0 : Fin 1)) + cs (ix2 r (0 : Fin 256)) := by
  pointwise [rBlk]

/-- A weight. -/
theorem aBlk_apply (z cs : FVec Ideal S256x256 .f32) (p : FVec Ideal S256x1 .f32) (r c : Fin 256) :
    aBlk (F := Ideal) z cs p (ix2 r c) = Ideal.exp2 (z (ix2 r c) - (p (ix2 r (0 : Fin 1)) + cs (ix2 r c))) := by
  pointwise [aBlk]
  rfl

/-- The softplus at an index. -/
theorem spBlk_apply (z : FVec Ideal S256x256 .f32) (r c : Fin 256) :
    spBlk (F := Ideal) z (ix2 r c) = sp (z (ix2 r c)) := by
  pointwise [spBlk]
  rfl

theorem toInt_small (r : Fin 256) : (BitVec.ofNat 32 r.val).toInt = r.val := by
  have h : (BitVec.ofNat 32 r.val).toNat = r.val := by
    rw [BitVec.toNat_ofNat]; exact Nat.mod_eq_of_lt (by omega)
  rw [BitVec.toInt_eq_toNat_of_lt (by rw [h]; omega), h]

theorem cmp_sge_bv (r c : Fin 256) :
    IntOp.cmpi CmpIPredicate.sge (BitVec.ofNat 32 r.val) (BitVec.ofNat 32 c.val) = if c ≤ r then 1#1 else 0#1 := by
  simp only [IntOp.cmpi, BitVec.sle, BitVec.slt, toInt_small, Fin.le_def, Nat.cast_le]
  by_cases h : c.val ≤ r.val <;> simp [h]

theorem cmp_slt_bv (r c : Fin 256) :
    IntOp.cmpi CmpIPredicate.slt (BitVec.ofNat 32 r.val) (BitVec.ofNat 32 c.val) = if r < c then 1#1 else 0#1 := by
  simp only [IntOp.cmpi, BitVec.sle, BitVec.slt, toInt_small, Fin.lt_def, Nat.cast_lt]
  by_cases h : r.val < c.val <;> simp [h]

/-- The triangle: one where the row is at or past the column. -/
theorem tri_apply (r c : Fin 256) :
    k0_pay63 (F := Ideal) (ix2 r c) = if c ≤ r then (1 : EReal) else 0 := by
  pointwise [k0_pay63]
  rw [cmp_sge_bv]
  split <;> rfl

/-- The mask: the value where the column is before the row, zero elsewhere. -/
theorem masked_apply (x : FVec Ideal S256x256 .f32) (r c : Fin 256) :
    masked (F := Ideal) k0_pay62 x (ix2 r c) = if c < r then (x (ix2 r c) : EReal) else 0 := by
  pointwise [masked, k0_pay62]
  rw [cmp_slt_bv]
  split <;> rfl

theorem lane0 : ∀ k : Fin 128, (IntOp.cmpi CmpIPredicate.eq
        (Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 k.val) 64#32) 0#32))
          (IntOp.subi (IntOp.divsi ArithUnit.vector (BitVec.ofNat 32 k.val) 64#32) 1#32)
          (IntOp.divsi ArithUnit.vector (BitVec.ofNat 32 k.val) 64#32))
        0#32) = if k.val < 64 then 1#1 else 0#1 := by decide +kernel

theorem lane1 : ∀ k : Fin 128, (IntOp.cmpi CmpIPredicate.eq
        (Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 k.val) 64#32) 0#32))
          (IntOp.subi (IntOp.divsi ArithUnit.vector (BitVec.ofNat 32 k.val) 64#32) 1#32)
          (IntOp.divsi ArithUnit.vector (BitVec.ofNat 32 k.val) 64#32))
        1#32) = if k.val < 64 then 0#1 else 1#1 := by decide +kernel

/-- Row block 0, first head: the scaled queries in lanes 0 to 63, zero elsewhere. -/
theorem q00_apply (x : Vec Ideal S512x128 .f32) (r : Fin 256) (k : Fin 128) :
    q00 (F := Ideal) x (ix2 r k) = if k.val < 64 then (x (ix2 (⟨r.val, by omega⟩ : Fin 512) k) : EReal) * L8 else 0 := by
  pointwise [q00, k0_pay69, k0_pay66, k0_pay67, k0_pay68, xTop]
  rw [lane0, named_scale]
  split <;> rfl
/-- Row block 0, second head. -/
theorem q01_apply (x : Vec Ideal S512x128 .f32) (r : Fin 256) (k : Fin 128) :
    q01 (F := Ideal) x (ix2 r k) = if k.val < 64 then 0 else (x (ix2 (⟨r.val, by omega⟩ : Fin 512) k) : EReal) * L8 := by
  pointwise [q01, k0_pay70, k0_pay66, xTop]
  rw [lane1, named_scale]
  split <;> rfl
/-- Row block 1, first head. -/
theorem q10_apply (x : Vec Ideal S512x128 .f32) (r : Fin 256) (k : Fin 128) :
    q10 (F := Ideal) x (ix2 r k) = if k.val < 64 then (x (ix2 (⟨256 + r.val, by omega⟩ : Fin 512) k) : EReal) * L8 else 0 := by
  pointwise [q10, k0_pay72, k0_pay71, xBot]
  rw [lane0, named_scale]
  split <;> rfl
/-- Row block 1, second head. -/
theorem q11_apply (x : Vec Ideal S512x128 .f32) (r : Fin 256) (k : Fin 128) :
    q11 (F := Ideal) x (ix2 r k) = if k.val < 64 then 0 else (x (ix2 (⟨256 + r.val, by omega⟩ : Fin 512) k) : EReal) * L8 := by
  pointwise [q11, k0_pay75, k0_pay73, k0_pay74, k0_pay71, xBot]
  rw [lane1, named_scale]
  split <;> rfl

theorem lane_lt : ∀ k : Fin 128, IntOp.cmpi CmpIPredicate.slt (BitVec.ofNat 32 k.val) 64#32 = if k.val < 64 then 1#1 else 0#1 := by
  decide +kernel

/-- The lanes' choice between the two heads' chains, row block 0. -/
theorem pick0_apply (a b : FVec Ideal S256x128 .f32) (r : Fin 256) (k : Fin 128) :
    k0_pay127 (F := Ideal) lanes a b (ix2 r k) = (if k.val < 64 then a (ix2 r k) else b (ix2 r k) : EReal) := by
  pointwise [k0_pay127]
  rw [lane_lt]
  split <;> rfl
/-- The lanes' choice, row block 1. -/
theorem pick1_apply (a b : FVec Ideal S256x128 .f32) (r : Fin 256) (k : Fin 128) :
    k0_pay1 (F := Ideal) lanes a b (ix2 r k) = (if k.val < 64 then a (ix2 r k) else b (ix2 r k) : EReal) := by
  pointwise [k0_pay1]
  rw [lane_lt]
  split <;> rfl

/-- The keys in scratch are the keys' block. -/
theorem keys_apply (x : Vec Ideal S1x1x128x4096 .f32) (d : Fin 128) (j : Fin 4096) :
    k0_pay60 (F := Ideal) x (ix2 d j) = (x (ix4 0 0 d j) : EReal) := by
  pointwise [k0_pay60]
/-- The values in scratch are the values' block. -/
theorem vals_apply (x : Vec Ideal S1x1x128x4096 .f32) (d : Fin 128) (j : Fin 4096) :
    k0_pay61 (F := Ideal) x (ix2 d j) = (x (ix4 0 0 d j) : EReal) := by
  pointwise [k0_pay61]

end Cert.Attn

end
-- ==== Proof.Attn.Chain.lean ====
/-
  A chain's invariant: after the blocks from column `lo` on, a row has accumulated the softplus of its keys from `lo` on and the
  weighted values of those keys. A step keeps it, 256 columns further down.
-/
module

public import proofs.«01_k».proof.Proof.Attn.Reads

@[expose] public section

set_option maxRecDepth 65536

noncomputable section

namespace Cert.Attn

open Idealize.ShloMosaic Idealize.ShloMosaic.TcCoe Idealize.ShloMosaic.Tactic
open Cert.KernelIdeal Cert.KernelIdeal.Gen

/-- The softplus of key `j` for the query at position `t`: zero from the query on. -/
def P (t : ℕ) (Z : ℕ → EReal) (j : ℕ) : EReal := if j < t then sp (Z j) else 0
/-- The softplus of the keys from `lo` on. -/
def T (t : ℕ) (Z : ℕ → EReal) (lo : ℕ) : EReal := ∑ j ∈ Finset.Ico lo 4096, P t Z j
/-- The weight of key `j`. -/
def W (t : ℕ) (Z : ℕ → EReal) (j : ℕ) : EReal := if j < t then Ideal.exp2 (Z j - T t Z j) else 0
/-- The weighted values of the keys from `lo` on. -/
def O (t : ℕ) (Z V : ℕ → EReal) (lo : ℕ) : EReal := ∑ j ∈ Finset.Ico lo 4096, W t Z j * V j

/-- The chain's invariant at column `lo`: rows `r` are the queries at positions `t₀ + r`. -/
structure Inv (t₀ : ℕ) (Z : Fin 256 → ℕ → EReal) (V : Fin 128 → ℕ → EReal) (lo : ℕ) (p : Acc Ideal) : Prop where
  out : ∀ (r : Fin 256) (d : Fin 128), (p.1 (ix2 r d) : EReal) = O (t₀ + r.val) (Z r) (V d) lo
  soft : ∀ r : Fin 256, (p.2 (ix2 r (0 : Fin 1)) : EReal) = T (t₀ + r.val) (Z r) lo

/-- A sum over 256 consecutive columns. -/
theorem block_sum (f : ℕ → EReal) (l : ℕ) : ∑ k : Fin 256, f (l + k.val) = ∑ j ∈ Finset.Ico l (l + 256), f j := by
  rw [Fin.sum_univ_eq_sum_range (fun k => f (l + k)) 256, Finset.sum_Ico_eq_sum_range, Nat.add_sub_cancel_left]

/-- The product with the triangle is the sum from a column to the block's end. -/
theorem tail_sum (f : ℕ → EReal) (l : ℕ) (c : Fin 256) :
    ∑ k : Fin 256, f (l + k.val) * (if c ≤ k then (1 : EReal) else 0) = ∑ j ∈ Finset.Ico (l + c.val) (l + 256), f j := by
  have h1 : ∀ k : Fin 256, f (l + k.val) * (if c ≤ k then (1 : EReal) else 0)
      = (fun j : ℕ => if l + c.val ≤ j then f j else 0) (l + k.val) := by
    intro k
    by_cases h : c ≤ k
    · have : l + c.val ≤ l + k.val := Nat.add_le_add_left h l
      simp only [if_pos h, if_pos this, mul_one]
    · have : ¬ l + c.val ≤ l + k.val := fun h' => h (Nat.le_of_add_le_add_left h')
      simp only [if_neg h, if_neg this, mul_zero]
  rw [Finset.sum_congr rfl fun k _ => h1 k, block_sum (fun j => if l + c.val ≤ j then f j else 0), ← Finset.sum_filter]
  congr 1
  ext j
  simp only [Finset.mem_filter, Finset.mem_Ico]
  omega

theorem T_split (t : ℕ) (Z : ℕ → EReal) (a b : ℕ) (h : a ≤ b) (h' : b ≤ 4096) :
    T t Z a = (∑ j ∈ Finset.Ico a b, P t Z j) + T t Z b :=
  (Finset.sum_Ico_consecutive _ h h').symm
theorem O_split (t : ℕ) (Z V : ℕ → EReal) (a b : ℕ) (h : a ≤ b) (h' : b ≤ 4096) :
    O t Z V a = (∑ j ∈ Finset.Ico a b, W t Z j * V j) + O t Z V b :=
  (Finset.sum_Ico_consecutive _ h h').symm

/-- A step on the block at column `l` from a masked softplus and masked weights, whichever way they were masked. -/
theorem inv_of_block (t₀ : ℕ) (Z : Fin 256 → ℕ → EReal) (V : Fin 128 → ℕ → EReal) (l : ℕ) (hl : l + 256 ≤ 4096) (p : Acc Ideal)
    (hp : Inv t₀ Z V (l + 256) p) (z s a : FVec Ideal S256x256 .f32) (vb : Vec Ideal S128x256 .bf16)
    (hs : ∀ r c : Fin 256, (s (ix2 r c) : EReal) = P (t₀ + r.val) (Z r) (l + c.val))
    (hz : ∀ r c : Fin 256, (z (ix2 r c) : EReal) = Z r (l + c.val))
    (ha : ∀ r c : Fin 256, (a (ix2 r c) : EReal) = if l + c.val < t₀ + r.val then aBlk (F := Ideal) z (csBlk (F := Ideal) k0_pay63 s) p.2 (ix2 r c) else 0)
    (hv : ∀ (d : Fin 128) (c : Fin 256), (vb (ix2 d c) : EReal) = V d (l + c.val)) :
    Inv t₀ Z V l (oBlk a vb p.1, rBlk (csBlk k0_pay63 s) p.2) := by
  have hcs : ∀ r c : Fin 256, (csBlk (F := Ideal) k0_pay63 s (ix2 r c) : EReal)
      = ∑ j ∈ Finset.Ico (l + c.val) (l + 256), P (t₀ + r.val) (Z r) j := by
    intro r c
    rw [csBlk_apply, ← tail_sum]
    exact Finset.sum_congr rfl fun k _ => by rw [hs, tri_apply]
  have hT : ∀ r c : Fin 256, (p.2 (ix2 r (0 : Fin 1)) : EReal) + csBlk (F := Ideal) k0_pay63 s (ix2 r c)
      = T (t₀ + r.val) (Z r) (l + c.val) := by
    intro r c
    rw [hcs, hp.soft, T_split _ _ (l + c.val) (l + 256) (by omega) hl, add_comm]
  refine ⟨fun r d => ?_, fun r => ?_⟩
  · show (oBlk (F := Ideal) a vb p.1 (ix2 r d) : EReal) = _
    rw [oBlk_apply, hp.out, O_split _ _ _ l (l + 256) (by omega) hl, add_comm, ← block_sum]
    congr 1
    refine Finset.sum_congr rfl fun k _ => ?_
    rw [ha, hv, aBlk_apply, hT, hz]
    rfl
  · show (rBlk (F := Ideal) (csBlk k0_pay63 s) p.2 (ix2 r (0 : Fin 1)) : EReal) = _
    rw [rBlk_apply]
    exact hT r 0

/-- A step past a block wholly before the queries. -/
theorem step_inv (t₀ : ℕ) (Z : Fin 256 → ℕ → EReal) (V : Fin 128 → ℕ → EReal) (l : ℕ) (hl : l + 256 ≤ 4096) (hlt : l + 256 ≤ t₀)
    (p : Acc Ideal) (hp : Inv t₀ Z V (l + 256) p) (b : EReal) (qh : FVec Ideal S256x128 .bf16) (kb vb : Vec Ideal S128x256 .bf16)
    (hz : ∀ r c : Fin 256, (zBlk (F := Ideal) b qh kb (ix2 r c) : EReal) = Z r (l + c.val))
    (hv : ∀ (d : Fin 128) (c : Fin 256), (vb (ix2 d c) : EReal) = V d (l + c.val)) :
    Inv t₀ Z V l (step (F := Ideal) k0_pay63 b qh kb vb p) := by
  refine inv_of_block t₀ Z V l hl p hp (zBlk (F := Ideal) b qh kb) _ _ vb (fun r c => ?_) hz (fun r c => ?_) hv
  · rw [spBlk_apply, hz, P, if_pos (by omega)]
  · rw [if_pos (by omega)]

/-- A step past the block on the diagonal. -/
theorem stepMasked_inv (l : ℕ) (Z : Fin 256 → ℕ → EReal) (V : Fin 128 → ℕ → EReal) (hl : l + 256 ≤ 4096)
    (p : Acc Ideal) (hp : Inv l Z V (l + 256) p) (b : EReal) (qh : FVec Ideal S256x128 .bf16) (kb vb : Vec Ideal S128x256 .bf16)
    (hz : ∀ r c : Fin 256, (zBlk (F := Ideal) b qh kb (ix2 r c) : EReal) = Z r (l + c.val))
    (hv : ∀ (d : Fin 128) (c : Fin 256), (vb (ix2 d c) : EReal) = V d (l + c.val)) :
    Inv l Z V l (stepMasked (F := Ideal) k0_pay62 k0_pay63 b qh kb vb p) := by
  have hlt : ∀ r c : Fin 256, (l + c.val < l + r.val) = (c < r) := fun r c => by
    rw [Fin.lt_def]; exact propext (Nat.add_lt_add_iff_left)
  refine inv_of_block l Z V l hl p hp (zBlk (F := Ideal) b qh kb) _ _ vb (fun r c => ?_) hz (fun r c => ?_) hv
  · rw [masked_apply, spBlk_apply, hz, P]
    simp only [hlt]
  · rw [masked_apply]
    simp only [hlt]

/-- A chain before its first block, at a column past every query. -/
theorem acc0_inv (t₀ : ℕ) (Z : Fin 256 → ℕ → EReal) (V : Fin 128 → ℕ → EReal) (lo : ℕ) (h : t₀ + 256 ≤ lo) :
    Inv t₀ Z V lo (acc0 (F := Ideal)) := by
  refine ⟨fun r d => ?_, fun r => ?_⟩
  · have h1 : ((acc0 (F := Ideal)).1 (ix2 r d) : EReal) = 0 := by
      show (broadcast S256x128 (Scalar.ofBits .f32 0x00000000#32 : Ideal .f32) (ix2 r d) : EReal) = 0
      pointwise
    rw [h1]
    refine (Finset.sum_eq_zero fun j hj => ?_).symm
    rw [Finset.mem_Ico] at hj
    rw [W, if_neg (by omega), zero_mul]
  · have h1 : ((acc0 (F := Ideal)).2 (ix2 r (0 : Fin 1)) : EReal) = 0 := by
      show (broadcast S256x1 (Scalar.ofBits .f32 0x00000000#32 : Ideal .f32) (ix2 r (0 : Fin 1)) : EReal) = 0
      pointwise
    rw [h1]
    refine (Finset.sum_eq_zero fun j hj => ?_).symm
    rw [Finset.mem_Ico] at hj
    rw [P, if_neg (by omega)]

end Cert.Attn

end
-- ==== Proof.Attn.Loop.lean ====
/-
  The four chains of a grid point over all their blocks: the diagonal blocks, then the loop, down to column zero.
-/
module

public import proofs.«01_k».proof.Proof.Attn.Chain

@[expose] public section

set_option maxRecDepth 65536

noncomputable section

namespace Cert.Attn

open Idealize.ShloMosaic Idealize.ShloMosaic.TcCoe Idealize.ShloMosaic.Tactic
open Cert.KernelIdeal Cert.KernelIdeal.Gen

theorem trips_q : ∀ q : Fin 8, Scf.trips (0#32 : BitVec 32)
    (Scalar.addi 0#32 (Scalar.muli (Scalar.divsi (Scalar.subi (BitVec.ofNat 32 q.val) 0#32) 1#32) 1#32)) 1#32 = q.val := by
  decide +kernel

/-- The loop makes as many trips as the point's third coordinate. -/
theorem trips1 (i : grid0.Coords) : (k0_t1_loop i).trips = (i 2).val := trips_q (i 2)

theorem off2_q : ∀ q : Fin 8, (Scalar.indexCast (Scalar.muli (Scalar.addi (Scalar.muli 2#32 (BitVec.ofNat 32 q.val)) 1#32) 256#32)).toNat
    = q.val * 512 + 256 := by decide +kernel
theorem off3_q : ∀ q : Fin 8, (Scalar.indexCast (Scalar.muli (Scalar.muli 2#32 (BitVec.ofNat 32 q.val)) 256#32)).toNat
    = q.val * 512 := by decide +kernel
theorem off4_q : ∀ q n : Fin 8, n < q → (Scalar.indexCast (Scalar.muli (Scalar.subi (Scalar.subi (Scalar.muli 2#32 (BitVec.ofNat 32 q.val)) 1#32)
    (Scalar.muli 2#32 (Scf.iv 0#32 1#32 n.val))) 256#32)).toNat = (q.val - n.val - 1) * 512 + 256 := by decide +kernel
theorem off5_q : ∀ q n : Fin 8, n < q → (Scalar.indexCast (Scalar.muli (Scalar.subi (Scalar.subi (Scalar.subi (Scalar.muli 2#32 (BitVec.ofNat 32 q.val)) 1#32)
    (Scalar.muli 2#32 (Scf.iv 0#32 1#32 n.val))) 1#32) 256#32)).toNat = (q.val - n.val - 1) * 512 := by decide +kernel

theorem off2_eq (i : grid0.Coords) : k0_off2 i = ![0, (i 2).val * 512 + 256] := congrArg (fun x => ![0, x]) (off2_q (i 2))
theorem off3_eq (i : grid0.Coords) : k0_off3 i = ![0, (i 2).val * 512] := congrArg (fun x => ![0, x]) (off3_q (i 2))

theorem q_lt (i : grid0.Coords) : (i 2).val < 8 := (i 2).isLt

theorem off4_eq (i : grid0.Coords) (n : ℕ) (h : n < (k0_t1_loop i).trips) :
    k0_off4 i ⟨n, h⟩ = ![0, ((i 2).val - n - 1) * 512 + 256] := by
  have h' : n < (i 2).val := trips1 i ▸ h
  exact congrArg (fun x => ![0, x]) (off4_q (i 2) ⟨n, h'.trans (q_lt i)⟩ h')
theorem off5_eq (i : grid0.Coords) (n : ℕ) (h : n < (k0_t1_loop i).trips) :
    k0_off5 i ⟨n, h⟩ = ![0, ((i 2).val - n - 1) * 512] := by
  have h' : n < (i 2).val := trips1 i ▸ h
  exact congrArg (fun x => ![0, x]) (off5_q (i 2) ⟨n, h'.trans (q_lt i)⟩ h')

/-- The logits of row `r` against the key columns. -/
def Zof (b : EReal) (q : FVec Ideal S256x128 .bf16) (kb : Vec Ideal S128x4096 .bf16) (r : Fin 256) (j : ℕ) : EReal :=
  if h : j < 4096 then (∑ k : Fin 128, (q (ix2 r k) : EReal) * kb (ix2 k (⟨j, h⟩ : Fin 4096))) + b else 0
/-- The value columns, lane by lane. -/
def Vof (vb : Vec Ideal S128x4096 .bf16) (d : Fin 128) (j : ℕ) : EReal :=
  if h : j < 4096 then vb (ix2 d (⟨j, h⟩ : Fin 4096)) else 0

/-- A block of 256 columns read at an index. -/
theorem ld_cols (x : Vec Ideal S128x4096 .bf16) (off : Fin 2 → ℕ) (l : ℕ) (hoff : off = ![0, l])
    (h : ∀ a, off a + S128x256.size a ≤ S128x4096.size a) (hl : l + 256 ≤ 4096) (k : Fin 128) (c : Fin 256) :
    (View.ld x (Rect.unit (s := S128x4096) off S128x256.size h) (ix2 k c) : EReal) = x (ix2 k (⟨l + c.val, by omega⟩ : Fin 4096)) := by
  subst hoff
  refine congrArg x (funext fun a => Fin.ext ?_)
  match a with
  | ⟨0, _⟩ => show 0 + 1 * k.val = k.val; omega
  | ⟨1, _⟩ => show l + 1 * c.val = l + c.val; omega

section
variable (i : grid0.Coords) (b : EReal) (q : FVec Ideal S256x128 .bf16) (kb vb : Vec Ideal S128x4096 .bf16)
  (off : Fin 2 → ℕ) (l : ℕ) (hoff : off = ![0, l]) (h : ∀ a, off a + S128x256.size a ≤ S128x4096.size a) (hl : l + 256 ≤ 4096)

include hoff hl

theorem z_cols (r c : Fin 256) :
    (zBlk (F := Ideal) b q (View.ld kb (Rect.unit (s := S128x4096) off S128x256.size h)) (ix2 r c) : EReal) = Zof b q kb r (l + c.val) := by
  rw [zBlk_apply, Zof, dif_pos (by omega)]
  congr 1
  exact Finset.sum_congr rfl fun k _ => congrArg (fun y : EReal => (q (ix2 r k) : EReal) * y) (ld_cols kb off l hoff h hl k c)

theorem v_cols (d : Fin 128) (c : Fin 256) :
    (View.ld vb (Rect.unit (s := S128x4096) off S128x256.size h) (ix2 d c) : EReal) = Vof vb d (l + c.val) := by
  rw [Vof, dif_pos (by omega)]
  exact ld_cols vb off l hoff h hl d c

/-- A step on the block of columns from `l` on, before every query. -/
theorem step_cols (t₀ : ℕ) (hlt : l + 256 ≤ t₀) (p : Acc Ideal) (hp : Inv t₀ (Zof b q kb) (Vof vb) (l + 256) p) :
    Inv t₀ (Zof b q kb) (Vof vb) l (step (F := Ideal) k0_pay63 b q (View.ld kb (Rect.unit (s := S128x4096) off S128x256.size h))
      (View.ld vb (Rect.unit (s := S128x4096) off S128x256.size h)) p) :=
  step_inv t₀ _ _ l hl hlt p hp b q _ _ (z_cols b q kb off l hoff h hl) (v_cols vb off l hoff h hl)

/-- A step on the diagonal block. -/
theorem stepMasked_cols (p : Acc Ideal) (hp : Inv l (Zof b q kb) (Vof vb) (l + 256) p) :
    Inv l (Zof b q kb) (Vof vb) l (stepMasked (F := Ideal) k0_pay62 k0_pay63 b q (View.ld kb (Rect.unit (s := S128x4096) off S128x256.size h))
      (View.ld vb (Rect.unit (s := S128x4096) off S128x256.size h)) p) :=
  stepMasked_inv l _ _ hl p hp b q _ _ (z_cols b q kb off l hoff h hl) (v_cols vb off l hoff h hl)
end

/-- Row block 0 past its diagonal block. -/
theorem startTop_inv (i : grid0.Coords) (b : EReal) (q : FVec Ideal S256x128 .bf16) (kb vb : Vec Ideal S128x4096 .bf16) :
    Inv ((i 2).val * 512) (Zof b q kb) (Vof vb) ((i 2).val * 512) (startTop (F := Ideal) i b q kb vb) := by
  have hq := q_lt i
  exact stepMasked_cols b q kb vb _ _ (off3_eq i) _ (by omega) _ (acc0_inv _ _ _ _ (by omega))

/-- Row block 1 past its diagonal block and the one before. -/
theorem startBot_inv (i : grid0.Coords) (b : EReal) (q : FVec Ideal S256x128 .bf16) (kb vb : Vec Ideal S128x4096 .bf16) :
    Inv ((i 2).val * 512 + 256) (Zof b q kb) (Vof vb) ((i 2).val * 512) (startBot (F := Ideal) i b q kb vb) := by
  have hq := q_lt i
  refine step_cols b q kb vb _ _ (off3_eq i) _ (by omega) _ (by omega) _ ?_
  exact stepMasked_cols b q kb vb _ _ (off2_eq i) _ (by omega) _ (acc0_inv _ _ _ _ (by omega))

/-- Two steps of one trip of the loop. -/
theorem step2_inv (i : grid0.Coords) (b : EReal) (q : FVec Ideal S256x128 .bf16) (kb vb : Vec Ideal S128x4096 .bf16) (t₀ : ℕ)
    (ht : (i 2).val * 512 ≤ t₀) (n : ℕ) (h : n < (k0_t1_loop i).trips) (p : Acc Ideal)
    (hp : Inv t₀ (Zof b q kb) (Vof vb) (((i 2).val - n) * 512) p) :
    Inv t₀ (Zof b q kb) (Vof vb) (((i 2).val - (n + 1)) * 512)
      (step2 (F := Ideal) k0_pay63 b q (View.ld kb (Rect.unit (s := S128x4096) (k0_off4 i ⟨n, h⟩) S128x256.size (k0_off4_inb i ⟨n, h⟩)))
        (View.ld vb (Rect.unit (s := S128x4096) (k0_off4 i ⟨n, h⟩) S128x256.size (k0_off4_inb i ⟨n, h⟩)))
        (View.ld kb (Rect.unit (s := S128x4096) (k0_off5 i ⟨n, h⟩) S128x256.size (k0_off5_inb i ⟨n, h⟩)))
        (View.ld vb (Rect.unit (s := S128x4096) (k0_off5 i ⟨n, h⟩) S128x256.size (k0_off5_inb i ⟨n, h⟩))) p) := by
  have hq := q_lt i
  have h' : n < (i 2).val := trips1 i ▸ h
  have e : ((i 2).val - n) * 512 = (((i 2).val - n - 1) * 512 + 256) + 256 := by omega
  rw [e] at hp
  rw [Nat.sub_add_eq]
  refine step_cols b q kb vb _ _ (off5_eq i n h) _ (by omega) _ (by omega) _ ?_
  exact step_cols b q kb vb _ _ (off4_eq i n h) _ (by omega) _ (by omega) _ hp

/-- What the four chains hold, all at column `lo`. -/
structure Inv4 (i : grid0.Coords) (b₀ b₁ : EReal) (q₀₀ q₀₁ q₁₀ q₁₁ : FVec Ideal S256x128 .bf16) (kb vb : Vec Ideal S128x4096 .bf16)
    (lo : ℕ) (p : Acc4 Ideal) : Prop where
  c00 : Inv ((i 2).val * 512) (Zof b₀ q₀₀ kb) (Vof vb) lo (p.1, p.2.1)
  c01 : Inv ((i 2).val * 512) (Zof b₁ q₀₁ kb) (Vof vb) lo (p.2.2.1, p.2.2.2.1)
  c10 : Inv ((i 2).val * 512 + 256) (Zof b₀ q₁₀ kb) (Vof vb) lo (p.2.2.2.2.1, p.2.2.2.2.2.1)
  c11 : Inv ((i 2).val * 512 + 256) (Zof b₁ q₁₁ kb) (Vof vb) lo (p.2.2.2.2.2.2.1, p.2.2.2.2.2.2.2)

/-- The loop's invariant: after `n` trips the chains are at column `(i₂ - n)·512`. -/
theorem loop_inv (i : grid0.Coords) (b₀ b₁ : EReal) (q₀₀ q₀₁ q₁₀ q₁₁ : FVec Ideal S256x128 .bf16) (kb vb : Vec Ideal S128x4096 .bf16)
    (init : Acc4 Ideal) (h0 : Inv4 i b₀ b₁ q₀₀ q₀₁ q₁₀ q₁₁ kb vb ((i 2).val * 512) init) :
    ∀ n, n ≤ (k0_t1_loop i).trips → Inv4 i b₀ b₁ q₀₀ q₀₁ q₁₀ q₁₁ kb vb (((i 2).val - n) * 512)
      (loopSt (F := Ideal) i k0_pay63 b₀ b₁ q₀₀ q₀₁ q₁₀ q₁₁ kb vb init n)
  | 0, _ => h0
  | n + 1, hn => by
    have h : n < (k0_t1_loop i).trips := hn
    have ih := loop_inv i b₀ b₁ q₀₀ q₀₁ q₁₀ q₁₁ kb vb init h0 n (Nat.le_of_lt h)
    rw [loopSt, dif_pos h]
    exact ⟨step2_inv i b₀ q₀₀ kb vb _ le_rfl n h _ ih.c00, step2_inv i b₁ q₀₁ kb vb _ le_rfl n h _ ih.c01,
      step2_inv i b₀ q₁₀ kb vb _ (by omega) n h _ ih.c10, step2_inv i b₁ q₁₁ kb vb _ (by omega) n h _ ih.c11⟩

/-- After the loop the chains have passed every key. -/
theorem accEnd_inv (i : grid0.Coords) (x0 : Vec Ideal S8 .f32) (x1 : Vec Ideal S512x128 .f32) (kb vb : Vec Ideal S128x4096 .bf16) :
    Inv4 i (bias0 (F := Ideal) i x0) (bias1 (F := Ideal) i x0) (q00 (F := Ideal) x1) (q01 (F := Ideal) x1) (q10 (F := Ideal) x1)
      (q11 (F := Ideal) x1) kb vb 0 (accEnd (F := Ideal) i x0 x1 kb vb) := by
  have h := loop_inv i (bias0 (F := Ideal) i x0) (bias1 (F := Ideal) i x0) (q00 (F := Ideal) x1) (q01 (F := Ideal) x1)
    (q10 (F := Ideal) x1) (q11 (F := Ideal) x1) kb vb _
    (⟨startTop_inv i _ _ kb vb, startTop_inv i _ _ kb vb, startBot_inv i _ _ kb vb, startBot_inv i _ _ kb vb⟩ :
      Inv4 i (bias0 (F := Ideal) i x0) (bias1 (F := Ideal) i x0) (q00 (F := Ideal) x1) (q01 (F := Ideal) x1) (q10 (F := Ideal) x1)
        (q11 (F := Ideal) x1) kb vb ((i 2).val * 512)
        (pack (startTop (F := Ideal) i (bias0 i x0) (q00 x1) kb vb) (startTop (F := Ideal) i (bias1 i x0) (q01 x1) kb vb)
          (startBot (F := Ideal) i (bias0 i x0) (q10 x1) kb vb) (startBot (F := Ideal) i (bias1 i x0) (q11 x1) kb vb)))
    (k0_t1_loop i).trips le_rfl
  rw [trips1, Nat.sub_self, Nat.zero_mul] at h
  rw [accEnd, trips1]
  exact h

end Cert.Attn

end
-- ==== Proof.Attn.Row.lean ====
/-
  One row of the attention, as the reference weighs it, and the kernel's row in base 2.
-/
module

public import proofs.«01_k».proof.Proof.Attn.Chain

@[expose] public section

noncomputable section

namespace Cert.Attn

open Idealize.ShloMosaic

/-- `log_sigmoid (-z)` of a key before the query, zero of the rest. -/
def keep (t : ℕ) (z : ℕ → EReal) (j : ℕ) : EReal := if j < t then -(S (z j)) else 0
/-- What is kept of the keys from `j` on. -/
def suf (t : ℕ) (z : ℕ → EReal) (j : ℕ) : EReal := ∑ k ∈ Finset.Ico j 4096, keep t z k
/-- The reference's weight of key `j`: `exp (log_sigmoid z + log_rest)`. -/
def wt (t : ℕ) (z : ℕ → EReal) (j : ℕ) : EReal :=
  if j < t then Ideal.exp (-(S (-(z j))) + (suf t z j - keep t z j)) else 0

/-- The softplus of a key before the query, zero of the rest. -/
def mS (t : ℕ) (z : ℕ → EReal) (j : ℕ) : EReal := if j < t then S (z j) else 0

theorem mS_nonneg (t : ℕ) (z : ℕ → EReal) (j : ℕ) : 0 ≤ mS t z j := by
  unfold mS
  split
  · exact S_nonneg _
  · exact le_rfl

theorem keep_eq (t : ℕ) (z : ℕ → EReal) (j : ℕ) : keep t z j = -(mS t z j) := by
  unfold keep mS
  split
  · rfl
  · rw [neg_zero]

theorem suf_eq (t : ℕ) (z : ℕ → EReal) (j : ℕ) : suf t z j = -∑ k ∈ Finset.Ico j 4096, mS t z k := by
  rw [suf, ← sum_neg _ _ fun k _ => mS_nonneg t z k]
  exact Finset.sum_congr rfl fun k _ => keep_eq t z k

/-- The kernel's softplus sum is the reference's, in base 2. -/
theorem T_base (t : ℕ) (z : ℕ → EReal) (j : ℕ) : T t (fun j => z j * L) j = (∑ k ∈ Finset.Ico j 4096, mS t z k) * L := by
  rw [T, ← sum_mul_real _ _ L L_nonneg L_ne_top]
  refine Finset.sum_congr rfl fun k _ => ?_
  unfold P mS
  split
  · exact sp_mul _
  · rw [zero_mul]

/-- The kernel's weight is the reference's. -/
theorem W_eq (t : ℕ) (z : ℕ → EReal) (j : ℕ) (hj : j < 4096) : W t (fun j => z j * L) j = wt t z j := by
  unfold W wt
  split
  · next h =>
    rw [T_base, suf_eq, keep_eq, Finset.sum_eq_sum_Ico_succ_bot hj]
    have e : mS t z j = S (z j) := if_pos h
    rw [e]
    exact weight_eq (z j) _ (Finset.sum_nonneg fun k _ => mS_nonneg t z k)
  · rfl

/-- The kernel's row is the reference's. -/
theorem O_eq (t : ℕ) (z V : ℕ → EReal) : O t (fun j => z j * L) V 0 = ∑ j ∈ Finset.range 4096, wt t z j * V j := by
  rw [O, ← Finset.range_eq_Ico]
  exact Finset.sum_congr rfl fun j hj => by rw [W_eq t z j (Finset.mem_range.mp hj)]

theorem L8_eq : L8 = ((1 / 8 : ℝ) : EReal) * L := by
  rw [L8, L, ← EReal.coe_mul]

theorem L8_nonneg : 0 ≤ L8 := EReal.coe_nonneg.mpr (mul_nonneg (by norm_num) Lr_pos.le)
theorem L8_ne_top : L8 ≠ ⊤ := EReal.coe_ne_top _

theorem mul_L8 (x b : EReal) : x * L8 + b * L = (x * ((1 / 8 : ℝ) : EReal) + b) * L := by
  rw [L8_eq, ← mul_assoc, EReal.right_distrib_of_nonneg_of_ne_top L_nonneg L_ne_top]

/-- A scaled product over the first 64 lanes. -/
theorem lanes_lo (x y : Fin 128 → EReal) : ∑ k : Fin 128, (if k.val < 64 then x k * L8 else 0) * y k
    = (∑ d : Fin 64, x ⟨d.val, by omega⟩ * y ⟨d.val, by omega⟩) * L8 := by
  rw [← sum_mul_real _ _ L8 L8_nonneg L8_ne_top, Fin.sum_univ_add (a := 64) (b := 64)
    (fun k : Fin 128 => (if k.val < 64 then x k * L8 else 0) * y k)]
  have h2 : ∑ k : Fin 64, (if (Fin.natAdd 64 k : Fin 128).val < 64 then x (Fin.natAdd 64 k) * L8 else 0) * y (Fin.natAdd 64 k) = 0 := by
    refine Finset.sum_eq_zero fun k _ => ?_
    rw [if_neg (by simp), zero_mul]
  rw [h2, add_zero]
  refine Finset.sum_congr rfl fun k _ => ?_
  rw [if_pos (by simp), mul_right_comm]
  rfl

/-- A scaled product over the last 64 lanes. -/
theorem lanes_hi (x y : Fin 128 → EReal) : ∑ k : Fin 128, (if k.val < 64 then 0 else x k * L8) * y k
    = (∑ d : Fin 64, x ⟨64 + d.val, by omega⟩ * y ⟨64 + d.val, by omega⟩) * L8 := by
  rw [← sum_mul_real _ _ L8 L8_nonneg L8_ne_top, Fin.sum_univ_add (a := 64) (b := 64)
    (fun k : Fin 128 => (if k.val < 64 then 0 else x k * L8) * y k)]
  have h2 : ∑ k : Fin 64, (if (Fin.castAdd 64 k : Fin 128).val < 64 then 0 else x (Fin.castAdd 64 k) * L8) * y (Fin.castAdd 64 k) = 0 := by
    refine Finset.sum_eq_zero fun k _ => ?_
    rw [if_pos (by simp), zero_mul]
  rw [h2, zero_add]
  refine Finset.sum_congr rfl fun k _ => ?_
  rw [if_neg (by simp), mul_right_comm]
  rfl

end Cert.Attn

end
-- ==== Proof.Attn.Block.lean ====
/-
  What the body leaves in the output block: the attention of the block's queries for the two heads of its lanes.
-/
module

public import proofs.«01_k».proof.Proof.Attn.Loop
public import proofs.«01_k».proof.Proof.Attn.Row

@[expose] public section

set_option maxRecDepth 65536

noncomputable section

namespace Cert.Attn

open Idealize.ShloMosaic Idealize.ShloMosaic.TcCoe Idealize.ShloMosaic.Tactic
open Cert.KernelIdeal Cert.KernelIdeal.Gen

/-- A query's logits against the keys: the product of the head's 64 lanes, an eighth of it, plus the bias. -/
def zrow (b : EReal) (x : Fin 64 → EReal) (y : Fin 64 → Fin 4096 → EReal) (j : ℕ) : EReal :=
  if h : j < 4096 then (∑ d : Fin 64, x d * y d ⟨j, h⟩) * ((1 / 8 : ℝ) : EReal) + b else 0

/-- One lane of a query's attention. -/
def rowOut (t : ℕ) (z V : ℕ → EReal) : EReal := ∑ j ∈ Finset.range 4096, wt t z j * V j

/-- A lane of a head's 64 lanes within a pair of heads. -/
def laneOf (hh : Fin 2) (d : Fin 64) : Fin 128 := ⟨hh.val * 64 + d.val, by omega⟩
/-- A head of the pair the point works on. -/
abbrev headOf (i : grid0.Coords) (hh : Fin 2) : Fin 8 := ⟨2 * (i 1).val + hh.val, by have : (i 1).val < 4 := (i 1).isLt; omega⟩

theorem laneOf_0 (d : Fin 64) : laneOf 0 d = ⟨d.val, by omega⟩ := Fin.ext (by show 0 * 64 + d.val = d.val; omega)
theorem laneOf_1 (d : Fin 64) : laneOf 1 d = ⟨64 + d.val, by omega⟩ := Fin.ext (by show 1 * 64 + d.val = 64 + d.val; omega)

/-- The logits of query `ρ` of the block for head `hh` of the pair. -/
def zblk (i : grid0.Coords) (x0 : Vec Ideal S8 .f32) (x1 : Vec Ideal S512x128 .f32) (kb : Vec Ideal S128x4096 .bf16)
    (ρ : Fin 512) (hh : Fin 2) : ℕ → EReal :=
  zrow (x0 (ix1 (headOf i hh))) (fun d => x1 (ix2 ρ (laneOf hh d))) (fun d j => kb (ix2 (laneOf hh d) j))

/-- The block's value at query `ρ` and lane `k`. -/
def blockVal (i : grid0.Coords) (x0 : Vec Ideal S8 .f32) (x1 : Vec Ideal S512x128 .f32) (kb vb : Vec Ideal S128x4096 .bf16)
    (ρ : Fin 512) (k : Fin 128) : EReal :=
  rowOut ((i 2).val * 512 + ρ.val) (zblk i x0 x1 kb ρ ⟨k.val / 64, by omega⟩) (Vof vb k)

theorem off1_0 : ∀ p : Fin 4, (Scalar.indexCast (Scalar.addi (Scalar.muli 2#32 (BitVec.ofNat 32 p.val)) 0#32)).toNat = 2 * p.val := by
  decide +kernel
theorem off1_1 : ∀ p : Fin 4, (Scalar.indexCast (Scalar.addi (Scalar.muli 2#32 (BitVec.ofNat 32 p.val)) 1#32)).toNat = 2 * p.val + 1 := by
  decide +kernel

theorem bias0_eq (i : grid0.Coords) (x0 : Vec Ideal S8 .f32) : bias0 (F := Ideal) i x0 = (x0 (ix1 (headOf i 0)) : EReal) * L := by
  show (_ : EReal) * L = _
  refine congrArg (fun y : S8.Idx => (x0 y : EReal) * L) (funext fun a => Fin.ext ?_)
  match a with
  | ⟨0, _⟩ => exact congrArg (· + 1 * 0) (off1_0 (i 1))
theorem bias1_eq (i : grid0.Coords) (x0 : Vec Ideal S8 .f32) : bias1 (F := Ideal) i x0 = (x0 (ix1 (headOf i 1)) : EReal) * L := by
  show (_ : EReal) * L = _
  refine congrArg (fun y : S8.Idx => (x0 y : EReal) * L) (funext fun a => Fin.ext ?_)
  match a with
  | ⟨0, _⟩ => exact congrArg (· + 1 * 0) (off1_1 (i 1))

section
variable (i : grid0.Coords) (x0 : Vec Ideal S8 .f32) (x1 : Vec Ideal S512x128 .f32) (kb : Vec Ideal S128x4096 .bf16)

/-- The first head's logits in base 2. -/
theorem Zof_lo (b : EReal) (hb : b = (x0 (ix1 (headOf i 0)) : EReal) * L) (q : FVec Ideal S256x128 .bf16) (r : Fin 256) (ρ : Fin 512)
    (hq : ∀ k : Fin 128, (q (ix2 r k) : EReal) = if k.val < 64 then (x1 (ix2 ρ k) : EReal) * L8 else 0) :
    Zof b q kb r = fun j => zblk i x0 x1 kb ρ 0 j * L := by
  funext j
  unfold Zof zblk zrow
  split
  · next h =>
    simp only [laneOf_0]
    rw [hb, ← mul_L8, ← lanes_lo (fun k => x1 (ix2 ρ k)) (fun k => kb (ix2 k ⟨j, h⟩))]
    · refine congrArg (· + _) (Finset.sum_congr rfl fun k _ => ?_)
      rw [hq]
  · rw [zero_mul]

/-- The second head's logits in base 2. -/
theorem Zof_hi (b : EReal) (hb : b = (x0 (ix1 (headOf i 1)) : EReal) * L) (q : FVec Ideal S256x128 .bf16) (r : Fin 256) (ρ : Fin 512)
    (hq : ∀ k : Fin 128, (q (ix2 r k) : EReal) = if k.val < 64 then 0 else (x1 (ix2 ρ k) : EReal) * L8) :
    Zof b q kb r = fun j => zblk i x0 x1 kb ρ 1 j * L := by
  funext j
  unfold Zof zblk zrow
  split
  · next h =>
    simp only [laneOf_1]
    rw [hb, ← mul_L8, ← lanes_hi (fun k => x1 (ix2 ρ k)) (fun k => kb (ix2 k ⟨j, h⟩))]
    · refine congrArg (· + _) (Finset.sum_congr rfl fun k _ => ?_)
      rw [hq]
  · rw [zero_mul]
end

/-- The output block, query by query and lane by lane. -/
theorem canon_pieces (i : grid0.Coords) (x0 : Vec Ideal S8 .f32) (x1 : Vec Ideal S512x128 .f32) (kb vb : Vec Ideal S128x4096 .bf16)
    (ρ : Fin 512) (k : Fin 128) :
    (View.canon (pieces (F := Ideal) i x0 x1 kb vb) (ix2 ρ k) : EReal) = blockVal i x0 x1 kb vb ρ k := by
  have hI := accEnd_inv i x0 x1 kb vb
  have top : ∀ (r : Fin 256) (k : Fin 128), (k0_pay127 (F := Ideal) lanes (accEnd (F := Ideal) i x0 x1 kb vb).1
      (accEnd (F := Ideal) i x0 x1 kb vb).2.2.1 (ix2 r k) : EReal) = blockVal i x0 x1 kb vb ⟨r.val, by omega⟩ k := by
    intro r k
    rw [pick0_apply, blockVal]
    by_cases hk : k.val < 64
    · rw [if_pos hk, show (⟨k.val / 64, by omega⟩ : Fin 2) = 0 from Fin.ext (Nat.div_eq_of_lt hk), rowOut, ← O_eq,
        ← Zof_lo i x0 x1 kb _ (bias0_eq i x0) (q00 (F := Ideal) x1) r ⟨r.val, by omega⟩ (q00_apply x1 r)]
      exact hI.c00.out r k
    · rw [if_neg hk, show (⟨k.val / 64, by omega⟩ : Fin 2) = 1 from Fin.ext (by show k.val / 64 = 1; omega), rowOut, ← O_eq,
        ← Zof_hi i x0 x1 kb _ (bias1_eq i x0) (q01 (F := Ideal) x1) r ⟨r.val, by omega⟩ (q01_apply x1 r)]
      exact hI.c01.out r k
  have bot : ∀ (r : Fin 256) (k : Fin 128), (k0_pay1 (F := Ideal) lanes (accEnd (F := Ideal) i x0 x1 kb vb).2.2.2.2.1
      (accEnd (F := Ideal) i x0 x1 kb vb).2.2.2.2.2.2.1 (ix2 r k) : EReal) = blockVal i x0 x1 kb vb ⟨256 + r.val, by omega⟩ k := by
    intro r k
    rw [pick1_apply, blockVal]
    have e : (i 2).val * 512 + (⟨256 + r.val, by omega⟩ : Fin 512).val = (i 2).val * 512 + 256 + r.val := (Nat.add_assoc _ _ _).symm
    rw [e]
    by_cases hk : k.val < 64
    · rw [if_pos hk, show (⟨k.val / 64, by omega⟩ : Fin 2) = 0 from Fin.ext (Nat.div_eq_of_lt hk), rowOut, ← O_eq,
        ← Zof_lo i x0 x1 kb _ (bias0_eq i x0) (q10 (F := Ideal) x1) r ⟨256 + r.val, by omega⟩ (q10_apply x1 r)]
      exact hI.c10.out r k
    · rw [if_neg hk, show (⟨k.val / 64, by omega⟩ : Fin 2) = 1 from Fin.ext (by show k.val / 64 = 1; omega), rowOut, ← O_eq,
        ← Zof_hi i x0 x1 kb _ (bias1_eq i x0) (q11 (F := Ideal) x1) r ⟨256 + r.val, by omega⟩ (q11_apply x1 r)]
      exact hI.c11.out r k
  by_cases hρ : ρ.val < 256
  · unfold pieces
    rw [View.canon_cons_of_not_mem _ _ (by
      rw [Rect.mem_set_unit]; intro h; have := (h 0).1; change 256 ≤ ρ.val at this; omega)]
    have e : (ix2 ρ k : S512x128.Idx) = (Rect.unit (s := S512x128) ![0, 0] S256x128.size inb_S512x128_S256x128_0_0).emb
        (ix2 (⟨ρ.val, hρ⟩ : Fin 256) k) := by
      funext a; apply Fin.ext
      match a with
      | ⟨0, _⟩ => show ρ.val = 0 + 1 * ρ.val; omega
      | ⟨1, _⟩ => show k.val = 0 + 1 * k.val; omega
    rw [e, View.canon_cons_emb]
    exact top ⟨ρ.val, hρ⟩ k
  · unfold pieces
    have e : (ix2 ρ k : S512x128.Idx) = (Rect.unit (s := S512x128) ![256, 0] S256x128.size inb_S512x128_S256x128_256_0).emb
        (ix2 (⟨ρ.val - 256, by omega⟩ : Fin 256) k) := by
      funext a; apply Fin.ext
      match a with
      | ⟨0, _⟩ => show ρ.val = 256 + 1 * (ρ.val - 256); omega
      | ⟨1, _⟩ => show k.val = 0 + 1 * k.val; omega
    rw [e, View.canon_cons_emb]
    refine (bot ⟨ρ.val - 256, by omega⟩ k).trans ?_
    congr 1
    exact Fin.ext (by show 256 + (ρ.val - 256) = ρ.val; omega)

end Cert.Attn

end
-- ==== Proof.Attn.Array.lean ====
/-
  What the result array holds after the grid: the attention of every query.
-/
module

public import proofs.«01_k».proof.Proof.Attn.Block
public import proofs.«01_k».proof.Proof.Gen.KernelIdeal.Value

@[expose] public section

set_option maxRecDepth 65536

noncomputable section

namespace Cert.Attn

open Idealize.ShloMosaic Idealize.ShloMosaic.TcCoe Idealize.ShloMosaic.Tactic
open Cert.KernelIdeal Cert.KernelIdeal.Gen

/-- Two arrays that agree at every row and column are the same. -/
theorem funext2 {α : Type} {n0 n1 : ℕ} {f g : (⟨2, ![n0, n1]⟩ : Shape).Idx → α} (h : ∀ (a : Fin n0) (b : Fin n1), f (ix2 a b) = g (ix2 a b)) :
    f = g := funext fun y => by rw [eq_ix2 y]; exact h _ _

/-- The lane of head `h`. -/
def lane (h : Fin 8) (d : Fin 64) : Fin 512 := ⟨h.val * 64 + d.val, by omega⟩
/-- The row of position `p` of sequence `b`. -/
def rowAt (b : Fin 4) (p : Fin 4096) : Fin 16384 := ⟨b.val * 4096 + p.val, by omega⟩

/-- The attention's output: sequence `b`, query `p`, head `h`, lane `d`. -/
def attn (q : Vec Ideal S16384x512 .f32) (kt vt : Vec Ideal S4x4x512x4096 .f32) (bias : Vec Ideal S8 .f32)
    (b : Fin 4) (p : Fin 4096) (h : Fin 8) (d : Fin 64) : EReal :=
  rowOut p.val (zrow (bias (ix1 h)) (fun e => q (ix2 (rowAt b p) (lane h e))) (fun e j => kt (ix4 b 0 (lane h e) j)))
    (fun j => if hj : j < 4096 then vt (ix4 b 0 (lane h d) ⟨j, hj⟩) else 0)

/-- The output array. -/
def attnArr (q : Vec Ideal S16384x512 .f32) (kt vt : Vec Ideal S4x4x512x4096 .f32) (bias : Vec Ideal S8 .f32) :
    Vec Ideal S16384x512 .f32 := fun y =>
  attn q kt vt bias ⟨(y 0).val / 4096, by have : (y 0).val < 16384 := (y 0).isLt; omega⟩ ⟨(y 0).val % 4096, by omega⟩
    ⟨(y 1).val / 64, by have : (y 1).val < 512 := (y 1).isLt; omega⟩ ⟨(y 1).val % 64, by omega⟩

theorem coords_eq : ∀ t : Fin grid0.N, (grid0.coords t 0).val = t.val / 32 ∧ (grid0.coords t 1).val = t.val / 8 % 4
    ∧ (grid0.coords t 2).val = t.val % 8 := by decide +kernel
theorem index1 : ∀ t : Fin grid0.N, win0_1.index t 0 = t.val / 32 * 8 + t.val % 8 ∧ win0_1.index t 1 = t.val / 8 % 4 := by decide +kernel
theorem index2 : ∀ t : Fin grid0.N, win0_2.index t 0 = t.val / 32 ∧ win0_2.index t 1 = 0 ∧ win0_2.index t 2 = t.val / 8 % 4
    ∧ win0_2.index t 3 = 0 := by decide +kernel
theorem index3 : ∀ t : Fin grid0.N, win0_3.index t 0 = t.val / 32 ∧ win0_3.index t 1 = 0 ∧ win0_3.index t 2 = t.val / 8 % 4
    ∧ win0_3.index t 3 = 0 := by decide +kernel
theorem index4 : ∀ t : Fin grid0.N, win0_4.index t 0 = t.val / 32 * 8 + t.val % 8 ∧ win0_4.index t 1 = t.val / 8 % 4 := by decide +kernel
theorem index0 : ∀ t : Fin grid0.N, win0_0.index t 0 = 0 := by decide +kernel
theorem N_lt (t : Fin cfg0.N) : t.val < 128 := t.isLt

variable (m : (ℓ : Loc nD τ sig) → Buf (Elt Ideal) ℓ) (c : Dev nD)

/-- The queries. -/
abbrev aq : Vec Ideal S16384x512 .f32 := m ((c : Thread nD τ).loc main_arg0)
/-- The keys. -/
abbrev ak : Vec Ideal S4x4x512x4096 .f32 := m ((c : Thread nD τ).loc main_arg1)
/-- The values. -/
abbrev av : Vec Ideal S4x4x512x4096 .f32 := m ((c : Thread nD τ).loc main_arg2)
/-- The biases. -/
abbrev ab : Vec Ideal S8 .f32 := m ((c : Thread nD τ).loc main_arg3)

/-- The block of biases is the biases. -/
theorem iblk0 (t : Fin cfg0.N) (h : Fin 8) : (iblk m c 0 t : Vec Ideal S8 .f32) (ix1 h) = ab m c (ix1 h) := by
  unfold iblk
  rw [View.read_apply]
  refine congrArg (ab m c) (funext fun a => Fin.ext ?_)
  match a with
  | ⟨0, _⟩ => show win0_0.index t 0 * 8 + 1 * h.val = h.val; rw [index0]; omega

/-- The block of queries. -/
theorem iblk1 (t : Fin cfg0.N) (r : Fin 512) (k : Fin 128) : (iblk m c 1 t : Vec Ideal S512x128 .f32) (ix2 r k)
    = aq m c (ix2 (⟨(t.val / 32 * 8 + t.val % 8) * 512 + r.val, by have := N_lt t; omega⟩ : Fin 16384)
        (⟨t.val / 8 % 4 * 128 + k.val, by omega⟩ : Fin 512)) := by
  unfold iblk
  rw [View.read_apply]
  refine congrArg (aq m c) (funext fun a => Fin.ext ?_)
  match a with
  | ⟨0, _⟩ => show win0_1.index t 0 * 512 + 1 * r.val = _; rw [(index1 t).1, Nat.one_mul]; rfl
  | ⟨1, _⟩ => show win0_1.index t 1 * 128 + 1 * k.val = _; rw [(index1 t).2, Nat.one_mul]; rfl

/-- The keys in scratch at point `n`. -/
def keysAt (n : ℕ) (hn : n < 128) : Vec Ideal S128x4096 .bf16 := fun y =>
  (ak m c (ix4 (⟨n / 32, by omega⟩ : Fin 4) 0 (⟨n / 8 % 4 * 128 + (y 0).val, by have : (y 0).val < 128 := (y 0).isLt; omega⟩ : Fin 512) (y 1)) : EReal)
/-- The values in scratch at point `n`. -/
def valsAt (n : ℕ) (hn : n < 128) : Vec Ideal S128x4096 .bf16 := fun y =>
  (av m c (ix4 (⟨n / 32, by omega⟩ : Fin 4) 0 (⟨n / 8 % 4 * 128 + (y 0).val, by have : (y 0).val < 128 := (y 0).isLt; omega⟩ : Fin 512) (y 1)) : EReal)

theorem keys_blk (t : Fin cfg0.N) : k0_pay60 (F := Ideal) (iblk m c 2 t) = keysAt m c t.val (N_lt t) := by
  refine funext2 fun d j => ?_
  rw [keys_apply]
  unfold iblk
  rw [View.read_apply]
  refine congrArg (ak m c) (funext fun a => Fin.ext ?_)
  match a with
  | ⟨0, _⟩ => show win0_2.index t 0 * 1 + 1 * 0 = t.val / 32; rw [(index2 t).1]; omega
  | ⟨1, _⟩ => show win0_2.index t 1 * 1 + 1 * 0 = 0; rw [(index2 t).2.1]
  | ⟨2, _⟩ => show win0_2.index t 2 * 128 + 1 * d.val = t.val / 8 % 4 * 128 + d.val; rw [(index2 t).2.2.1, Nat.one_mul]
  | ⟨3, _⟩ => show win0_2.index t 3 * 4096 + 1 * j.val = j.val; rw [(index2 t).2.2.2]; omega

theorem vals_blk (t : Fin cfg0.N) : k0_pay61 (F := Ideal) (iblk m c 3 t) = valsAt m c t.val (N_lt t) := by
  refine funext2 fun d j => ?_
  rw [vals_apply]
  unfold iblk
  rw [View.read_apply]
  refine congrArg (av m c) (funext fun a => Fin.ext ?_)
  match a with
  | ⟨0, _⟩ => show win0_3.index t 0 * 1 + 1 * 0 = t.val / 32; rw [(index3 t).1]; omega
  | ⟨1, _⟩ => show win0_3.index t 1 * 1 + 1 * 0 = 0; rw [(index3 t).2.1]
  | ⟨2, _⟩ => show win0_3.index t 2 * 128 + 1 * d.val = t.val / 8 % 4 * 128 + d.val; rw [(index3 t).2.2.1, Nat.one_mul]
  | ⟨3, _⟩ => show win0_3.index t 3 * 4096 + 1 * j.val = j.val; rw [(index3 t).2.2.2]; omega

/-- Between two points of one pair of heads the keys wanted are the same. -/
theorem keysAt_pred (n : ℕ) (hn : n < 128) (h : ¬n % 8 = 0) : keysAt m c (n - 1) (by omega) = keysAt m c n hn := by
  funext y
  unfold keysAt
  have e1 : (n - 1) / 32 = n / 32 := by omega
  have e2 : (n - 1) / 8 % 4 = n / 8 % 4 := by omega
  simp only [e1, e2]
theorem valsAt_pred (n : ℕ) (hn : n < 128) (h : ¬n % 8 = 0) : valsAt m c (n - 1) (by omega) = valsAt m c n hn := by
  funext y
  unfold valsAt
  have e1 : (n - 1) / 32 = n / 32 := by omega
  have e2 : (n - 1) / 8 % 4 = n / 8 % 4 := by omega
  simp only [e1, e2]

/-- The keys in scratch after a point that stores them. -/
theorem keys_A (t : Fin cfg0.N) (h : t.val % 8 = 0) : (outsAt0 m c t.val t.isLt).2.1 = keysAt m c t.val (N_lt t) := by
  rw [outsAt0_A m c t h]
  dsimp only
  rw [sout_A_0, keys_blk]
/-- The values in scratch after a point that stores them. -/
theorem vals_A (t : Fin cfg0.N) (h : t.val % 8 = 0) : (outsAt0 m c t.val t.isLt).2.2 = valsAt m c t.val (N_lt t) := by
  rw [outsAt0_A m c t h]
  dsimp only
  rw [sout_A_1, vals_blk]
/-- The keys in scratch after any other point are the ones before it. -/
theorem keys_B (t : Fin cfg0.N) (h : ¬t.val % 8 = 0) : (outsAt0 m c t.val t.isLt).2.1
    = (outsAt0 m c (t.val - 1) (Nat.lt_of_le_of_lt (Nat.sub_le _ _) t.isLt)).2.1 := by
  rw [outsAt0_B m c t h]
  rfl
/-- The values in scratch after any other point are the ones before it. -/
theorem vals_B (t : Fin cfg0.N) (h : ¬t.val % 8 = 0) : (outsAt0 m c t.val t.isLt).2.2
    = (outsAt0 m c (t.val - 1) (Nat.lt_of_le_of_lt (Nat.sub_le _ _) t.isLt)).2.2 := by
  rw [outsAt0_B m c t h]
  rfl

/-- The scratch after point `n` holds the point's keys and values. -/
theorem scratch_at : ∀ (n : ℕ) (hn : n < cfg0.N), (outsAt0 m c n hn).2.1 = keysAt m c n hn ∧ (outsAt0 m c n hn).2.2 = valsAt m c n hn := by
  intro n
  induction n with
  | zero => exact fun hn => ⟨keys_A m c ⟨0, hn⟩ (Nat.zero_mod 8), vals_A m c ⟨0, hn⟩ (Nat.zero_mod 8)⟩
  | succ n ih =>
    intro hn
    by_cases h : (n + 1) % 8 = 0
    · exact ⟨keys_A m c ⟨n + 1, hn⟩ h, vals_A m c ⟨n + 1, hn⟩ h⟩
    · exact ⟨(keys_B m c ⟨n + 1, hn⟩ h).trans ((ih (Nat.lt_of_succ_lt hn)).1.trans (keysAt_pred m c (n + 1) hn h)),
        (vals_B m c ⟨n + 1, hn⟩ h).trans ((ih (Nat.lt_of_succ_lt hn)).2.trans (valsAt_pred m c (n + 1) hn h))⟩

/-- The output block at every point. -/
theorem out_at (t : Fin cfg0.N) : (outsAt0 m c t.val t.isLt).1
    = View.canon (pieces (F := Ideal) (grid0.coords t) (iblk m c 0 t) (iblk m c 1 t) (keysAt m c t.val (N_lt t)) (valsAt m c t.val (N_lt t))) := by
  by_cases h : t.val % 8 = 0
  · rw [outsAt0_A m c t h]
    dsimp only
    rw [out_A, keys_blk, vals_blk]
  · rw [outsAt0_B m c t h]
    dsimp only
    rw [out_B, (scratch_at m c _ _).1, (scratch_at m c _ _).2, keysAt_pred m c t.val (N_lt t) h, valsAt_pred m c t.val (N_lt t) h]

/-- One entry of the output block is one entry of the attention. -/
theorem out_entry (t : Fin cfg0.N) (r : Fin 512) (k : Fin 128) :
    (outsAt0 m c t.val t.isLt).1 (ix2 r k) = attnArr (aq m c) (ak m c) (av m c) (ab m c)
      (ix2 (⟨(t.val / 32 * 8 + t.val % 8) * 512 + r.val, by have := N_lt t; omega⟩ : Fin 16384)
        (⟨t.val / 8 % 4 * 128 + k.val, by omega⟩ : Fin 512)) := by
  have ht := N_lt t
  obtain ⟨c0, c1, c2⟩ := coords_eq t
  rw [out_at]
  refine (canon_pieces _ _ _ _ _ r k).trans ?_
  unfold blockVal attnArr attn
  simp only [ix2_0, ix2_1]
  have e0 : (grid0.coords t 2).val * 512 + r.val = ((t.val / 32 * 8 + t.val % 8) * 512 + r.val) % 4096 := by rw [c2]; omega
  have eb : ((t.val / 32 * 8 + t.val % 8) * 512 + r.val) / 4096 = t.val / 32 := by omega
  have eh : 2 * (grid0.coords t 1).val + k.val / 64 = (t.val / 8 % 4 * 128 + k.val) / 64 := by rw [c1]; omega
  congr 1
  · unfold zblk
    congr 1
    · rw [iblk0]
      exact congrArg (fun y => ab m c (ix1 y)) (Fin.ext eh)
    · funext e
      rw [iblk1]
      refine congrArg (aq m c) ?_
      congr 1
      · apply Fin.ext
        show (t.val / 32 * 8 + t.val % 8) * 512 + r.val = ((t.val / 32 * 8 + t.val % 8) * 512 + r.val) / 4096 * 4096 + ((t.val / 32 * 8 + t.val % 8) * 512 + r.val) % 4096
        omega
      · apply Fin.ext
        show t.val / 8 % 4 * 128 + (k.val / 64 * 64 + e.val) = (t.val / 8 % 4 * 128 + k.val) / 64 * 64 + e.val
        omega
    · funext e j
      refine congrArg (ak m c) ?_
      congr 1
      · exact Fin.ext eb.symm
      · apply Fin.ext
        show t.val / 8 % 4 * 128 + (k.val / 64 * 64 + e.val) = (t.val / 8 % 4 * 128 + k.val) / 64 * 64 + e.val
        omega
  · funext j
    unfold Vof
    split
    · next hj =>
      refine congrArg (av m c) ?_
      congr 1
      · exact Fin.ext eb.symm
      · apply Fin.ext
        show t.val / 8 % 4 * 128 + k.val = (t.val / 8 % 4 * 128 + k.val) / 64 * 64 + (t.val / 8 % 4 * 128 + k.val) % 64
        omega
    · rfl

/-- What a point writes back is its block of the attention. -/
theorem flushed_eq (t : Fin cfg0.N) :
    (dats m 0 c).flushed 4 t = ((cfg0.win 4).blk t).view.read (Elt Ideal) (attnArr (aq m c) (ak m c) (av m c) (ab m c)) := by
  rw [Cert.KernelIdeal.Value.flushed4]
  refine funext2 (n0 := 512) (n1 := 128) fun r k => ?_
  refine (out_entry m c t r k).trans ?_
  rw [View.read_apply]
  refine congrArg (attnArr (aq m c) (ak m c) (av m c) (ab m c)) (funext fun a => Fin.ext ?_)
  match a with
  | ⟨0, _⟩ => show _ = win0_4.index t 0 * 512 + 1 * r.val; rw [(index4 t).1, Nat.one_mul]; rfl
  | ⟨1, _⟩ => show _ = win0_4.index t 1 * 128 + 1 * k.val; rw [(index4 t).2, Nat.one_mul]; rfl

/-- After the grid the result array is the attention. -/
theorem final_out : (dats m 0 c).arrAt 4 cfg0.N = attnArr (aq m c) (ak m c) (av m c) (ab m c) :=
  (dats m 0 c).arrAt_eq_of_cover 4 _ (fun t _ => flushed_eq m c t) fun i => by
    have h0 : (i 0 : Nat) < 16384 := (i 0).isLt
    have h1 : (i 1 : Nat) < 512 := (i 1).isLt
    have hN : (i 0 : Nat) / 4096 * 32 + (i 1 : Nat) / 128 * 8 + (i 0 : Nat) % 4096 / 512 < 128 := by omega
    let t : Fin cfg0.N := ⟨_, hN⟩
    refine ⟨t, flush0_4 t, ?_⟩
    show i ∈ ((View.whole main_v0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index4 t).1]; dsimp only [t]; omega
    | ⟨1, _⟩ =>
      show win0_4.index t 1 * 128 ≤ (i 1 : Nat) ∧ (i 1 : Nat) < win0_4.index t 1 * 128 + 128
      rw [(index4 t).2]; dsimp only [t]; omega

end Cert.Attn

end
-- ==== Proof.Attn.Suffix.lean ====
/-
  The host's reversed running sum at `Ideal`, read at an index: the sum from the column to the end.
-/
module

public import Idealize.ShloMosaic.Lib.Pointwise
public import Idealize.ShloMosaic.PureOps.Ideal

@[expose] public section

noncomputable section

namespace Cert.Attn

open Idealize.ShloMosaic

/-- A fold of additions is the start plus the sum. -/
theorem foldl_add {α : Type} (f : α → EReal) : ∀ (l : List α) (v : EReal), l.foldl (fun r n => r + f n) v = v + (l.map f).sum
  | [], v => by simp
  | a :: l, v => by rw [List.foldl_cons, foldl_add f l, List.map_cons, List.sum_cons, add_assoc]

/-- The same over all of `Fin n`. -/
theorem foldl_finRange {n : ℕ} (f : Fin n → EReal) (v : EReal) : (List.finRange n).foldl (fun r n => r + f n) v = v + ∑ i, f i := by
  rw [foldl_add, Fin.sum_univ_def]

/-- The running sum from the end along the last axis. -/
theorem suffix_apply (x : (⟨4, ![4, 8, 4096, 4096]⟩ : Shape).Idx → EReal)
    (h1 : (⟨4, ![4, 8, 4096, 4096]⟩ : Shape).ReduceWindows ![1, 1, 1, 4096] ![1, 1, 1, 1] ![0, 0, 0, 0] ![0, 0, 0, 4095] ⟨4, ![4, 8, 4096, 4096]⟩)
    (b : Fin 4) (h : Fin 8) (p j : Fin 4096) :
    Ideal.hostReduceWindowAdd (s := ⟨4, ![4, 8, 4096, 4096]⟩) ![1, 1, 1, 4096] ![1, 1, 1, 1] ![0, 0, 0, 0] ![0, 0, 0, 4095] h1 x 0 (ix4 b h p j)
      = ∑ k ∈ Finset.Ico j.val 4096, if hk : k < 4096 then x (ix4 b h p ⟨k, hk⟩) else 0 := by
  unfold Ideal.hostReduceWindowAdd Host.reduceWindow
  dsimp only
  rw [foldl_finRange, zero_add, ← Equiv.sum_comp (Shape.rowMajor ⟨4, ![1, 1, 1, 4096]⟩)]
  simp only [Equiv.symm_apply_apply]
  rw [sum_idx4]
  simp only [Fin.sum_univ_one]
  have hf : ∀ k : Fin 4096, (if hin : ∀ a : Fin 4, (![0, 0, 0, 0] : Fin 4 → ℕ) a ≤ (ix4 b h p j (a.cast h1.1.symm)).val * (![1, 1, 1, 1] : Fin 4 → ℕ) a
        + (ix4 (0 : Fin 1) (0 : Fin 1) (0 : Fin 1) k a).val ∧ (ix4 b h p j (a.cast h1.1.symm)).val * (![1, 1, 1, 1] : Fin 4 → ℕ) a
        + (ix4 (0 : Fin 1) (0 : Fin 1) (0 : Fin 1) k a).val - (![0, 0, 0, 0] : Fin 4 → ℕ) a < (![4, 8, 4096, 4096] : Fin 4 → ℕ) a
      then x (fun a => ⟨_, (hin a).2⟩) else (0 : EReal))
      = (fun n : ℕ => if hk : j.val + n < 4096 then x (ix4 b h p ⟨j.val + n, hk⟩) else 0) k.val := by
    intro k
    by_cases hk : j.val + k.val < 4096
    · have hin : ∀ a : Fin 4, (![0, 0, 0, 0] : Fin 4 → ℕ) a ≤ (ix4 b h p j (a.cast h1.1.symm)).val * (![1, 1, 1, 1] : Fin 4 → ℕ) a
        + (ix4 (0 : Fin 1) (0 : Fin 1) (0 : Fin 1) k a).val ∧ (ix4 b h p j (a.cast h1.1.symm)).val * (![1, 1, 1, 1] : Fin 4 → ℕ) a
        + (ix4 (0 : Fin 1) (0 : Fin 1) (0 : Fin 1) k a).val - (![0, 0, 0, 0] : Fin 4 → ℕ) a < (![4, 8, 4096, 4096] : Fin 4 → ℕ) a := by
        intro a
        match a with
        | ⟨0, _⟩ => exact ⟨Nat.zero_le _, by show b.val * 1 + 0 - 0 < 4; omega⟩
        | ⟨1, _⟩ => exact ⟨Nat.zero_le _, by show h.val * 1 + 0 - 0 < 8; omega⟩
        | ⟨2, _⟩ => exact ⟨Nat.zero_le _, by show p.val * 1 + 0 - 0 < 4096; omega⟩
        | ⟨3, _⟩ => exact ⟨Nat.zero_le _, by show j.val * 1 + k.val - 0 < 4096; omega⟩
      rw [dif_pos hin]
      dsimp only
      rw [dif_pos hk]
      refine congrArg x (funext fun a => Fin.ext ?_)
      match a with
      | ⟨0, _⟩ => show b.val * 1 + 0 - 0 = b.val; omega
      | ⟨1, _⟩ => show h.val * 1 + 0 - 0 = h.val; omega
      | ⟨2, _⟩ => show p.val * 1 + 0 - 0 = p.val; omega
      | ⟨3, _⟩ => show j.val * 1 + k.val - 0 = j.val + k.val; omega
    · dsimp only
      rw [dif_neg hk, dif_neg]
      intro hin
      have h3 := (hin 3).2
      have h3' : j.val * 1 + k.val - 0 < 4096 := h3
      omega
  refine (Finset.sum_congr rfl fun k _ => hf k).trans ?_
  rw [Fin.sum_univ_eq_sum_range (fun n : ℕ => if hk : j.val + n < 4096 then x (ix4 b h p ⟨j.val + n, hk⟩) else 0) 4096,
    Finset.sum_Ico_eq_sum_range]
  refine (Finset.sum_subset (Finset.range_subset_range.mpr (by omega)) fun n _ hn => ?_).symm
  rw [dif_neg]
  rw [Finset.mem_range] at hn
  omega

end Cert.Attn

end
-- ==== Proof.Attn.Reference.lean ====
/-
  What the reference computes, read at an index: the attention.
-/
module

public import proofs.«01_k».proof.Proof.Attn.Array
public import proofs.«01_k».proof.Proof.Attn.Suffix
public import proofs.«01_k».proof.Proof.Gen.ReferenceIdeal.Read

@[expose] public section

set_option maxRecDepth 65536

noncomputable section

namespace Cert.Attn

open Idealize.ShloMosaic Idealize.ShloMosaic.TcCoe
open Cert.ReferenceIdeal Cert.ReferenceIdeal.Read

/-- The comparison of two positions. -/
theorem pos_lt (p j : Fin 4096) :
    IntOp.cmpi CmpIPredicate.slt (BitVec.ofNat 32 j.val) (BitVec.ofNat 32 p.val) = if j.val < p.val then 1#1 else 0#1 := by
  have e : ∀ r : Fin 4096, (BitVec.ofNat 32 r.val).toInt = r.val := fun r => by
    have h : (BitVec.ofNat 32 r.val).toNat = r.val := by
      rw [BitVec.toNat_ofNat]; exact Nat.mod_eq_of_lt (by omega)
    rw [BitVec.toInt_eq_toNat_of_lt (by rw [h]; omega), h]
  simp only [IntOp.cmpi, BitVec.slt, e, Nat.cast_lt]
  by_cases h : j.val < p.val <;> simp [h]

/-- The host's softplus, written as the maximum and a correction, is the softplus. -/
theorem softplus_eq (y : EReal) :
    (Scalar.select (Ideal.cmp .une (y - 0) (y - 0)) (y + 0) (max y 0 + Ideal.log1p (Ideal.exp (-(max (y - 0) (-(y - 0)))))) : EReal) = S y := by
  have h : Ideal.cmp .une (y - 0) (y - 0) = 0#1 := by simp [Ideal.cmp]
  rw [h, sub_zero]
  rfl

variable (x0 : Vec Ideal S16384x512 .f32) (x1 x2 : Vec Ideal S4x4x512x4096 .f32) (x3 : Vec Ideal S8 .f32)

/-- The logits of a query. -/
def zref (b : Fin 4) (h : Fin 8) (p : Fin 4096) : ℕ → EReal :=
  zrow (x3 (ix1 h)) (fun e => x0 (ix2 (rowAt b p) (lane h e))) (fun e j => x1 (ix4 b 0 (lane h e) j))

theorem q_read (b : Fin 4) (h : Fin 8) (p : Fin 4096) (d : Fin 64) :
    val_main_v0 (F := Ideal) x0 (ix4 b p h d) = x0 (ix2 (rowAt b p) (lane h d)) := by
  rw [val_main_v0_apply]
  refine congrArg x0 (funext fun a => Fin.ext ?_)
  match a with
  | ⟨0, _⟩ => show (((b.val * 4096 + p.val) * 8 + h.val) * 64 + d.val) / 512 = b.val * 4096 + p.val; omega
  | ⟨1, _⟩ => show (((b.val * 4096 + p.val) * 8 + h.val) * 64 + d.val) % 512 = h.val * 64 + d.val; omega

theorem k_read (b : Fin 4) (h : Fin 8) (j : Fin 4096) (d : Fin 64) :
    val_main_v4 (F := Ideal) x1 (ix4 b j h d) = x1 (ix4 b 0 (lane h d) j) := by
  rw [val_main_v4_apply, val_main_v3_apply, val_main_v2_apply, val_main_v1_apply]
  refine congrArg x1 (funext fun a => Fin.ext ?_)
  have hb := b.isLt; have hh := h.isLt; have hj := j.isLt; have hd := d.isLt
  match a with
  | ⟨0, _⟩ => simp only [idx_main_v1, idx_main_v2, idx_main_v3, idx_main_v4, ix4]; omega
  | ⟨1, _⟩ => rfl
  | ⟨2, _⟩ => simp only [idx_main_v1, idx_main_v2, idx_main_v3, idx_main_v4, ix4, lane]; omega
  | ⟨3, _⟩ => simp only [idx_main_v1, idx_main_v2, idx_main_v3, idx_main_v4, ix4]; omega

theorem v_read (b : Fin 4) (h : Fin 8) (j : Fin 4096) (d : Fin 64) :
    val_main_v8 (F := Ideal) x2 (ix4 b j h d) = x2 (ix4 b 0 (lane h d) j) := by
  rw [val_main_v8_apply, val_main_v7_apply, val_main_v6_apply, val_main_v5_apply]
  refine congrArg x2 (funext fun a => Fin.ext ?_)
  have hb := b.isLt; have hh := h.isLt; have hj := j.isLt; have hd := d.isLt
  match a with
  | ⟨0, _⟩ => simp only [idx_main_v5, idx_main_v6, idx_main_v7, idx_main_v8, ix4]; omega
  | ⟨1, _⟩ => rfl
  | ⟨2, _⟩ => simp only [idx_main_v5, idx_main_v6, idx_main_v7, idx_main_v8, ix4, lane]; omega
  | ⟨3, _⟩ => simp only [idx_main_v5, idx_main_v6, idx_main_v7, idx_main_v8, ix4]; omega

theorem eighth : (FloatOps.ofBits .f32 0x3E000000#32 : Ideal .f32) = (((1 / 8 : ℝ)) : EReal) := by
  rw [Ideal.ofBits_def]
  simp [Ideal.ofBits, Ideal.ieee, -EReal.coe_mul]; norm_num

/-- The reference's logits. -/
theorem z_read (b : Fin 4) (h : Fin 8) (p j : Fin 4096) :
    val_main_v14 (F := Ideal) x0 x1 x3 (ix4 b h p j) = zref x0 x1 x3 b h p j.val := by
  rw [val_main_v14_apply, val_main_v11_apply, val_main_v9_apply, val_main_v10_apply, val_main_cst_apply, val_main_v13_apply,
    val_main_v12_apply, eighth, zref, zrow, dif_pos j.isLt]
  show (∑ k : Fin 64, (_ : EReal)) * _ + _ = _
  congr 1
  · congr 1
    refine Finset.sum_congr rfl fun k _ => ?_
    have e1 : lidx_main_v9 (ix4 b h p j) k = ix4 b p h k := by
      funext a; match a with | ⟨0, _⟩ => rfl | ⟨1, _⟩ => rfl | ⟨2, _⟩ => rfl | ⟨3, _⟩ => rfl
    have e2 : ridx_main_v9 (ix4 b h p j) k = ix4 b j h k := by
      funext a; match a with | ⟨0, _⟩ => rfl | ⟨1, _⟩ => rfl | ⟨2, _⟩ => rfl | ⟨3, _⟩ => rfl
    rw [e1, e2, q_read, k_read]
  · refine congrArg x3 (funext fun a => ?_)
    match a with
    | ⟨0, _⟩ => rfl

/-- The causal mask. -/
theorem mask_read (p j : Fin 4096) : val_main_v21 (F := Ideal) (ix2 p j) = if j.val < p.val then 1#1 else 0#1 := by
  rw [val_main_v21_apply, val_main_v19_apply, val_main_v20_apply, val_main_v17_apply, val_main_v18_apply, val_main_v16_apply,
    val_main_v15_apply]
  exact pos_lt p j

theorem zero_f32 : (FloatOps.ofBits .f32 0x00000000#32 : Ideal .f32) = (0 : EReal) := by
  exact Ideal.ofBits_zero_f32

/-- `log_sigmoid (-z)`. -/
theorem logsig_neg (i : S4x8x4096x4096.Idx) :
    val_main_v23 (F := Ideal) x0 x1 x3 i = -(S (val_main_v14 (F := Ideal) x0 x1 x3 i)) := by
  rw [val_main_v23_apply, val_main_call0_v1_apply, val_main_call0_call0_v11_apply, val_main_call0_call0_v10_apply,
    val_main_call0_call0_v9_apply, val_main_call0_call0_v8_apply, val_main_call0_call0_v7_apply, val_main_call0_call0_v6_apply,
    val_main_call0_call0_v5_apply, val_main_call0_call0_v4_apply, val_main_call0_call0_v3_apply, val_main_call0_call0_v2_apply,
    val_main_call0_call0_v1_apply, val_main_call0_call0_v0_apply, val_main_call0_v0_apply, val_main_v22_apply,
    val_main_call0_call0_cst_apply, zero_f32]
  have h := softplus_eq (-(-(val_main_v14 (F := Ideal) x0 x1 x3 i : EReal)))
  rw [neg_neg] at h
  have e : (FloatOps.hostNegf (FloatOps.hostNegf (val_main_v14 (F := Ideal) x0 x1 x3 i)) : Ideal .f32) = val_main_v14 (F := Ideal) x0 x1 x3 i :=
    neg_neg _
  rw [e]
  exact congrArg (fun y : EReal => -y) h

/-- `log_sigmoid z`. -/
theorem logsig_pos (i : S4x8x4096x4096.Idx) :
    val_main_v27 (F := Ideal) x0 x1 x3 i = -(S (-(val_main_v14 (F := Ideal) x0 x1 x3 i : EReal))) := by
  rw [val_main_v27_apply, val_main_call3_v1_apply, val_main_call3_call0_v11_apply, val_main_call3_call0_v10_apply,
    val_main_call3_call0_v9_apply, val_main_call3_call0_v8_apply, val_main_call3_call0_v7_apply, val_main_call3_call0_v6_apply,
    val_main_call3_call0_v5_apply, val_main_call3_call0_v4_apply, val_main_call3_call0_v3_apply, val_main_call3_call0_v2_apply,
    val_main_call3_call0_v1_apply, val_main_call3_call0_v0_apply, val_main_call3_v0_apply,
    val_main_call3_call0_cst_apply, zero_f32]
  exact congrArg (fun y : EReal => -y) (softplus_eq (-(val_main_v14 (F := Ideal) x0 x1 x3 i : EReal)))

/-- What is kept of key `j`. -/
theorem keep_read (b : Fin 4) (h : Fin 8) (p j : Fin 4096) :
    val_main_v24 (F := Ideal) x0 x1 x3 (ix4 b h p j) = keep p.val (zref x0 x1 x3 b h p) j.val := by
  rw [val_main_v24_apply, val_main_call1_v1_apply, val_main_call1_v2_apply, val_main_call1_v0_apply, val_main_cst_0_apply, zero_f32,
    logsig_neg, z_read]
  have e : idx_main_call1_v1 (ix4 b h p j) = ix2 p j := by funext a; match a with | ⟨0, _⟩ => rfl | ⟨1, _⟩ => rfl
  rw [e, mask_read, keep]
  split <;> rfl

/-- What is kept of the keys from `j` on. -/
theorem suf_read (b : Fin 4) (h : Fin 8) (p j : Fin 4096) :
    val_main_v25 (F := Ideal) x0 x1 x3 (ix4 b h p j) = suf p.val (zref x0 x1 x3 b h p) j.val := by
  unfold val_main_v25 Host.reduceWindowAdd
  rw [val_main_call2_v0_apply, val_main_call2_cst_apply, zero_f32]
  refine (suffix_apply (val_main_v24 (F := Ideal) x0 x1 x3) _ b h p j).trans ?_
  rw [suf]
  refine Finset.sum_congr rfl fun k hk => ?_
  have hk' := (Finset.mem_Ico.mp hk).2
  rw [dif_pos hk', keep_read]

/-- The reference's weights. -/
theorem w_read (b : Fin 4) (h : Fin 8) (p j : Fin 4096) :
    val_main_v30 (F := Ideal) x0 x1 x3 (ix4 b h p j) = wt p.val (zref x0 x1 x3 b h p) j.val := by
  rw [val_main_v30_apply, val_main_call4_v1_apply, val_main_call4_v2_apply, val_main_call4_v0_apply, val_main_cst_1_apply, zero_f32,
    val_main_v29_apply, val_main_v28_apply, val_main_v26_apply, logsig_pos, z_read, suf_read, keep_read]
  have e : idx_main_call4_v1 (ix4 b h p j) = ix2 p j := by funext a; match a with | ⟨0, _⟩ => rfl | ⟨1, _⟩ => rfl
  rw [e, mask_read, wt]
  split <;> rfl

/-- The weighted values. -/
theorem o_read (b : Fin 4) (h : Fin 8) (d : Fin 64) (p : Fin 4096) :
    val_main_v31 (F := Ideal) x0 x1 x2 x3 (ix4 b h d p) = attn x0 x1 x2 x3 b p h d := by
  rw [val_main_v31_apply, attn, rowOut,
    ← Fin.sum_univ_eq_sum_range (fun j => wt p.val _ j * (if hj : j < 4096 then (x2 (ix4 b 0 (lane h d) ⟨j, hj⟩) : EReal) else 0)) 4096]
  refine Finset.sum_congr rfl fun j _ => ?_
  have e1 : lidx_main_v31 (ix4 b h d p) j = ix4 b j h d := by
    funext a; match a with | ⟨0, _⟩ => rfl | ⟨1, _⟩ => rfl | ⟨2, _⟩ => rfl | ⟨3, _⟩ => rfl
  have e2 : ridx_main_v31 (ix4 b h d p) j = ix4 b h p j := by
    funext a; match a with | ⟨0, _⟩ => rfl | ⟨1, _⟩ => rfl | ⟨2, _⟩ => rfl | ⟨3, _⟩ => rfl
  rw [e1, e2, v_read, w_read, dif_pos j.isLt]
  exact mul_comm _ _

/-- The reference's result is the attention. -/
theorem ref_read : val_main_v33 (F := Ideal) x0 x1 x2 x3 = attnArr x0 x1 x2 x3 := by
  refine funext2 (n0 := 16384) (n1 := 512) fun R C => ?_
  rw [val_main_v33_apply, val_main_v32_apply]
  have e : idx_main_v32 (idx_main_v33 (ix2 R C)) = ix4 (⟨R.val / 4096, by omega⟩ : Fin 4) (⟨C.val / 64, by omega⟩ : Fin 8)
      (⟨C.val % 64, by omega⟩ : Fin 64) (⟨R.val % 4096, by omega⟩ : Fin 4096) := by
    funext a
    apply Fin.ext
    have hR := R.isLt; have hC := C.isLt
    match a with
    | ⟨0, _⟩ => show (R.val * 512 + C.val) / 2097152 = R.val / 4096; omega
    | ⟨1, _⟩ => show (R.val * 512 + C.val) / 64 % 8 = C.val / 64; omega
    | ⟨2, _⟩ => show (R.val * 512 + C.val) % 64 = C.val % 64; omega
    | ⟨3, _⟩ => show (R.val * 512 + C.val) / 512 % 4096 = R.val % 4096; omega
  rw [e, o_read]
  rfl

end Cert.Attn

end
-- ==== Proof.Attn.Claims.lean ====
/-
  The five claims of the attention.
-/
module

public import proofs.«01_k».proof.Defs
public import proofs.«01_k».proof.Proof.Attn.Reference
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read

@[expose] public section

noncomputable section

namespace Cert.Attn

open Idealize.ShloMosaic Idealize.ShloMosaic.TcCoe Idealize.SL.Sem

/-- The kernel runs, keeps its arguments and leaves the machine quiet. -/
theorem frame_p : Cert.quiescent_Kernel := fun m ρ _ => Cert.Kernel.Gen.frame m ρ

/-- So does the kernel over the extended reals. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two named constants, `1 / log 2` and `1 / (8 log 2)`. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale" .f32 0x3E38AA3B#32 (((1 / 8) * (Real.log 2)⁻¹ : ℝ) : EReal) rfl⟩

/-- On the same arguments the kernel and the reference end with the same array: the attention. -/
theorem algebraic : Cert.algebraic_KernelIdeal_ReferenceIdeal := by
  intro m ρ m' ρ' _ hagree
  refine ⟨fun c => (Cert.KernelIdeal.Gen.dats m 0 c).arrAt 4 Cert.KernelIdeal.cfg0.N, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  rw [Cert.ReferenceIdeal.Read.val_main_v33_eq, h0, h1, h2, h3]
  exact (ref_read _ _ _ _).trans (final_out m c).symm

end Cert.Attn

end
-- ==== Proof.Dense.Rows.lean ====
/-
  The row functions that the dense calls share: the norm of a row, the logistic function, the products.
-/
module

public import Idealize.ShloMosaic.PureOps.Ideal.Laws
public import Idealize.ShloMosaic.Lib.Pointwise

@[expose] public section

noncomputable section

namespace Cert.Dense

open Idealize.ShloMosaic

/-- A row over the root of its mean square, plus a small constant, times a row of weights. -/
def rmsRow (x w : Fin 1024 → EReal) (d : Fin 1024) : EReal :=
  x d * Ideal.rsqrt (Ideal.div (∑ k, x k * x k) (Ideal.ofBits .f32 0x44800000#32) + Ideal.ofBits .f32 0x358637BD#32) * w d

/-- The logistic function. -/
def sg (z : EReal) : EReal := Ideal.div 1 (1 + Ideal.exp (-z))

/-- A row of the feed-forward part: the row plus half of `(silu (h g) * (h u)) d`, where `h` is the row's norm. -/
def ffnRow (x w : Fin 1024 → EReal) (g u : Fin 1024 → Fin 2816 → EReal) (d : Fin 2816 → Fin 1024 → EReal) (c : Fin 1024) : EReal :=
  x c + Ideal.ofBits .f32 0x3F000000#32 *
    ∑ f, ((∑ k, rmsRow x w k * g k f) * sg (∑ k, rmsRow x w k * g k f) * (∑ k, rmsRow x w k * u k f)) * d f c

/-- A row's norm against a column of weights. -/
def projAt (x w : Fin 1024 → EReal) (W : Fin 1024 → EReal) : EReal := ∑ k, rmsRow x w k * W k

/-- A row of the merge: the row plus, through a last product, the gated sum of the three projections. -/
def mergeRow (x : Fin 1024 → EReal) (oa ob oc : Fin 512 → EReal) (ga gb gc : Fin 1024 → EReal) (wa wb wc : Fin 512 → Fin 1024 → EReal)
    (wo : Fin 1024 → Fin 1024 → EReal) (c : Fin 1024) : EReal :=
  x c + ∑ d, (ga d * (∑ k, oa k * wa k d) + gb d * (∑ k, ob k * wb k d) + gc d * (∑ k, oc k * wc k d)) * wo d c

/-- Two arrays of rank two that agree at every row and column are equal. -/
theorem ext2 {α : Type} {n0 n1 : ℕ} {f g : (⟨2, ![n0, n1]⟩ : Shape).Idx → α} (h : ∀ (a : Fin n0) (b : Fin n1), f (ix2 a b) = g (ix2 a b)) :
    f = g := funext fun y => by rw [eq_ix2 y]; exact h _ _

end Cert.Dense

end
-- ==== Proof.Ffn.Block.lean ====
/-
  What a grid step of the feed-forward call stores.
-/
module

public import proofs.«01_k».proof.Proof.Dense.Rows
public import proofs.«01_k».proof.Proof.Gen.FfnIdeal.Value

@[expose] public section

set_option maxRecDepth 65536

noncomputable section

namespace Cert.Dense.Ffn

open Idealize.ShloMosaic Idealize.ShloMosaic.TcCoe Idealize.ShloMosaic.Tactic Cert.Dense
open Cert.FfnIdeal Cert.FfnIdeal.Gen

variable (x0 : Vec Ideal S512x1024 .f32) (x1 : Vec Ideal S1x1x1024 .f32) (x2 x3 : Vec Ideal S1x1024x2816 .bf16)
  (x4 : Vec Ideal S1x2816x1024 .bf16)

/-- The stored block, at row `r` and column `c`, is the row function of row `r`. -/
theorem pay_apply (r : Fin 512) (c : Fin 1024) :
    (k0_pay1 (F := Ideal) x0 (k0_pay2 (F := Ideal) x0 x1 x2 x3 x4) (Scalar.ofBits .f32 0x3F000000#32) (ix2 r c) : EReal)
      = ffnRow (fun k => x0 (ix2 r k)) (fun k => x1 (ix3 0 0 k)) (fun k f => x2 (ix3 0 k f)) (fun k f => x3 (ix3 0 k f))
          (fun f c => x4 (ix3 0 f c)) c := by
  unfold ffnRow rmsRow sg
  pointwise [k0_pay1, k0_pay2]
  simp only [zero_sub]

end Cert.Dense.Ffn

end
-- ==== Proof.Ffn.Array.lean ====
/-
  What the result array of the feed-forward call holds after the grid: the row function of every row.
-/
module

public import proofs.«01_k».proof.Proof.Ffn.Block
public import Idealize.ShloMosaic.Lib.StableHlo.ReadAt

@[expose] public section

set_option maxRecDepth 65536

noncomputable section

namespace Cert.Dense.Ffn

open Idealize.ShloMosaic Idealize.ShloMosaic.TcCoe Idealize.ShloMosaic.Tactic Cert.Dense
open Cert.FfnIdeal Cert.FfnIdeal.Gen

/-- The feed-forward layer as an array. -/
def ffnArr (x : Vec Ideal S16384x1024 .f32) (w : Vec Ideal S4x1024 .f32) (g u : Vec Ideal S4x1024x2816 .f32)
    (d : Vec Ideal S4x2816x1024 .f32) : Vec Ideal S16384x1024 .f32 := fun y =>
  ffnRow (fun k => x (ix2 (y 0) k)) (fun k => w (ix2 0 k)) (fun k f => g (ix3 0 k f)) (fun k f => u (ix3 0 k f))
    (fun f c => d (ix3 0 f c)) (y 1)

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = 0 ∧ win0_3.index t 1 = 0 ∧ win0_3.index t 2 = 0 := by decide +kernel
theorem index4 : ∀ t : Fin grid0.N, win0_4.index t 0 = 0 ∧ win0_4.index t 1 = 0 ∧ win0_4.index t 2 = 0 := by decide +kernel
theorem index5 : ∀ t : Fin grid0.N, win0_5.index t 0 = t.val ∧ win0_5.index t 1 = 0 := by decide +kernel
theorem N_lt (t : Fin cfg0.N) : t.val < 32 := t.isLt

variable (m : (ℓ : Loc nD τ sig) → Buf (Elt Ideal) ℓ) (c : Dev nD)

abbrev a0 : Vec Ideal S16384x1024 .f32 := m ((c : Thread nD τ).loc main_arg0)
abbrev a1 : Vec Ideal S4x1024 .f32 := m ((c : Thread nD τ).loc main_arg1)
abbrev a2 : Vec Ideal S4x1024x2816 .f32 := m ((c : Thread nD τ).loc main_arg2)
abbrev a3 : Vec Ideal S4x1024x2816 .f32 := m ((c : Thread nD τ).loc main_arg3)
abbrev a4 : Vec Ideal S4x2816x1024 .f32 := m ((c : Thread nD τ).loc main_arg4)

/-- The normalization's weights with an axis put in. -/
theorem v0_at (k : Fin 1024) : (V m c main_v0 (ix3 (0 : Fin 4) (0 : Fin 1) k) : EReal) = a1 m c (ix2 0 k) := by
  unfold V; after_reads_at
theorem v1_at (k : Fin 1024) (f : Fin 2816) : (V m c main_v1 (ix3 (0 : Fin 4) k f) : EReal) = a2 m c (ix3 0 k f) := by
  unfold V; after_reads_at
theorem v2_at (k : Fin 1024) (f : Fin 2816) : (V m c main_v2 (ix3 (0 : Fin 4) k f) : EReal) = a3 m c (ix3 0 k f) := by
  unfold V; after_reads_at
theorem v3_at (f : Fin 2816) (k : Fin 1024) : (V m c main_v3 (ix3 (0 : Fin 4) f k) : EReal) = a4 m c (ix3 0 f k) := by
  unfold V; after_reads_at

/-- The row of the array a point's row `r` is. -/
def rowOf (t : Fin cfg0.N) (r : Fin 512) : Fin 16384 := ⟨t.val * 512 + r.val, by have := N_lt t; omega⟩

theorem iblk0 (t : Fin cfg0.N) (r : Fin 512) (k : Fin 1024) :
    (iblk m c 0 t (ix2 r k) : EReal) = a0 m c (ix2 (rowOf t r) k) := by
  unfold iblk
  rw [View.read_apply]
  refine (congrFun (V_main_arg0 m c) _).trans (congrArg (a0 m c) (funext fun a => Fin.ext ?_))
  match a with
  | ⟨0, _⟩ => show win0_0.index t 0 * 512 + 1 * r.val = _; rw [(index0 t).1, Nat.one_mul]; rfl
  | ⟨1, _⟩ => show win0_0.index t 1 * 1024 + 1 * k.val = _; rw [(index0 t).2, Nat.one_mul, Nat.zero_mul, Nat.zero_add]; rfl
theorem iblk1 (t : Fin cfg0.N) (k : Fin 1024) :
    (iblk m c 1 t (ix3 (0 : Fin 1) (0 : Fin 1) k) : EReal) = a1 m c (ix2 0 k) := by
  refine Eq.trans ?_ (v0_at m c k)
  unfold iblk
  rw [View.read_apply]
  refine congrArg (V m c main_v0) (funext fun a => Fin.ext ?_)
  match a with
  | ⟨0, _⟩ => show win0_1.index t 0 * 1 + 1 * 0 = 0; rw [(index1 t).1]
  | ⟨1, _⟩ => show win0_1.index t 1 * 1 + 1 * 0 = 0; rw [(index1 t).2.1]
  | ⟨2, _⟩ => show win0_1.index t 2 * 1024 + 1 * k.val = k.val; rw [(index1 t).2.2]; omega
theorem iblk2 (t : Fin cfg0.N) (k : Fin 1024) (f : Fin 2816) :
    (iblk m c 2 t (ix3 (0 : Fin 1) k f) : EReal) = a2 m c (ix3 0 k f) := by
  refine Eq.trans ?_ (v1_at m c k f)
  unfold iblk
  rw [View.read_apply]
  refine congrArg (V m c main_v1) (funext fun a => Fin.ext ?_)
  match a with
  | ⟨0, _⟩ => show win0_2.index t 0 * 1 + 1 * 0 = 0; rw [(index2 t).1]
  | ⟨1, _⟩ => show win0_2.index t 1 * 1024 + 1 * k.val = k.val; rw [(index2 t).2.1]; omega
  | ⟨2, _⟩ => show win0_2.index t 2 * 2816 + 1 * f.val = f.val; rw [(index2 t).2.2]; omega
theorem iblk3 (t : Fin cfg0.N) (k : Fin 1024) (f : Fin 2816) :
    (iblk m c 3 t (ix3 (0 : Fin 1) k f) : EReal) = a3 m c (ix3 0 k f) := by
  refine Eq.trans ?_ (v2_at m c k f)
  unfold iblk
  rw [View.read_apply]
  refine congrArg (V m c main_v2) (funext fun a => Fin.ext ?_)
  match a with
  | ⟨0, _⟩ => show win0_3.index t 0 * 1 + 1 * 0 = 0; rw [(index3 t).1]
  | ⟨1, _⟩ => show win0_3.index t 1 * 1024 + 1 * k.val = k.val; rw [(index3 t).2.1]; omega
  | ⟨2, _⟩ => show win0_3.index t 2 * 2816 + 1 * f.val = f.val; rw [(index3 t).2.2]; omega
theorem iblk4 (t : Fin cfg0.N) (f : Fin 2816) (k : Fin 1024) :
    (iblk m c 4 t (ix3 (0 : Fin 1) f k) : EReal) = a4 m c (ix3 0 f k) := by
  refine Eq.trans ?_ (v3_at m c f k)
  unfold iblk
  rw [View.read_apply]
  refine congrArg (V m c main_v3) (funext fun a => Fin.ext ?_)
  match a with
  | ⟨0, _⟩ => show win0_4.index t 0 * 1 + 1 * 0 = 0; rw [(index4 t).1]
  | ⟨1, _⟩ => show win0_4.index t 1 * 2816 + 1 * f.val = f.val; rw [(index4 t).2.1]; omega
  | ⟨2, _⟩ => show win0_4.index t 2 * 1024 + 1 * k.val = k.val; rw [(index4 t).2.2]; omega

/-- The stored block at an entry, from the staged blocks. -/
theorem out_apply (x0 : Vec Ideal S512x1024 .f32) (x1 : Vec Ideal S1x1x1024 .f32) (x2 x3 : Vec Ideal S1x1024x2816 .bf16)
    (x4 : Vec Ideal S1x2816x1024 .bf16) (r : Fin 512) (k : Fin 1024) :
    (out0_5 x0 x1 x2 x3 x4 (ix2 r k) : EReal)
      = ffnRow (fun k => x0 (ix2 r k)) (fun k => x1 (ix3 0 0 k)) (fun k f => x2 (ix3 0 k f)) (fun k f => x3 (ix3 0 k f))
          (fun f c => x4 (ix3 0 f c)) k := by
  unfold out0_5
  rw [View.canon_unit_zero (by decide), View.ld_unit_zero (by decide), View.ld_unit_zero (by decide), View.ld_unit_zero (by decide),
    View.ld_unit_zero (by decide), View.ld_unit_zero (by decide)]
  exact pay_apply x0 x1 x2 x3 x4 r k

/-- What a point writes back is its block of the layer. -/
theorem flushed_eq (t : Fin cfg0.N) :
    (dats m 0 c).flushed 5 t = ((cfg0.win 5).blk t).view.read (Elt Ideal) (ffnArr (a0 m c) (a1 m c) (a2 m c) (a3 m c) (a4 m c)) := by
  rw [Cert.FfnIdeal.Value.flushed5]
  refine ext2 (n0 := 512) (n1 := 1024) fun r k => ?_
  have e : (out0_5 (iblk m c 0 t) (iblk m c 1 t) (iblk m c 2 t) (iblk m c 3 t) (iblk m c 4 t) (ix2 r k) : EReal)
      = ffnArr (a0 m c) (a1 m c) (a2 m c) (a3 m c) (a4 m c) (ix2 (rowOf t r) k) := by
    rw [out_apply]
    simp only [iblk0, iblk1, iblk2, iblk3, iblk4]
    rfl
  refine Eq.trans e ?_
  rw [View.read_apply]
  refine congrArg (ffnArr (a0 m c) (a1 m c) (a2 m c) (a3 m c) (a4 m c)) (funext fun a => Fin.ext ?_)
  match a with
  | ⟨0, _⟩ => show _ = win0_5.index t 0 * 512 + 1 * r.val; rw [(index5 t).1, Nat.one_mul]; rfl
  | ⟨1, _⟩ => show _ = win0_5.index t 1 * 1024 + 1 * k.val; rw [(index5 t).2, Nat.one_mul, Nat.zero_mul, Nat.zero_add]; rfl

/-- After the grid the result array is the layer. -/
theorem final_out : (dats m 0 c).arrAt 5 cfg0.N = ffnArr (a0 m c) (a1 m c) (a2 m c) (a3 m c) (a4 m c) :=
  (dats m 0 c).arrAt_eq_of_cover 5 _ (fun t _ => flushed_eq m c t) fun i => by
    have h0 : (i 0 : Nat) < 16384 := (i 0).isLt
    have h1 : (i 1 : Nat) < 1024 := (i 1).isLt
    have hN : (i 0 : Nat) / 512 < 32 := by omega
    let t : Fin cfg0.N := ⟨_, hN⟩
    refine ⟨t, flush0_5 t, ?_⟩
    show i ∈ ((View.whole main_v4).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index5 t).1]; dsimp only [t]; omega
    | ⟨1, _⟩ =>
      show win0_5.index t 1 * 1024 ≤ (i 1 : Nat) ∧ (i 1 : Nat) < win0_5.index t 1 * 1024 + 1024
      rw [(index5 t).2]; omega

end Cert.Dense.Ffn

end
-- ==== Proof.Ffn.Reference.lean ====
/-
  What the reference of the feed-forward call computes, read at an index: the row function.
-/
module

public import proofs.«01_k».proof.Proof.Ffn.Array
public import proofs.«01_k».proof.Proof.Gen.FfnRefIdeal.Read

@[expose] public section

set_option maxRecDepth 65536

noncomputable section

namespace Cert.Dense.Ffn

open Idealize.ShloMosaic Idealize.ShloMosaic.TcCoe Idealize.ShloMosaic.Tactic Cert.Dense
open Cert.FfnRefIdeal Cert.FfnRefIdeal.Read

variable (x0 : Vec Ideal S16384x1024 .f32) (x1 : Vec Ideal S4x1024 .f32) (x2 x3 : Vec Ideal S4x1024x2816 .f32)
  (x4 : Vec Ideal S4x2816x1024 .f32)

/-- The normalized rows. -/
theorem norm_read (r : Fin 16384) (k : Fin 1024) :
    (val_main_v14 (F := Ideal) x0 x1 (ix2 r k) : EReal) = rmsRow (fun k => x0 (ix2 r k)) (fun k => x1 (ix2 0 k)) k := by
  unfold rmsRow
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The first product. -/
theorem gate_read (r : Fin 16384) (f : Fin 2816) :
    (val_main_v17 (F := Ideal) x0 x1 x2 (ix2 r f) : EReal)
      = ∑ k, rmsRow (fun k => x0 (ix2 r k)) (fun k => x1 (ix2 0 k)) k * x2 (ix3 0 k f) := by
  simp only [← norm_read]
  generalize h : val_main_v14 (F := Ideal) x0 x1 = y
  unfold val_main_v17
  rw [h]
  pointwise [val_main_v16, val_main_v15]

/-- The second product. -/
theorem up_read (r : Fin 16384) (f : Fin 2816) :
    (val_main_v21 (F := Ideal) x0 x1 x3 (ix2 r f) : EReal)
      = ∑ k, rmsRow (fun k => x0 (ix2 r k)) (fun k => x1 (ix2 0 k)) k * x3 (ix3 0 k f) := by
  simp only [← norm_read]
  generalize h : val_main_v14 (F := Ideal) x0 x1 = y
  unfold val_main_v21
  rw [h]
  pointwise [val_main_v20, val_main_v19]

/-- The reference's result is the layer. -/
theorem ref_read : val_main_v28 (F := Ideal) x0 x1 x2 x3 x4 = ffnArr x0 x1 x2 x3 x4 := by
  refine ext2 (n0 := 16384) (n1 := 1024) fun r c => ?_
  unfold ffnArr ffnRow sg
  show (_ : EReal) = x0 (ix2 r c) + _ * ∑ f : Fin 2816, ((∑ k, rmsRow (fun k => x0 (ix2 r k)) (fun k => x1 (ix2 0 k)) k * x2 (ix3 0 k f)) *
    Ideal.div 1 (1 + Ideal.exp (-(∑ k, rmsRow (fun k => x0 (ix2 r k)) (fun k => x1 (ix2 0 k)) k * x2 (ix3 0 k f)))) *
    (∑ k, rmsRow (fun k => x0 (ix2 r k)) (fun k => x1 (ix2 0 k)) k * x3 (ix3 0 k f))) * x4 (ix3 0 f c)
  simp only [← gate_read x0 x1 x2, ← up_read x0 x1 x3]
  generalize hg : val_main_v17 (F := Ideal) x0 x1 x2 = g
  generalize hu : val_main_v21 (F := Ideal) x0 x1 x3 = u
  unfold val_main_v28 val_main_v27 val_main_v26 val_main_v25 val_main_v22 val_main_v18 val_main_call0_v5 val_main_call0_v3
    val_main_call0_v1 val_main_call0_v0
  rw [hg, hu]
  pointwise [val_main_v24, val_main_v23, val_main_cst_2, val_main_call0_v4, val_main_call0_v2, val_main_call0_cst, val_main_call0_cst_0]

end Cert.Dense.Ffn

end
-- ==== Proof.Ffn.Claims.lean ====
/-
  The five claims of the feed-forward call.
-/
module

public import proofs.«01_k».proof.Defs
public import proofs.«01_k».proof.Proof.Ffn.Reference
public import proofs.«01_k».proof.Proof.Gen.Ffn.Frame
public import proofs.«01_k».proof.Proof.Gen.FfnIdeal.Frame
public import proofs.«01_k».proof.Proof.Gen.FfnRefIdeal.Run

@[expose] public section

noncomputable section

namespace Cert.Dense.Ffn

open Idealize.ShloMosaic Idealize.ShloMosaic.TcCoe Idealize.SL.Sem

/-- The kernel runs, keeps its arguments and leaves the machine quiet. -/
theorem frame_p : Cert.quiescent_Ffn := fun m ρ _ => Cert.Ffn.Gen.frame m ρ

/-- So does the kernel over the extended reals. -/
theorem frame_pi : Cert.quiescent_FfnIdeal := fun m ρ _ => Cert.FfnIdeal.Gen.frame m ρ

/-- So does the reference. -/
theorem frame_ri : Cert.quiescent_FfnRefIdeal := fun m ρ _ =>
  (θ_run Cert.FfnRefIdeal.defs _ _).mono
    (fun r h => ⟨fun c => (h c).2, sem_eq_zero_of_no_sems (by decide) r.2⟩)
    (Cert.FfnRefIdeal.Value.run (F := Ideal) m ρ)

theorem preserves : Cert.preserves_Ffn_FfnIdeal := trivial

/-- On the same arguments the kernel and the reference end with the same array: the feed-forward layer. -/
theorem algebraic : Cert.algebraic_FfnIdeal_FfnRefIdeal := by
  intro m ρ m' ρ' _ hagree
  refine ⟨fun c => (Cert.FfnIdeal.Gen.dats m 0 c).arrAt 5 Cert.FfnIdeal.cfg0.N, Cert.FfnIdeal.Value.run_blocks m ρ, ?_⟩
  refine (θ_run Cert.FfnRefIdeal.defs _ _).mono (fun _ h c => ⟨(h c).1.trans ?_, (h c).2⟩)
    (Cert.FfnRefIdeal.Value.run (F := Ideal) m' ρ')
  obtain ⟨h0, h1, h2, h3, h4⟩ := hagree c
  rw [Cert.FfnRefIdeal.Read.val_main_v28_eq, h0, h1, h2, h3, h4]
  exact (ref_read _ _ _ _ _).trans (final_out m c).symm

end Cert.Dense.Ffn

end
-- ==== Proof.Gates.Block.lean ====
/-
  What a grid step of the projection stores.
-/
module

public import proofs.«01_k».proof.Proof.Dense.Rows
public import proofs.«01_k».proof.Proof.Gen.GatesIdeal.Frame

@[expose] public section

set_option maxRecDepth 65536

noncomputable section

namespace Cert.Dense.Gates

open Idealize.ShloMosaic Idealize.ShloMosaic.TcCoe Idealize.ShloMosaic.Tactic Cert.Dense
open Cert.GatesIdeal Cert.GatesIdeal.Gen

variable (x0 : Vec Ideal S512x1024 .f32) (x1 : Vec Ideal S1x1x1024 .f32) (x2 : Vec Ideal S1x1024x5248 .bf16)

/-- The normalized block. -/
theorem norm_apply (r : Fin 512) (k : Fin 1024) :
    (k0_pay2 (F := Ideal) x0 x1 (ix2 r k) : EReal) = rmsRow (fun k => x0 (ix2 r k)) (fun k => x1 (ix3 0 0 k)) k := by
  unfold rmsRow
  pointwise [k0_pay2]

/-- The columns that this part of the product takes. -/
theorem cols3 (k : Fin 1024) (f : Fin 1536) : (View.ld x2 r0_2 (ix3 (0 : Fin 1) k f) : EReal) = x2 (ix3 0 k ⟨0 + f.val, by omega⟩) := by
  refine congrArg x2 (funext fun a => Fin.ext ?_)
  match a with
  | ⟨0, _⟩ => rfl
  | ⟨1, _⟩ => show 0 + 1 * k.val = k.val; omega
  | ⟨2, _⟩ => show 0 + 1 * f.val = 0 + f.val; omega
theorem out3_apply (r : Fin 512) (f : Fin 1536) :
    (out0_3 x0 x1 x2 (ix2 r f) : EReal) = projAt (fun k => x0 (ix2 r k)) (fun k => x1 (ix3 0 0 k)) (fun k => x2 (ix3 0 k ⟨0 + f.val, by omega⟩)) := by
  unfold out0_3
  rw [View.canon_unit_zero (by decide), View.ld_unit_zero (S := S512x1024) (by decide), View.ld_unit_zero (S := S1x1x1024) (by decide)]
  unfold projAt
  simp only [← norm_apply, ← cols3]
  generalize View.ld x2 r0_2 = y
  unfold k0_pay3
  generalize k0_pay2 (F := Ideal) x0 x1 = h
  pointwise []

/-- The columns that this part of the product takes. -/
theorem cols4 (k : Fin 1024) (f : Fin 128) : (View.ld x2 r0_4 (ix3 (0 : Fin 1) k f) : EReal) = x2 (ix3 0 k ⟨1536 + f.val, by omega⟩) := by
  refine congrArg x2 (funext fun a => Fin.ext ?_)
  match a with
  | ⟨0, _⟩ => rfl
  | ⟨1, _⟩ => show 0 + 1 * k.val = k.val; omega
  | ⟨2, _⟩ => show 1536 + 1 * f.val = 1536 + f.val; omega
theorem out4_apply (r : Fin 512) (f : Fin 128) :
    (out0_4 x0 x1 x2 (ix2 r f) : EReal) = projAt (fun k => x0 (ix2 r k)) (fun k => x1 (ix3 0 0 k)) (fun k => x2 (ix3 0 k ⟨1536 + f.val, by omega⟩)) := by
  unfold out0_4
  rw [View.canon_unit_zero (by decide), View.ld_unit_zero (S := S512x1024) (by decide), View.ld_unit_zero (S := S1x1x1024) (by decide)]
  unfold projAt
  simp only [← norm_apply, ← cols4]
  generalize View.ld x2 r0_4 = y
  unfold k0_pay4
  generalize k0_pay2 (F := Ideal) x0 x1 = h
  pointwise []

/-- The columns that this part of the product takes. -/
theorem cols5 (k : Fin 1024) (f : Fin 512) : (View.ld x2 r0_6 (ix3 (0 : Fin 1) k f) : EReal) = x2 (ix3 0 k ⟨1664 + f.val, by omega⟩) := by
  refine congrArg x2 (funext fun a => Fin.ext ?_)
  match a with
  | ⟨0, _⟩ => rfl
  | ⟨1, _⟩ => show 0 + 1 * k.val = k.val; omega
  | ⟨2, _⟩ => show 1664 + 1 * f.val = 1664 + f.val; omega
theorem out5_apply (r : Fin 512) (f : Fin 512) :
    (out0_5 x0 x1 x2 (ix2 r f) : EReal) = projAt (fun k => x0 (ix2 r k)) (fun k => x1 (ix3 0 0 k)) (fun k => x2 (ix3 0 k ⟨1664 + f.val, by omega⟩)) := by
  unfold out0_5
  rw [View.canon_unit_zero (by decide), View.ld_unit_zero (S := S512x1024) (by decide), View.ld_unit_zero (S := S1x1x1024) (by decide)]
  unfold projAt
  simp only [← norm_apply, ← cols5]
  generalize View.ld x2 r0_6 = y
  unfold k0_pay5
  generalize k0_pay2 (F := Ideal) x0 x1 = h
  pointwise []

/-- The columns that this part of the product takes. -/
theorem cols6 (k : Fin 1024) (f : Fin 3072) : (View.ld x2 r0_8 (ix3 (0 : Fin 1) k f) : EReal) = x2 (ix3 0 k ⟨2176 + f.val, by omega⟩) := by
  refine congrArg x2 (funext fun a => Fin.ext ?_)
  match a with
  | ⟨0, _⟩ => rfl
  | ⟨1, _⟩ => show 0 + 1 * k.val = k.val; omega
  | ⟨2, _⟩ => show 2176 + 1 * f.val = 2176 + f.val; omega
theorem out6_apply (r : Fin 512) (f : Fin 3072) :
    (out0_6 x0 x1 x2 (ix2 r f) : EReal) = sg (projAt (fun k => x0 (ix2 r k)) (fun k => x1 (ix3 0 0 k)) (fun k => x2 (ix3 0 k ⟨2176 + f.val, by omega⟩))) := by
  unfold out0_6
  rw [View.canon_unit_zero (by decide), View.ld_unit_zero (S := S512x1024) (by decide), View.ld_unit_zero (S := S1x1x1024) (by decide)]
  unfold projAt
  simp only [← norm_apply, ← cols6]
  generalize View.ld x2 r0_8 = y
  generalize k0_pay2 (F := Ideal) x0 x1 = h
  unfold sg
  pointwise [k0_pay1]
  simp only [zero_sub]

end Cert.Dense.Gates

end
-- ==== Proof.Gates.Array.lean ====
/-
  What the result arrays of the projection hold after the grid: the columns of every row's norm against the weights.
-/
module

public import proofs.«01_k».proof.Proof.Gates.Block
public import Idealize.ShloMosaic.Lib.StableHlo.ReadAt

@[expose] public section

set_option maxRecDepth 65536

noncomputable section

namespace Cert.Dense.Gates

open Idealize.ShloMosaic Idealize.ShloMosaic.TcCoe Idealize.ShloMosaic.Tactic Cert.Dense
open Cert.GatesIdeal Cert.GatesIdeal.Gen

section
variable (x : Vec Ideal S16384x1024 .f32) (w : Vec Ideal S4x1024 .f32) (W : Vec Ideal S4x1024x8456 .f32)
/-- Row `r` against column `f` of the weights. -/
def entry (r : Fin 16384) (f : Fin 8456) : EReal := projAt (fun k => x (ix2 r k)) (fun k => w (ix2 0 k)) (fun k => W (ix3 0 k f))
/-- The recurrence's inputs. -/
def arr3 : Vec Ideal S16384x1536 .f32 := fun y => entry x w W (y 0) ⟨3328 + (y 1).val, by have : (y 1).val < 1536 := (y 1).isLt; omega⟩
/-- The two rates of every head, padded with zeros. -/
def arr4 : Vec Ideal S16384x128 .f32 := fun y => if h : (y 1).val < 8 then entry x w W (y 0) ⟨4864 + (y 1).val, by omega⟩ else 0
/-- The recurrence's output gate. -/
def arr5 : Vec Ideal S16384x512 .f32 := fun y => entry x w W (y 0) ⟨4872 + (y 1).val, by have : (y 1).val < 512 := (y 1).isLt; omega⟩
/-- The gates of the three mixers. -/
def arr6 : Vec Ideal S16384x3072 .f32 := fun y => sg (entry x w W (y 0) ⟨5384 + (y 1).val, by have : (y 1).val < 3072 := (y 1).isLt; omega⟩)
end

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem N_lt (t : Fin cfg0.N) : t.val < 32 := t.isLt

variable (m : (ℓ : Loc nD τ sig) → Buf (Elt Ideal) ℓ) (c : Dev nD)

abbrev a0 : Vec Ideal S16384x1024 .f32 := m ((c : Thread nD τ).loc main_arg0)
abbrev a1 : Vec Ideal S4x1024 .f32 := m ((c : Thread nD τ).loc main_arg1)
abbrev a2 : Vec Ideal S4x1024x8456 .f32 := m ((c : Thread nD τ).loc main_arg2)

/-- The row of the array a point's row `r` is. -/
def rowOf (t : Fin cfg0.N) (r : Fin 512) : Fin 16384 := ⟨t.val * 512 + r.val, by have := N_lt t; omega⟩

/-- The normalization's weights with an axis put in. -/
theorem v6_at (k : Fin 1024) : (V m c main_v6 (ix3 (0 : Fin 4) (0 : Fin 1) k) : EReal) = a1 m c (ix2 0 k) := by
  unfold V; after_reads_at
/-- The weights' columns as the call takes them: the first group. -/
theorem v5_a (k : Fin 1024) (f : Fin 1536) :
    (V m c main_v5 (ix3 (0 : Fin 4) k (⟨f.val, by omega⟩ : Fin 5248)) : EReal) = a2 m c (ix3 0 k ⟨3328 + f.val, by omega⟩) := by
  unfold V; after_reads_at; after_reads_at
theorem sitofp_zero : (FloatOps.sitofp FTy.f32 0#32 : Ideal .f32) = (0 : EReal) := by
  show (((0#32 : BitVec 32).toInt : ℝ) : EReal) = 0
  simp
/-- The second group: eight columns, then zeros. -/
theorem v5_b (k : Fin 1024) (f : Fin 128) : (V m c main_v5 (ix3 (0 : Fin 4) k (⟨1536 + f.val, by omega⟩ : Fin 5248)) : EReal)
    = if h : f.val < 8 then a2 m c (ix3 0 k ⟨4864 + f.val, by omega⟩) else 0 := by
  unfold V; after_reads_at; after_reads_at
  rw [sitofp_zero]
/-- The rest. -/
theorem v5_c (k : Fin 1024) (f : Fin 3584) :
    (V m c main_v5 (ix3 (0 : Fin 4) k (⟨1664 + f.val, by omega⟩ : Fin 5248)) : EReal) = a2 m c (ix3 0 k ⟨4872 + f.val, by omega⟩) := by
  unfold V; after_reads_at
  rw [dif_neg (by omega), dif_neg (by omega)]
  after_reads_at
  have e : (1664 + f.val - 1536 - 128 : ℕ) = f.val := by omega
  simp only [e]

theorem iblk0 (t : Fin cfg0.N) (r : Fin 512) (k : Fin 1024) :
    (iblk m c 0 t (ix2 r k) : EReal) = a0 m c (ix2 (rowOf t r) k) := by
  unfold iblk
  rw [View.read_apply]
  refine (congrFun (V_main_arg0 m c) _).trans (congrArg (a0 m c) (funext fun a => Fin.ext ?_))
  match a with
  | ⟨0, _⟩ => show win0_0.index t 0 * 512 + 1 * r.val = t.val * 512 + r.val; rw [(index0 t).1, Nat.one_mul]
  | ⟨1, _⟩ => show win0_0.index t 1 * 1024 + 1 * k.val = k.val; rw [(index0 t).2]; omega
theorem iblk1 (t : Fin cfg0.N) (k : Fin 1024) : (iblk m c 1 t (ix3 (0 : Fin 1) (0 : Fin 1) k) : EReal) = a1 m c (ix2 0 k) := by
  refine Eq.trans ?_ (v6_at m c k)
  unfold iblk
  rw [View.read_apply]
  refine congrArg (V m c main_v6) (funext fun a => Fin.ext ?_)
  match a with
  | ⟨0, _⟩ => show win0_1.index t 0 * 1 + 1 * 0 = 0; rw [(index1 t).1]
  | ⟨1, _⟩ => show win0_1.index t 1 * 1 + 1 * 0 = 0; rw [(index1 t).2.1]
  | ⟨2, _⟩ => show win0_1.index t 2 * 1024 + 1 * k.val = k.val; rw [(index1 t).2.2]; omega
theorem iblk2 (t : Fin cfg0.N) (k : Fin 1024) (f : Fin 5248) : (iblk m c 2 t (ix3 (0 : Fin 1) k f) : EReal) = V m c main_v5 (ix3 (0 : Fin 4) k f) := by
  unfold iblk
  rw [View.read_apply]
  refine congrArg (V m c main_v5) (funext fun a => Fin.ext ?_)
  match a with
  | ⟨0, _⟩ => show win0_2.index t 0 * 1 + 1 * 0 = 0; rw [(index2 t).1]
  | ⟨1, _⟩ => show win0_2.index t 1 * 1024 + 1 * k.val = k.val; rw [(index2 t).2.1]; omega
  | ⟨2, _⟩ => show win0_2.index t 2 * 5248 + 1 * f.val = f.val; rw [(index2 t).2.2]; omega

theorem entry_eq (t : Fin cfg0.N) (r : Fin 512) (g : Fin 5248) (f : Fin 8456)
    (h : ∀ k, (V m c main_v5 (ix3 (0 : Fin 4) k g) : EReal) = a2 m c (ix3 0 k f)) :
    projAt (fun k => iblk m c 0 t (ix2 r k)) (fun k => iblk m c 1 t (ix3 0 0 k)) (fun k => iblk m c 2 t (ix3 0 k g))
      = entry (a0 m c) (a1 m c) (a2 m c) (rowOf t r) f := by
  simp only [iblk0, iblk1, iblk2, h]
  rfl

/-- What a point writes back of result 0 is its block. -/
theorem flushed3_eq (t : Fin cfg0.N) :
    (dats m 0 c).flushed 3 t = ((cfg0.win 3).blk t).view.read (Elt Ideal) (arr3 (a0 m c) (a1 m c) (a2 m c)) := by
  show (cfg0.win 3).cut (grid0.coords t) ((dats m 0 c).after 3 t) = _
  rw [after0_3]
  refine ext2 (n0 := 512) (n1 := 1536) fun r f => ?_
  have e : (out0_3 (iblk m c 0 t) (iblk m c 1 t) (iblk m c 2 t) (ix2 r f) : EReal) = arr3 (a0 m c) (a1 m c) (a2 m c) (ix2 (rowOf t r) f) := by
    rw [out3_apply]
    refine entry_eq m c t r _ _ fun k => Eq.trans ?_ (v5_a m c k f)
    simp only [Nat.zero_add]
  refine Eq.trans e ?_
  rw [View.read_apply]
  refine congrArg (arr3 (a0 m c) (a1 m c) (a2 m c)) (funext fun a => Fin.ext ?_)
  match a with
  | ⟨0, _⟩ => show _ = win0_3.index t 0 * 512 + 1 * r.val; rw [(index3 t).1, Nat.one_mul]; rfl
  | ⟨1, _⟩ => show _ = win0_3.index t 1 * 1536 + 1 * f.val; rw [(index3 t).2, Nat.one_mul, Nat.zero_mul, Nat.zero_add]; rfl

theorem final3 : (dats m 0 c).arrAt 3 cfg0.N = arr3 (a0 m c) (a1 m c) (a2 m c) :=
  (dats m 0 c).arrAt_eq_of_cover 3 _ (fun t _ => flushed3_eq m c t) fun i => by
    have h0 : (i 0 : Nat) < 16384 := (i 0).isLt
    have h1 : (i 1 : Nat) < 1536 := (i 1).isLt
    have hN : (i 0 : Nat) / 512 < 32 := by omega
    let t : Fin cfg0.N := ⟨_, hN⟩
    refine ⟨t, flush0_3 t, ?_⟩
    show i ∈ ((View.whole main_v7_0).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [(index3 t).1]; dsimp only [t]; omega
    | ⟨1, _⟩ =>
      show win0_3.index t 1 * 1536 ≤ (i 1 : Nat) ∧ (i 1 : Nat) < win0_3.index t 1 * 1536 + 1536
      rw [(index3 t).2]; omega

/-- What a point writes back of result 1 is its block. -/
theorem flushed4_eq (t : Fin cfg0.N) :
    (dats m 0 c).flushed 4 t = ((cfg0.win 4).blk t).view.read (Elt Ideal) (arr4 (a0 m c) (a1 m c) (a2 m c)) := by
  show (cfg0.win 4).cut (grid0.coords t) ((dats m 0 c).after 4 t) = _
  rw [after0_4]
  refine ext2 (n0 := 512) (n1 := 128) fun r f => ?_
  have e : (out0_4 (iblk m c 0 t) (iblk m c 1 t) (iblk m c 2 t) (ix2 r f) : EReal) = arr4 (a0 m c) (a1 m c) (a2 m c) (ix2 (rowOf t r) f) := by
    rw [out4_apply]
    have e4 : arr4 (a0 m c) (a1 m c) (a2 m c) (ix2 (rowOf t r) f)
        = if h : f.val < 8 then entry (a0 m c) (a1 m c) (a2 m c) (rowOf t r) ⟨4864 + f.val, by omega⟩ else 0 := rfl
    rw [e4]
    by_cases hf : f.val < 8
    · rw [dif_pos hf]
      exact entry_eq m c t r _ ⟨4864 + f.val, by omega⟩ fun k => (v5_b m c k f).trans (dif_pos hf)
    · rw [dif_neg hf]
      unfold projAt
      refine Finset.sum_eq_zero fun k _ => ?_
      beta_reduce
      rw [iblk2, v5_b, dif_neg hf, mul_zero]
  refine Eq.trans e ?_
  rw [View.read_apply]
  refine congrArg (arr4 (a0 m c) (a1 m c) (a2 m c)) (funext fun a => Fin.ext ?_)
  match a with
  | ⟨0, _⟩ => show _ = win0_4.index t 0 * 512 + 1 * r.val; rw [(index4 t).1, Nat.one_mul]; rfl
  | ⟨1, _⟩ => show _ = win0_4.index t 1 * 128 + 1 * f.val; rw [(index4 t).2, Nat.one_mul, Nat.zero_mul, Nat.zero_add]; rfl

theorem final4 : (dats m 0 c).arrAt 4 cfg0.N = arr4 (a0 m c) (a1 m c) (a2 m c) :=
  (dats m 0 c).arrAt_eq_of_cover 4 _ (fun t _ => flushed4_eq m c t) fun i => by
    have h0 : (i 0 : Nat) < 16384 := (i 0).isLt
    have h1 : (i 1 : Nat) < 128 := (i 1).isLt
    have hN : (i 0 : Nat) / 512 < 32 := by omega
    let t : Fin cfg0.N := ⟨_, hN⟩
    refine ⟨t, flush0_4 t, ?_⟩
    show i ∈ ((View.whole main_v7_1).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index4 t).1]; dsimp only [t]; omega
    | ⟨1, _⟩ =>
      show win0_4.index t 1 * 128 ≤ (i 1 : Nat) ∧ (i 1 : Nat) < win0_4.index t 1 * 128 + 128
      rw [(index4 t).2]; omega

/-- What a point writes back of result 2 is its block. -/
theorem flushed5_eq (t : Fin cfg0.N) :
    (dats m 0 c).flushed 5 t = ((cfg0.win 5).blk t).view.read (Elt Ideal) (arr5 (a0 m c) (a1 m c) (a2 m c)) := by
  show (cfg0.win 5).cut (grid0.coords t) ((dats m 0 c).after 5 t) = _
  rw [after0_5]
  refine ext2 (n0 := 512) (n1 := 512) fun r f => ?_
  have e : (out0_5 (iblk m c 0 t) (iblk m c 1 t) (iblk m c 2 t) (ix2 r f) : EReal) = arr5 (a0 m c) (a1 m c) (a2 m c) (ix2 (rowOf t r) f) := by
    rw [out5_apply]
    exact entry_eq m c t r _ _ fun k => v5_c m c k ⟨f.val, by omega⟩
  refine Eq.trans e ?_
  rw [View.read_apply]
  refine congrArg (arr5 (a0 m c) (a1 m c) (a2 m c)) (funext fun a => Fin.ext ?_)
  match a with
  | ⟨0, _⟩ => show _ = win0_5.index t 0 * 512 + 1 * r.val; rw [(index5 t).1, Nat.one_mul]; rfl
  | ⟨1, _⟩ => show _ = win0_5.index t 1 * 512 + 1 * f.val; rw [(index5 t).2, Nat.one_mul, Nat.zero_mul, Nat.zero_add]; rfl

theorem final5 : (dats m 0 c).arrAt 5 cfg0.N = arr5 (a0 m c) (a1 m c) (a2 m c) :=
  (dats m 0 c).arrAt_eq_of_cover 5 _ (fun t _ => flushed5_eq m c t) fun i => by
    have h0 : (i 0 : Nat) < 16384 := (i 0).isLt
    have h1 : (i 1 : Nat) < 512 := (i 1).isLt
    have hN : (i 0 : Nat) / 512 < 32 := by omega
    let t : Fin cfg0.N := ⟨_, hN⟩
    refine ⟨t, flush0_5 t, ?_⟩
    show i ∈ ((View.whole main_v7_2).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index5 t).1]; dsimp only [t]; omega
    | ⟨1, _⟩ =>
      show win0_5.index t 1 * 512 ≤ (i 1 : Nat) ∧ (i 1 : Nat) < win0_5.index t 1 * 512 + 512
      rw [(index5 t).2]; omega

/-- What a point writes back of result 3 is its block. -/
theorem flushed6_eq (t : Fin cfg0.N) :
    (dats m 0 c).flushed 6 t = ((cfg0.win 6).blk t).view.read (Elt Ideal) (arr6 (a0 m c) (a1 m c) (a2 m c)) := by
  show (cfg0.win 6).cut (grid0.coords t) ((dats m 0 c).after 6 t) = _
  rw [after0_6]
  refine ext2 (n0 := 512) (n1 := 3072) fun r f => ?_
  have e : (out0_6 (iblk m c 0 t) (iblk m c 1 t) (iblk m c 2 t) (ix2 r f) : EReal) = arr6 (a0 m c) (a1 m c) (a2 m c) (ix2 (rowOf t r) f) := by
    rw [out6_apply]
    refine congrArg sg (entry_eq m c t r _ _ fun k => ?_)
    have e := v5_c m c k ⟨512 + f.val, by omega⟩
    simp only [← Nat.add_assoc] at e
    exact e
  refine Eq.trans e ?_
  rw [View.read_apply]
  refine congrArg (arr6 (a0 m c) (a1 m c) (a2 m c)) (funext fun a => Fin.ext ?_)
  match a with
  | ⟨0, _⟩ => show _ = win0_6.index t 0 * 512 + 1 * r.val; rw [(index6 t).1, Nat.one_mul]; rfl
  | ⟨1, _⟩ => show _ = win0_6.index t 1 * 3072 + 1 * f.val; rw [(index6 t).2, Nat.one_mul, Nat.zero_mul, Nat.zero_add]; rfl

theorem final6 : (dats m 0 c).arrAt 6 cfg0.N = arr6 (a0 m c) (a1 m c) (a2 m c) :=
  (dats m 0 c).arrAt_eq_of_cover 6 _ (fun t _ => flushed6_eq m c t) fun i => by
    have h0 : (i 0 : Nat) < 16384 := (i 0).isLt
    have h1 : (i 1 : Nat) < 3072 := (i 1).isLt
    have hN : (i 0 : Nat) / 512 < 32 := by omega
    let t : Fin cfg0.N := ⟨_, hN⟩
    refine ⟨t, flush0_6 t, ?_⟩
    show i ∈ ((View.whole main_v7_3).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(index6 t).1]; dsimp only [t]; omega
    | ⟨1, _⟩ =>
      show win0_6.index t 1 * 3072 ≤ (i 1 : Nat) ∧ (i 1 : Nat) < win0_6.index t 1 * 3072 + 3072
      rw [(index6 t).2]; omega

/-- The last three positions' rows of every sequence. -/
def lastRows (x : Vec Ideal S16384x1536 .f32) : Vec Ideal S4x3x1536 .f32 :=
  extractStridedSlice S4x3x1536 ![0, 4093, 0] (shapeCast S4x4096x1536 x shapeCasts_S16384x1536_S4x4096x1536) slices_S4x4096x1536_S4x3x1536_0_4093_0

theorem lastRows_at (x : Vec Ideal S16384x1536 .f32) (b : Fin 4) (p : Fin 3) (f : Fin 1536) :
    (lastRows x (ix3 b p f) : EReal) = x (ix2 ⟨b.val * 4096 + (4093 + p.val), by omega⟩ f) := by
  pointwise [lastRows]

/-- What the host code after the call leaves of the first result. -/
theorem last : Pipeline.afterTail₀ cfgs (dats m) 0 (V0 m) [hostOps1] c main_v9 = lastRows ((dats m 0 c).arrAt 3 cfg0.N) := by
  rw [← Pipeline.withArrays_arr spec0 winFacts0.arr_inj c (V0 m c) (fun w => (dats m 0 c).arrAt w cfg0.N) 3]
  unfold Pipeline.afterTail₀
  after_results_simp
  rfl

end Cert.Dense.Gates

end
-- ==== Proof.Gates.Reference.lean ====
/-
  What the reference of the projection computes, read at an index.
-/
module

public import proofs.«01_k».proof.Proof.Gates.Array
public import proofs.«01_k».proof.Proof.Gen.GatesRefIdeal.Read

@[expose] public section

set_option maxRecDepth 65536

noncomputable section

namespace Cert.Dense.Gates

open Idealize.ShloMosaic Idealize.ShloMosaic.TcCoe Idealize.ShloMosaic.Tactic Cert.Dense
open Cert.GatesRefIdeal Cert.GatesRefIdeal.Read

variable (x0 : Vec Ideal S16384x1024 .f32) (x1 : Vec Ideal S4x1024 .f32) (x2 : Vec Ideal S4x1024x8456 .f32)

/-- The normalized rows. -/
theorem norm_read (r : Fin 16384) (k : Fin 1024) :
    (val_main_v14 (F := Ideal) x0 x1 (ix2 r k) : EReal) = rmsRow (fun k => x0 (ix2 r k)) (fun k => x1 (ix2 0 k)) k := by
  unfold rmsRow
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The product with all the weights. -/
theorem entry_read (r : Fin 16384) (f : Fin 8456) :
    (val_main_v17 (F := Ideal) x0 x1 x2 (ix2 r f) : EReal) = entry x0 x1 x2 r f := by
  unfold entry projAt
  simp only [← norm_read]
  generalize h : val_main_v14 (F := Ideal) x0 x1 = y
  unfold val_main_v17
  rw [h]
  pointwise [val_main_v16, val_main_v15]

theorem ref3 : val_main_v19 (F := Ideal) x0 x1 x2 = arr3 x0 x1 x2 := by
  refine ext2 (n0 := 16384) (n1 := 1536) fun r f => ?_
  refine Eq.trans ?_ (entry_read x0 x1 x2 r ⟨3328 + f.val, by omega⟩)
  unfold val_main_v19 val_main_v18
  generalize val_main_v17 (F := Ideal) x0 x1 x2 = y
  pointwise []

theorem ref4 : val_main_v23 (F := Ideal) x0 x1 x2 = arr4 x0 x1 x2 := by
  refine ext2 (n0 := 16384) (n1 := 128) fun r f => ?_
  show (_ : EReal) = if h : f.val < 8 then entry x0 x1 x2 r ⟨4864 + f.val, by omega⟩ else 0
  simp only [← entry_read]
  unfold val_main_v23 val_main_v20 val_main_v18
  generalize val_main_v17 (F := Ideal) x0 x1 x2 = y
  pointwise [val_main_call0_v0, val_main_c]
  rw [sitofp_zero]
  simp only [← Nat.add_assoc, Nat.reduceAdd]

theorem ref5 : val_main_v21 (F := Ideal) x0 x1 x2 = arr5 x0 x1 x2 := by
  refine ext2 (n0 := 16384) (n1 := 512) fun r f => ?_
  refine Eq.trans ?_ (entry_read x0 x1 x2 r ⟨4872 + f.val, by omega⟩)
  unfold val_main_v21 val_main_v18
  generalize val_main_v17 (F := Ideal) x0 x1 x2 = y
  pointwise []
  simp only [← Nat.add_assoc, Nat.reduceAdd]

theorem ref6 : val_main_v29 (F := Ideal) x0 x1 x2 = arr6 x0 x1 x2 := by
  refine ext2 (n0 := 16384) (n1 := 3072) fun r f => ?_
  refine Eq.trans ?_ (congrArg sg (entry_read x0 x1 x2 r ⟨5384 + f.val, by omega⟩))
  unfold val_main_v29 val_main_v27 val_main_v25 val_main_v24 val_main_v22 val_main_v18
  generalize val_main_v17 (F := Ideal) x0 x1 x2 = y
  unfold sg
  pointwise [val_main_v28, val_main_v26, val_main_cst_2, val_main_cst_3]
  simp only [← Nat.add_assoc, Nat.reduceAdd]

/-- Two arrays of three axes that agree at every index are equal. -/
theorem ext3 {α : Type} {n0 n1 n2 : ℕ} {f g : (⟨3, ![n0, n1, n2]⟩ : Shape).Idx → α}
    (h : ∀ (a : Fin n0) (b : Fin n1) (c : Fin n2), f (ix3 a b c) = g (ix3 a b c)) : f = g := funext fun y => by rw [eq_ix3 y]; exact h _ _ _

/-- The reference puts three rows of zeros before every sequence and takes the last three rows of what results. -/
theorem ref_last : val_main_v33 (F := Ideal) x0 x1 x2 = lastRows (arr3 x0 x1 x2) := by
  rw [← ref3]
  refine ext3 (n0 := 4) (n1 := 3) (n2 := 1536) fun b p f => ?_
  refine Eq.trans ?_ (lastRows_at _ b p f).symm
  unfold val_main_v33 val_main_v32 val_main_v31
  generalize val_main_v19 (F := Ideal) x0 x1 x2 = y
  pointwise [val_main_v30, val_main_cst_4]
  rw [dif_neg (by omega)]
  exact congrArg (fun r => y (ix2 r f)) (Fin.ext (show b.val * 4096 + (4096 + p.val - 3) = b.val * 4096 + (4093 + p.val) by omega))

end Cert.Dense.Gates

end
-- ==== Proof.Gates.Claims.lean ====
/-
  The five claims of the projection to the recurrence's inputs and the gates.
-/
module

public import proofs.«01_k».proof.Defs
public import proofs.«01_k».proof.Proof.Gates.Reference
public import proofs.«01_k».proof.Proof.Gen.Gates.Frame
public import proofs.«01_k».proof.Proof.Gen.GatesIdeal.Frame
public import proofs.«01_k».proof.Proof.Gen.GatesRefIdeal.Run

@[expose] public section

set_option maxRecDepth 65536

noncomputable section

namespace Cert.Dense.Gates

open Idealize.ShloMosaic Idealize.ShloMosaic.TcCoe Idealize.SL.Sem

/-- The kernel runs, keeps its arguments and leaves the machine quiet. -/
theorem frame_p : Cert.quiescent_Gates := fun m ρ _ => Cert.Gates.Gen.frame m ρ

/-- So does the kernel over the extended reals. -/
theorem frame_pi : Cert.quiescent_GatesIdeal := fun m ρ _ => Cert.GatesIdeal.Gen.frame m ρ

/-- So does the reference. -/
theorem frame_ri : Cert.quiescent_GatesRefIdeal := fun m ρ _ =>
  (θ_run Cert.GatesRefIdeal.defs _ _).mono
    (fun r h => ⟨fun c => (h c).2.2.2.2.2, sem_eq_zero_of_no_sems (by decide) r.2⟩)
    (Cert.GatesRefIdeal.Value.run (F := Ideal) m ρ)

theorem preserves : Cert.preserves_Gates_GatesIdeal := trivial

/-- What the kernel's run leaves: the arrays of the call, and what the host code after the call makes of them. -/
theorem run (m : (ℓ : Loc Cert.GatesIdeal.nD Cert.GatesIdeal.τ Cert.GatesIdeal.sig) → Buf (Elt Ideal) ℓ) (ρ : Dev Cert.GatesIdeal.nD → PrngReg) :
    θ_run (Cert.GatesIdeal.defs (F := Ideal)) (onTc (τ := Cert.GatesIdeal.τ) (Cert.GatesIdeal.main (F := Ideal))) ⟨m, fun _ => 0, ρ⟩ fun r => ∀ c : Dev Cert.GatesIdeal.nD,
      r.2.mem ((c.tc : Thread Cert.GatesIdeal.nD Cert.GatesIdeal.τ).loc Cert.GatesIdeal.main_v7_0) = (Cert.GatesIdeal.Gen.dats m 0 c).arrAt 3 Cert.GatesIdeal.cfg0.N
      ∧ r.2.mem ((c.tc : Thread Cert.GatesIdeal.nD Cert.GatesIdeal.τ).loc Cert.GatesIdeal.main_v7_1) = (Cert.GatesIdeal.Gen.dats m 0 c).arrAt 4 Cert.GatesIdeal.cfg0.N
      ∧ r.2.mem ((c.tc : Thread Cert.GatesIdeal.nD Cert.GatesIdeal.τ).loc Cert.GatesIdeal.main_v7_2) = (Cert.GatesIdeal.Gen.dats m 0 c).arrAt 5 Cert.GatesIdeal.cfg0.N
      ∧ r.2.mem ((c.tc : Thread Cert.GatesIdeal.nD Cert.GatesIdeal.τ).loc Cert.GatesIdeal.main_v7_3) = (Cert.GatesIdeal.Gen.dats m 0 c).arrAt 6 Cert.GatesIdeal.cfg0.N
      ∧ r.2.mem ((c.tc : Thread Cert.GatesIdeal.nD Cert.GatesIdeal.τ).loc Cert.GatesIdeal.main_v9) = lastRows ((Cert.GatesIdeal.Gen.dats m 0 c).arrAt 3 Cert.GatesIdeal.cfg0.N)
      ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2) :=
  (θ_run Cert.GatesIdeal.defs _ _).mono (fun r h c => ⟨(h.1 c).1 3, (h.1 c).1 4, (h.1 c).1 5, (h.1 c).1 6, ((h.1 c).2 Cert.GatesIdeal.main_v9 (Pipeline.mem_restRefs_of Cert.GatesIdeal.main_v9 (by decide) (by decide))).trans (last m c), h.2 c⟩)
    (θ_run_and (Cert.GatesIdeal.Gen.run_main m ρ) (Cert.GatesIdeal.Gen.unchanged m ρ))

/-- On the same arguments the kernel and the reference end with the same arrays. -/
theorem algebraic : Cert.algebraic_GatesIdeal_GatesRefIdeal := by
  intro m ρ m' ρ' _ hagree
  refine ⟨fun c => (Cert.GatesIdeal.Gen.dats m 0 c).arrAt 3 Cert.GatesIdeal.cfg0.N, fun c => (Cert.GatesIdeal.Gen.dats m 0 c).arrAt 4 Cert.GatesIdeal.cfg0.N, fun c => (Cert.GatesIdeal.Gen.dats m 0 c).arrAt 5 Cert.GatesIdeal.cfg0.N, fun c => (Cert.GatesIdeal.Gen.dats m 0 c).arrAt 6 Cert.GatesIdeal.cfg0.N, fun c => lastRows ((Cert.GatesIdeal.Gen.dats m 0 c).arrAt 3 Cert.GatesIdeal.cfg0.N), run m ρ, ?_⟩
  refine (θ_run Cert.GatesRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.GatesRefIdeal.Value.run (F := Ideal) m' ρ')
  all_goals obtain ⟨h0, h1, h2⟩ := hagree c
  · rw [Cert.GatesRefIdeal.Read.val_main_v19_eq, h0, h1, h2]
    exact (ref3 _ _ _).trans (final3 m c).symm
  · rw [Cert.GatesRefIdeal.Read.val_main_v23_eq, h0, h1, h2]
    exact (ref4 _ _ _).trans (final4 m c).symm
  · rw [Cert.GatesRefIdeal.Read.val_main_v21_eq, h0, h1, h2]
    exact (ref5 _ _ _).trans (final5 m c).symm
  · rw [Cert.GatesRefIdeal.Read.val_main_v29_eq, h0, h1, h2]
    exact (ref6 _ _ _).trans (final6 m c).symm
  · rw [Cert.GatesRefIdeal.Read.val_main_v33_eq, h0, h1, h2]
    exact (ref_last _ _ _).trans (congrArg lastRows (final3 m c).symm)

end Cert.Dense.Gates

end
-- ==== Proof.Qkv.Block.lean ====
/-
  What a grid step of the projection stores.
-/
module

public import proofs.«01_k».proof.Proof.Dense.Rows
public import proofs.«01_k».proof.Proof.Gen.QkvIdeal.Frame

@[expose] public section

set_option maxRecDepth 65536

noncomputable section

namespace Cert.Dense.Qkv

open Idealize.ShloMosaic Idealize.ShloMosaic.TcCoe Idealize.ShloMosaic.Tactic Cert.Dense
open Cert.QkvIdeal Cert.QkvIdeal.Gen

variable (x0 : Vec Ideal S512x1024 .f32) (x1 : Vec Ideal S1x1x1024 .f32) (x2 : Vec Ideal S1x1024x3328 .bf16)

/-- The normalized block. -/
theorem norm_apply (r : Fin 512) (k : Fin 1024) :
    (k0_pay3 (F := Ideal) x0 x1 (ix2 r k) : EReal) = rmsRow (fun k => x0 (ix2 r k)) (fun k => x1 (ix3 0 0 k)) k := by
  unfold rmsRow
  pointwise [k0_pay3]

/-- Row `r` of the block against column `f` of the weights. -/
def prod (r : Fin 512) (f : Fin 3328) : EReal :=
  projAt (fun k => x0 (ix2 r k)) (fun k => x1 (ix3 0 0 k)) (fun k => x2 (ix3 0 k f))

/-- The columns that this part of the product takes. -/
abbrev part3 : Vec Ideal S1x1024x512 .bf16 :=
  View.ld x2 (Rect.unit (s := S1x1024x3328) ![0, 0, 0] S1x1024x512.size inb_S1x1024x3328_S1x1024x512_0_0_0)
theorem cols3 (k : Fin 1024) (f : Fin 512) : (part3 x2 (ix3 (0 : Fin 1) k f) : EReal) = x2 (ix3 0 k ⟨0 + f.val, by omega⟩) := by
  refine congrArg x2 (funext fun a => Fin.ext ?_)
  match a with
  | ⟨0, _⟩ => rfl
  | ⟨1, _⟩ => show 0 + 1 * k.val = k.val; omega
  | ⟨2, _⟩ => show 0 + 1 * f.val = 0 + f.val; omega
/-- What the run leaves in result 0's block. -/
theorem out3_eq (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1024x3328 .bf16) (harg3 : arg3.IsWhole) (arg6 : Memref sig .tc .vmem S512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S512x1792 .f32) (harg9 : arg9.IsWhole) :
    out0_A_3 c i arg1 harg1 arg2 harg2 arg3 harg3 arg6 harg6 arg7 harg7 arg8 harg8 arg9 harg9 x0 x1 x2 = k0_pay4 x0 x1 (part3 x2) := by
  unfold out0_A_3
  rw [View.read_writes_eq_canon _ _ _ (cover0_A_3 c i arg1 harg1 arg2 harg2 arg3 harg3 arg6 harg6 arg7 harg7 arg8 harg8 arg9 harg9 x0 x1 x2)]
  unfold kernelRun0_A
  dsimp only
  sl_unfold_words
  simp only [View.readAt_eq_ld, harg1.read_unread, harg2.read_unread, harg3.read_unread]
  rw [View.canon_unit_zero (by decide), View.ld_unit_zero (S := S512x1024) (by decide), View.ld_unit_zero (S := S1x1x1024) (by decide)]
theorem out3_apply (r : Fin 512) (f : Fin 512) :
    (k0_pay4 x0 x1 (part3 x2) (ix2 r f) : EReal) = prod x0 x1 x2 r ⟨0 + f.val, by omega⟩ := by
  unfold prod projAt
  simp only [← norm_apply, ← cols3]
  generalize part3 x2 = y
  unfold k0_pay4
  generalize k0_pay3 (F := Ideal) x0 x1 = h
  pointwise []

/-- The columns that this part of the product takes. -/
abbrev part4 : Vec Ideal S1x1024x512 .bf16 :=
  View.ld x2 (Rect.unit (s := S1x1024x3328) ![0, 0, 512] S1x1024x512.size inb_S1x1024x3328_S1x1024x512_0_0_512)
theorem cols4 (k : Fin 1024) (f : Fin 512) : (part4 x2 (ix3 (0 : Fin 1) k f) : EReal) = x2 (ix3 0 k ⟨512 + f.val, by omega⟩) := by
  refine congrArg x2 (funext fun a => Fin.ext ?_)
  match a with
  | ⟨0, _⟩ => rfl
  | ⟨1, _⟩ => show 0 + 1 * k.val = k.val; omega
  | ⟨2, _⟩ => show 512 + 1 * f.val = 512 + f.val; omega
/-- What the run leaves in result 1's block. -/
theorem out4_eq (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1024x3328 .bf16) (harg3 : arg3.IsWhole) (arg6 : Memref sig .tc .vmem S512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S512x1792 .f32) (harg9 : arg9.IsWhole) :
    out0_A_4 c i arg1 harg1 arg2 harg2 arg3 harg3 arg6 harg6 arg7 harg7 arg8 harg8 arg9 harg9 x0 x1 x2 = k0_pay5 x0 x1 (part4 x2) := by
  unfold out0_A_4
  rw [View.read_writes_eq_canon _ _ _ (cover0_A_4 c i arg1 harg1 arg2 harg2 arg3 harg3 arg6 harg6 arg7 harg7 arg8 harg8 arg9 harg9 x0 x1 x2)]
  unfold kernelRun0_A
  dsimp only
  sl_unfold_words
  simp only [View.readAt_eq_ld, harg1.read_unread, harg2.read_unread, harg3.read_unread]
  rw [View.canon_unit_zero (by decide), View.ld_unit_zero (S := S512x1024) (by decide), View.ld_unit_zero (S := S1x1x1024) (by decide)]
theorem out4_apply (a b : Fin 1) (f p : Fin 512) :
    (k0_pay5 x0 x1 (part4 x2) (ix4 a b f p) : EReal) = prod x0 x1 x2 p ⟨512 + f.val, by omega⟩ := by
  unfold prod projAt
  simp only [← norm_apply, ← cols4]
  generalize part4 x2 = y
  unfold k0_pay5
  generalize k0_pay3 (F := Ideal) x0 x1 = h
  pointwise []

/-- The columns that this part of the product takes. -/
abbrev part5 : Vec Ideal S1x1024x512 .bf16 :=
  View.ld x2 (Rect.unit (s := S1x1024x3328) ![0, 0, 1024] S1x1024x512.size inb_S1x1024x3328_S1x1024x512_0_0_1024)
theorem cols5 (k : Fin 1024) (f : Fin 512) : (part5 x2 (ix3 (0 : Fin 1) k f) : EReal) = x2 (ix3 0 k ⟨1024 + f.val, by omega⟩) := by
  refine congrArg x2 (funext fun a => Fin.ext ?_)
  match a with
  | ⟨0, _⟩ => rfl
  | ⟨1, _⟩ => show 0 + 1 * k.val = k.val; omega
  | ⟨2, _⟩ => show 1024 + 1 * f.val = 1024 + f.val; omega
/-- What the run leaves in result 2's block. -/
theorem out5_eq (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1024x3328 .bf16) (harg3 : arg3.IsWhole) (arg6 : Memref sig .tc .vmem S512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S512x1792 .f32) (harg9 : arg9.IsWhole) :
    out0_A_5 c i arg1 harg1 arg2 harg2 arg3 harg3 arg6 harg6 arg7 harg7 arg8 harg8 arg9 harg9 x0 x1 x2 = k0_pay1 (k0_pay6 x0 x1 (part5 x2)) := by
  unfold out0_A_5
  rw [View.read_writes_eq_canon _ _ _ (cover0_A_5 c i arg1 harg1 arg2 harg2 arg3 harg3 arg6 harg6 arg7 harg7 arg8 harg8 arg9 harg9 x0 x1 x2)]
  unfold kernelRun0_A
  dsimp only
  sl_unfold_words
  simp only [View.readAt_eq_ld, harg1.read_unread, harg2.read_unread, harg3.read_unread]
  rw [View.canon_unit_zero (by decide), View.ld_unit_zero (S := S512x1024) (by decide), View.ld_unit_zero (S := S1x1x1024) (by decide)]
theorem out5_apply (a b : Fin 1) (f p : Fin 512) :
    (k0_pay1 (k0_pay6 x0 x1 (part5 x2)) (ix4 a b f p) : EReal) = prod x0 x1 x2 p ⟨1024 + f.val, by omega⟩ := by
  unfold prod projAt
  simp only [← norm_apply, ← cols5]
  generalize part5 x2 = y
  unfold k0_pay1 k0_pay6
  generalize k0_pay3 (F := Ideal) x0 x1 = h
  pointwise []

/-- The columns that this part of the product takes. -/
abbrev part6 : Vec Ideal S1x1024x1792 .bf16 :=
  View.ld x2 (Rect.unit (s := S1x1024x3328) ![0, 0, 1536] S1x1024x1792.size inb_S1x1024x3328_S1x1024x1792_0_0_1536)
theorem cols6 (k : Fin 1024) (f : Fin 1792) : (part6 x2 (ix3 (0 : Fin 1) k f) : EReal) = x2 (ix3 0 k ⟨1536 + f.val, by omega⟩) := by
  refine congrArg x2 (funext fun a => Fin.ext ?_)
  match a with
  | ⟨0, _⟩ => rfl
  | ⟨1, _⟩ => show 0 + 1 * k.val = k.val; omega
  | ⟨2, _⟩ => show 1536 + 1 * f.val = 1536 + f.val; omega
/-- What the run leaves in result 3's block. -/
theorem out6_eq (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1024x3328 .bf16) (harg3 : arg3.IsWhole) (arg6 : Memref sig .tc .vmem S512x512 .f32) (harg6 : arg6.IsWhole) (arg7 : Memref sig .tc .vmem S1x1x512x512 .f32) (harg7 : arg7.IsWhole) (arg8 : Memref sig .tc .vmem S1x1x512x512 .f32) (harg8 : arg8.IsWhole) (arg9 : Memref sig .tc .vmem S512x1792 .f32) (harg9 : arg9.IsWhole) :
    out0_A_6 c i arg1 harg1 arg2 harg2 arg3 harg3 arg6 harg6 arg7 harg7 arg8 harg8 arg9 harg9 x0 x1 x2 = k0_pay2 (k0_pay3 x0 x1) (part6 x2) := by
  unfold out0_A_6
  rw [View.read_writes_eq_canon _ _ _ (cover0_A_6 c i arg1 harg1 arg2 harg2 arg3 harg3 arg6 harg6 arg7 harg7 arg8 harg8 arg9 harg9 x0 x1 x2)]
  unfold kernelRun0_A
  dsimp only
  sl_unfold_words
  simp only [View.readAt_eq_ld, harg1.read_unread, harg2.read_unread, harg3.read_unread]
  rw [View.canon_unit_zero (by decide), View.ld_unit_zero (S := S512x1024) (by decide), View.ld_unit_zero (S := S1x1x1024) (by decide)]
theorem out6_apply (r : Fin 512) (f : Fin 1792) :
    (k0_pay2 (k0_pay3 x0 x1) (part6 x2) (ix2 r f) : EReal) = prod x0 x1 x2 r ⟨1536 + f.val, by omega⟩ := by
  unfold prod projAt
  simp only [← norm_apply, ← cols6]
  generalize part6 x2 = y
  unfold k0_pay2
  generalize k0_pay3 (F := Ideal) x0 x1 = h
  pointwise []

end Cert.Dense.Qkv

end
-- ==== Proof.Qkv.Array.lean ====
/-
  What the result arrays of the projection hold after the grid: the columns of every row's norm against the weights, the keys and values transposed into one layer of their stacks.
-/
module

public import proofs.«01_k».proof.Proof.Qkv.Block
public import Idealize.ShloMosaic.Lib.StableHlo.ReadAt

@[expose] public section

set_option maxRecDepth 65536

noncomputable section

namespace Cert.Dense.Qkv

open Idealize.ShloMosaic Idealize.ShloMosaic.TcCoe Idealize.ShloMosaic.Tactic Cert.Dense
open Cert.QkvIdeal Cert.QkvIdeal.Gen

/-- Two arrays of four axes that agree at every index are equal. -/
theorem ext4 {α : Type} {n0 n1 n2 n3 : ℕ} {f g : (⟨4, ![n0, n1, n2, n3]⟩ : Shape).Idx → α}
    (h : ∀ (a : Fin n0) (b : Fin n1) (c : Fin n2) (d : Fin n3), f (ix4 a b c d) = g (ix4 a b c d)) :
    f = g := funext fun y => by rw [eq_ix4 y]; exact h _ _ _ _

section
variable (x : Vec Ideal S16384x1024 .f32) (w : Vec Ideal S4x1024 .f32) (W : Vec Ideal S4x1024x8456 .f32)
/-- Row `r` against column `f` of the last layer's weights. -/
def entry (r : Fin 16384) (f : Fin 8456) : EReal := projAt (fun k => x (ix2 r k)) (fun k => w (ix2 3 k)) (fun k => W (ix3 3 k f))
/-- The queries. -/
def arr3 : Vec Ideal S16384x512 .f32 := fun y => entry x w W (y 0) ⟨0 + (y 1).val, by have : (y 1).val < 512 := (y 1).isLt; omega⟩
/-- The keys' stack: the last layer replaced by the keys transposed, the other layers as they were. -/
def arr4 (z : Vec Ideal S4x4x512x4096 .f32) : Vec Ideal S4x4x512x4096 .f32 := fun y =>
  if (y 1).val = 3 then entry x w W ⟨(y 0).val * 4096 + (y 3).val, by have : (y 0).val < 4 := (y 0).isLt; have : (y 3).val < 4096 := (y 3).isLt; omega⟩
    ⟨512 + (y 2).val, by have : (y 2).val < 512 := (y 2).isLt; omega⟩ else z y
/-- The values' stack, likewise. -/
def arr5 (z : Vec Ideal S4x4x512x4096 .f32) : Vec Ideal S4x4x512x4096 .f32 := fun y =>
  if (y 1).val = 3 then entry x w W ⟨(y 0).val * 4096 + (y 3).val, by have : (y 0).val < 4 := (y 0).isLt; have : (y 3).val < 4096 := (y 3).isLt; omega⟩
    ⟨1024 + (y 2).val, by have : (y 2).val < 512 := (y 2).isLt; omega⟩ else z y
/-- The other recurrence's inputs. -/
def arr6 : Vec Ideal S16384x1792 .f32 := fun y => entry x w W (y 0) ⟨1536 + (y 1).val, by have : (y 1).val < 1792 := (y 1).isLt; omega⟩
end

theorem index0 : ∀ t : Fin grid0.N, win0_0.index t 0 = t.val ∧ win0_0.index t 1 = 0 := by decide +kernel
theorem index1 : ∀ t : Fin grid0.N, win0_1.index t 0 = 3 ∧ win0_1.index t 1 = 0 ∧ win0_1.index t 2 = 0 := by decide +kernel
theorem index2 : ∀ t : Fin grid0.N, win0_2.index t 0 = 3 ∧ win0_2.index t 1 = 0 ∧ win0_2.index t 2 = 0 := by decide +kernel
theorem index3 : ∀ t : Fin grid0.N, win0_3.index t 0 = t.val ∧ win0_3.index t 1 = 0 := by decide +kernel
theorem index4 : ∀ t : Fin grid0.N, win0_4.index t 0 = t.val / 8 ∧ win0_4.index t 1 = 3 ∧ win0_4.index t 2 = 0 ∧ win0_4.index t 3 = t.val % 8 := by decide +kernel
theorem index5 : ∀ t : Fin grid0.N, win0_5.index t 0 = t.val / 8 ∧ win0_5.index t 1 = 3 ∧ win0_5.index t 2 = 0 ∧ win0_5.index t 3 = t.val % 8 := by decide +kernel
theorem index6 : ∀ t : Fin grid0.N, win0_6.index t 0 = t.val ∧ win0_6.index t 1 = 0 := by decide +kernel
theorem N_lt (t : Fin cfg0.N) : t.val < 32 := t.isLt

variable (m : (ℓ : Loc nD τ sig) → Buf (Elt Ideal) ℓ) (c : Dev nD)

abbrev a0 : Vec Ideal S16384x1024 .f32 := m ((c : Thread nD τ).loc main_arg0)
abbrev a1 : Vec Ideal S4x1024 .f32 := m ((c : Thread nD τ).loc main_arg1)
abbrev a2 : Vec Ideal S4x1024x8456 .f32 := m ((c : Thread nD τ).loc main_arg2)
abbrev a3 : Vec Ideal S4x4x512x4096 .f32 := m ((c : Thread nD τ).loc main_arg3)
abbrev a4 : Vec Ideal S4x4x512x4096 .f32 := m ((c : Thread nD τ).loc main_arg4)

/-- The row of the array a point's row `r` is. -/
def rowOf (t : Fin cfg0.N) (r : Fin 512) : Fin 16384 := ⟨t.val * 512 + r.val, by have := N_lt t; omega⟩

/-- The normalization's weights with an axis put in. -/
theorem v2_at (k : Fin 1024) : (V m c main_v2 (ix3 (3 : Fin 4) (0 : Fin 1) k) : EReal) = a1 m c (ix2 3 k) := by
  unfold V; after_reads_at
/-- The weights' columns as the call takes them. -/
theorem v1_at (k : Fin 1024) (f : Fin 3328) :
    (V m c main_v1 (ix3 (3 : Fin 4) k f) : EReal) = a2 m c (ix3 3 k ⟨f.val, by omega⟩) := by
  unfold V; after_reads_at
/-- The stacks as the call finds them. -/
theorem v3_1_at (b l : Fin 4) (f : Fin 512) (p : Fin 4096) : (V m c main_v3_1 (ix4 b l f p) : EReal) = a3 m c (ix4 b l f p) := by
  unfold V; after_reads_at
  rfl
theorem v3_2_at (b l : Fin 4) (f : Fin 512) (p : Fin 4096) : (V m c main_v3_2 (ix4 b l f p) : EReal) = a4 m c (ix4 b l f p) := by
  unfold V; after_reads_at
  rfl

theorem iblk0 (t : Fin cfg0.N) (r : Fin 512) (k : Fin 1024) :
    (iblk m c 0 t (ix2 r k) : EReal) = a0 m c (ix2 (rowOf t r) k) := by
  unfold iblk
  rw [View.read_apply]
  refine (congrFun (V_main_arg0 m c) _).trans (congrArg (a0 m c) (funext fun a => Fin.ext ?_))
  match a with
  | ⟨0, _⟩ => show win0_0.index t 0 * 512 + 1 * r.val = t.val * 512 + r.val; rw [(index0 t).1, Nat.one_mul]
  | ⟨1, _⟩ => show win0_0.index t 1 * 1024 + 1 * k.val = k.val; rw [(index0 t).2]; omega
theorem iblk1 (t : Fin cfg0.N) (k : Fin 1024) : (iblk m c 1 t (ix3 (0 : Fin 1) (0 : Fin 1) k) : EReal) = a1 m c (ix2 3 k) := by
  refine Eq.trans ?_ (v2_at m c k)
  unfold iblk
  rw [View.read_apply]
  refine congrArg (V m c main_v2) (funext fun a => Fin.ext ?_)
  match a with
  | ⟨0, _⟩ => show win0_1.index t 0 * 1 + 1 * 0 = 3; rw [(index1 t).1]
  | ⟨1, _⟩ => show win0_1.index t 1 * 1 + 1 * 0 = 0; rw [(index1 t).2.1]
  | ⟨2, _⟩ => show win0_1.index t 2 * 1024 + 1 * k.val = k.val; rw [(index1 t).2.2]; omega
theorem iblk2 (t : Fin cfg0.N) (k : Fin 1024) (f : Fin 3328) : (iblk m c 2 t (ix3 (0 : Fin 1) k f) : EReal) = a2 m c (ix3 3 k ⟨f.val, by omega⟩) := by
  refine Eq.trans ?_ (v1_at m c k f)
  unfold iblk
  rw [View.read_apply]
  refine congrArg (V m c main_v1) (funext fun a => Fin.ext ?_)
  match a with
  | ⟨0, _⟩ => show win0_2.index t 0 * 1 + 1 * 0 = 3; rw [(index2 t).1]
  | ⟨1, _⟩ => show win0_2.index t 1 * 1024 + 1 * k.val = k.val; rw [(index2 t).2.1]; omega
  | ⟨2, _⟩ => show win0_2.index t 2 * 3328 + 1 * f.val = f.val; rw [(index2 t).2.2]; omega

theorem prod_eq (t : Fin cfg0.N) (r : Fin 512) (f : Fin 3328) :
    prod (iblk m c 0 t) (iblk m c 1 t) (iblk m c 2 t) r f = entry (a0 m c) (a1 m c) (a2 m c) (rowOf t r) ⟨f.val, by omega⟩ := by
  unfold prod
  simp only [iblk0, iblk1, iblk2]
  rfl

/-! What a point writes back is what the body leaves in the window. -/

theorem wrote3 (t : Fin cfg0.N) : (dats m 0 c).flushed 3 t = (cfg0.win 3).cut (grid0.coords t)
    (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)) := by
  show (cfg0.win 3).cut (grid0.coords t) ((dats m 0 c).after 3 t) = _
  simp only [after0_3, outsAt0]
theorem wrote4 (t : Fin cfg0.N) : (dats m 0 c).flushed 4 t = (cfg0.win 4).cut (grid0.coords t)
    (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)) := by
  show (cfg0.win 4).cut (grid0.coords t) ((dats m 0 c).after 4 t) = _
  simp only [after0_4, outsAt0]
theorem wrote5 (t : Fin cfg0.N) : (dats m 0 c).flushed 5 t = (cfg0.win 5).cut (grid0.coords t)
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)) := by
  show (cfg0.win 5).cut (grid0.coords t) ((dats m 0 c).after 5 t) = _
  simp only [after0_5, outsAt0]
theorem wrote6 (t : Fin cfg0.N) : (dats m 0 c).flushed 6 t = (cfg0.win 6).cut (grid0.coords t)
    (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t)) := by
  show (cfg0.win 6).cut (grid0.coords t) ((dats m 0 c).after 6 t) = _
  simp only [after0_6, outsAt0]

/-- Different points write different blocks of the stack. -/
theorem apart4 : ∀ t t' : Fin grid0.N, win0_4.index t = win0_4.index t' → t = t' := by decide +kernel

theorem block4 (t : Fin cfg0.N) :
    ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (apart4 t t' h))
    cfg0.N t t.isLt (flush0_4 t)

/-- Where no point writes, the stack stays as the call found it. -/
theorem kept4 (i : S4x4x512x4096.Idx) (h : ∀ t : Fin cfg0.N, i ∉ ((cfg0.win 4).blk t).view.set) :
    (dats m 0 c).arrAt 4 cfg0.N i = V m c (Pipeline.arrRef spec0 4) i := by
  rw [(dats m 0 c).arrAt_apply_of_forall_not_mem 4 cfg0.N i (fun t _ _ => h t), A_eq]

/-- Different points write different blocks of the stack. -/
theorem apart5 : ∀ t t' : Fin grid0.N, win0_5.index t = win0_5.index t' → t = t' := by decide +kernel

theorem block5 (t : Fin cfg0.N) :
    ((cfg0.win 5).blk t).view.read (Elt Ideal) ((dats m 0 c).arrAt 5 cfg0.N) = (dats m 0 c).flushed 5 t :=
  (dats m 0 c).read_blk_arrAt_eq_flushed 5 (fun t t' _ _ hne => (cfg0.win 5).disjoint_blk fun h => hne (apart5 t t' h))
    cfg0.N t t.isLt (flush0_5 t)

/-- Where no point writes, the stack stays as the call found it. -/
theorem kept5 (i : S4x4x512x4096.Idx) (h : ∀ t : Fin cfg0.N, i ∉ ((cfg0.win 5).blk t).view.set) :
    (dats m 0 c).arrAt 5 cfg0.N i = V m c (Pipeline.arrRef spec0 5) i := by
  rw [(dats m 0 c).arrAt_apply_of_forall_not_mem 5 cfg0.N i (fun t _ _ => h t), A_eq]

/-- What a point writes back of result 0 is its block. -/
theorem flushed3_eq (t : Fin cfg0.N) :
    (dats m 0 c).flushed 3 t = ((cfg0.win 3).blk t).view.read (Elt Ideal) (arr3 (a0 m c) (a1 m c) (a2 m c)) := by
  rw [wrote3, out3_eq]
  refine ext2 (n0 := 512) (n1 := 512) fun r f => ?_
  refine Eq.trans ((out3_apply (iblk m c 0 t) (iblk m c 1 t) (iblk m c 2 t) r f).trans (prod_eq m c t r _)) ?_
  rw [View.read_apply]
  refine Eq.trans (?_ : _ = arr3 (a0 m c) (a1 m c) (a2 m c) (ix2 (rowOf t r) f)) (congrArg (arr3 (a0 m c) (a1 m c) (a2 m c)) (funext fun a => Fin.ext ?_))
  · rfl
  match a with
  | ⟨0, _⟩ => show _ = win0_3.index t 0 * 512 + 1 * r.val; rw [(index3 t).1, Nat.one_mul]; rfl
  | ⟨1, _⟩ => show _ = win0_3.index t 1 * 512 + 1 * f.val; rw [(index3 t).2, Nat.one_mul, Nat.zero_mul, Nat.zero_add]; rfl

theorem final3 : (dats m 0 c).arrAt 3 cfg0.N = arr3 (a0 m c) (a1 m c) (a2 m c) :=
  (dats m 0 c).arrAt_eq_of_cover 3 _ (fun t _ => flushed3_eq m c t) fun i => by
    have h0 : (i 0 : Nat) < 16384 := (i 0).isLt
    have h1 : (i 1 : Nat) < 512 := (i 1).isLt
    have hN : (i 0 : Nat) / 512 < 32 := by omega
    let t : Fin cfg0.N := ⟨_, hN⟩
    refine ⟨t, flush0_3 t, ?_⟩
    show i ∈ ((View.whole main_v3_0).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [(index3 t).1]; dsimp only [t]; omega
    | ⟨1, _⟩ =>
      show win0_3.index t 1 * 512 ≤ (i 1 : Nat) ∧ (i 1 : Nat) < win0_3.index t 1 * 512 + 512
      rw [(index3 t).2]; omega

/-- What a point writes back of the stack, at an index. -/
theorem flushed4_at (t : Fin cfg0.N) (a b : Fin 1) (f p : Fin 512) :
    ((dats m 0 c).flushed 4 t (ix4 a b f p) : EReal) = entry (a0 m c) (a1 m c) (a2 m c) (rowOf t p) ⟨512 + f.val, by omega⟩ := by
  rw [wrote4, out4_eq]
  exact (out4_apply (iblk m c 0 t) (iblk m c 1 t) (iblk m c 2 t) a b f p).trans (prod_eq m c t p _)

theorem final4 : (dats m 0 c).arrAt 4 cfg0.N = arr4 (a0 m c) (a1 m c) (a2 m c) (a3 m c) := by
  refine ext4 (n0 := 4) (n1 := 4) (n2 := 512) (n3 := 4096) fun b l f p => ?_
  by_cases hl : l.val = 3
  · refine Eq.trans ?_ (if_pos hl).symm
    have hN : b.val * 8 + p.val / 512 < 32 := by omega
    let t : Fin cfg0.N := ⟨_, hN⟩
    have e := congrFun (block4 m c t) (ix4 (0 : Fin 1) (0 : Fin 1) f ⟨p.val % 512, by omega⟩)
    rw [View.read_apply] at e
    refine Eq.trans (congrArg ((dats m 0 c).arrAt 4 cfg0.N) (funext fun a => Fin.ext ?_)) (e.trans ((flushed4_at m c t _ _ _ _).trans ?_))
    · match a with
      | ⟨0, _⟩ => show b.val = win0_4.index t 0 * 1 + 1 * 0; rw [(index4 t).1]; dsimp only [t]; omega
      | ⟨1, _⟩ => show l.val = win0_4.index t 1 * 1 + 1 * 0; rw [(index4 t).2.1]; omega
      | ⟨2, _⟩ => show f.val = win0_4.index t 2 * 512 + 1 * f.val; rw [(index4 t).2.2.1]; omega
      | ⟨3, _⟩ => show p.val = win0_4.index t 3 * 512 + 1 * (p.val % 512); rw [(index4 t).2.2.2]; dsimp only [t]; omega
    · refine congrArg (fun r => entry (a0 m c) (a1 m c) (a2 m c) r ⟨512 + f.val, by omega⟩) (Fin.ext ?_)
      show (b.val * 8 + p.val / 512) * 512 + p.val % 512 = b.val * 4096 + p.val
      omega
  · refine Eq.trans ?_ (if_neg hl).symm
    refine (kept4 m c (ix4 b l f p) fun t hm => hl ?_).trans (v3_1_at m c b l f p)
    have hm' : ix4 b l f p ∈ ((View.whole main_v3_1).slice (win0_4.rect t)).set := hm
    rw [View.set_slice_whole, Rect.mem_set_unit] at hm'
    have h1 : win0_4.index t 1 * 1 ≤ l.val ∧ l.val < win0_4.index t 1 * 1 + 1 := hm' 1
    rw [(index4 t).2.1] at h1
    omega

/-- What a point writes back of the stack, at an index. -/
theorem flushed5_at (t : Fin cfg0.N) (a b : Fin 1) (f p : Fin 512) :
    ((dats m 0 c).flushed 5 t (ix4 a b f p) : EReal) = entry (a0 m c) (a1 m c) (a2 m c) (rowOf t p) ⟨1024 + f.val, by omega⟩ := by
  rw [wrote5, out5_eq]
  exact (out5_apply (iblk m c 0 t) (iblk m c 1 t) (iblk m c 2 t) a b f p).trans (prod_eq m c t p _)

theorem final5 : (dats m 0 c).arrAt 5 cfg0.N = arr5 (a0 m c) (a1 m c) (a2 m c) (a4 m c) := by
  refine ext4 (n0 := 4) (n1 := 4) (n2 := 512) (n3 := 4096) fun b l f p => ?_
  by_cases hl : l.val = 3
  · refine Eq.trans ?_ (if_pos hl).symm
    have hN : b.val * 8 + p.val / 512 < 32 := by omega
    let t : Fin cfg0.N := ⟨_, hN⟩
    have e := congrFun (block5 m c t) (ix4 (0 : Fin 1) (0 : Fin 1) f ⟨p.val % 512, by omega⟩)
    rw [View.read_apply] at e
    refine Eq.trans (congrArg ((dats m 0 c).arrAt 5 cfg0.N) (funext fun a => Fin.ext ?_)) (e.trans ((flushed5_at m c t _ _ _ _).trans ?_))
    · match a with
      | ⟨0, _⟩ => show b.val = win0_5.index t 0 * 1 + 1 * 0; rw [(index5 t).1]; dsimp only [t]; omega
      | ⟨1, _⟩ => show l.val = win0_5.index t 1 * 1 + 1 * 0; rw [(index5 t).2.1]; omega
      | ⟨2, _⟩ => show f.val = win0_5.index t 2 * 512 + 1 * f.val; rw [(index5 t).2.2.1]; omega
      | ⟨3, _⟩ => show p.val = win0_5.index t 3 * 512 + 1 * (p.val % 512); rw [(index5 t).2.2.2]; dsimp only [t]; omega
    · refine congrArg (fun r => entry (a0 m c) (a1 m c) (a2 m c) r ⟨1024 + f.val, by omega⟩) (Fin.ext ?_)
      show (b.val * 8 + p.val / 512) * 512 + p.val % 512 = b.val * 4096 + p.val
      omega
  · refine Eq.trans ?_ (if_neg hl).symm
    refine (kept5 m c (ix4 b l f p) fun t hm => hl ?_).trans (v3_2_at m c b l f p)
    have hm' : ix4 b l f p ∈ ((View.whole main_v3_2).slice (win0_5.rect t)).set := hm
    rw [View.set_slice_whole, Rect.mem_set_unit] at hm'
    have h1 : win0_5.index t 1 * 1 ≤ l.val ∧ l.val < win0_5.index t 1 * 1 + 1 := hm' 1
    rw [(index5 t).2.1] at h1
    omega

/-- What a point writes back of result 3 is its block. -/
theorem flushed6_eq (t : Fin cfg0.N) :
    (dats m 0 c).flushed 6 t = ((cfg0.win 6).blk t).view.read (Elt Ideal) (arr6 (a0 m c) (a1 m c) (a2 m c)) := by
  rw [wrote6, out6_eq]
  refine ext2 (n0 := 512) (n1 := 1792) fun r f => ?_
  refine Eq.trans ((out6_apply (iblk m c 0 t) (iblk m c 1 t) (iblk m c 2 t) r f).trans (prod_eq m c t r _)) ?_
  rw [View.read_apply]
  refine Eq.trans (?_ : _ = arr6 (a0 m c) (a1 m c) (a2 m c) (ix2 (rowOf t r) f)) (congrArg (arr6 (a0 m c) (a1 m c) (a2 m c)) (funext fun a => Fin.ext ?_))
  · rfl
  match a with
  | ⟨0, _⟩ => show _ = win0_6.index t 0 * 512 + 1 * r.val; rw [(index6 t).1, Nat.one_mul]; rfl
  | ⟨1, _⟩ => show _ = win0_6.index t 1 * 1792 + 1 * f.val; rw [(index6 t).2, Nat.one_mul, Nat.zero_mul, Nat.zero_add]; rfl

theorem final6 : (dats m 0 c).arrAt 6 cfg0.N = arr6 (a0 m c) (a1 m c) (a2 m c) :=
  (dats m 0 c).arrAt_eq_of_cover 6 _ (fun t _ => flushed6_eq m c t) fun i => by
    have h0 : (i 0 : Nat) < 16384 := (i 0).isLt
    have h1 : (i 1 : Nat) < 1792 := (i 1).isLt
    have hN : (i 0 : Nat) / 512 < 32 := by omega
    let t : Fin cfg0.N := ⟨_, hN⟩
    refine ⟨t, flush0_6 t, ?_⟩
    show i ∈ ((View.whole main_v3_3).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(index6 t).1]; dsimp only [t]; omega
    | ⟨1, _⟩ =>
      show win0_6.index t 1 * 1792 ≤ (i 1 : Nat) ∧ (i 1 : Nat) < win0_6.index t 1 * 1792 + 1792
      rw [(index6 t).2]; omega

/-- The last position's row of every sequence. -/
def lastRows (x : Vec Ideal S16384x1792 .f32) : Vec Ideal S4x1792 .f32 :=
  shapeCast S4x1792 (extractStridedSlice S4x1x1792 ![0, 4095, 0] (shapeCast S4x4096x1792 x shapeCasts_S16384x1792_S4x4096x1792)
    slices_S4x4096x1792_S4x1x1792_0_4095_0) shapeCasts_S4x1x1792_S4x1792

/-- A stack by layer, position and head. -/
def byHead (z : Vec Ideal S4x4x512x4096 .f32) : Vec Ideal S4x4x4096x8x64 .f32 :=
  transpose S4x4x4096x8x64 [0, 1, 4, 2, 3] (shapeCast S4x4x8x64x4096 z shapeCasts_S4x4x512x4096_S4x4x8x64x4096)
    transposes_S4x4x8x64x4096_S4x4x4096x8x64_0_1_4_2_3

theorem byHead_at (z : Vec Ideal S4x4x512x4096 .f32) (b l : Fin 4) (p : Fin 4096) (h : Fin 8) (d : Fin 64) :
    (byHead z (ix5 b l p h d) : EReal) = z (ix4 b l ⟨h.val * 64 + d.val, by omega⟩ p) := by
  pointwise [byHead]

/-- What the host code after the call leaves of the keys' stack. -/
theorem heads4 : Pipeline.afterTail₀ cfgs (dats m) 0 (V0 m) [hostOps1] c main_v5 = byHead ((dats m 0 c).arrAt 4 cfg0.N) := by
  rw [← Pipeline.withArrays_arr spec0 winFacts0.arr_inj c (V0 m c) (fun w => (dats m 0 c).arrAt w cfg0.N) 4]
  unfold Pipeline.afterTail₀
  after_results_simp
  rfl

/-- What it leaves of the values' stack. -/
theorem heads5 : Pipeline.afterTail₀ cfgs (dats m) 0 (V0 m) [hostOps1] c main_v7 = byHead ((dats m 0 c).arrAt 5 cfg0.N) := by
  rw [← Pipeline.withArrays_arr spec0 winFacts0.arr_inj c (V0 m c) (fun w => (dats m 0 c).arrAt w cfg0.N) 5]
  unfold Pipeline.afterTail₀
  after_results_simp
  rfl

/-- What it leaves of the last result. -/
theorem last : Pipeline.afterTail₀ cfgs (dats m) 0 (V0 m) [hostOps1] c main_v10 = lastRows ((dats m 0 c).arrAt 6 cfg0.N) := by
  rw [← Pipeline.withArrays_arr spec0 winFacts0.arr_inj c (V0 m c) (fun w => (dats m 0 c).arrAt w cfg0.N) 6]
  unfold Pipeline.afterTail₀
  after_results_simp
  rfl

end Cert.Dense.Qkv

end
-- ==== Proof.Qkv.Reference.lean ====
/-
  What the reference of the projection computes, read at an index.
-/
module

public import proofs.«01_k».proof.Proof.Qkv.Array
public import proofs.«01_k».proof.Proof.Gen.QkvRefIdeal.Read

@[expose] public section

set_option maxRecDepth 65536

noncomputable section

namespace Cert.Dense.Qkv

open Idealize.ShloMosaic Idealize.ShloMosaic.TcCoe Idealize.ShloMosaic.Tactic Cert.Dense
open Cert.QkvRefIdeal Cert.QkvRefIdeal.Read

variable (x0 : Vec Ideal S16384x1024 .f32) (x1 : Vec Ideal S4x1024 .f32) (x2 : Vec Ideal S4x1024x8456 .f32) (x3 : Vec Ideal S4x4x512x4096 .f32)

/-- The normalized rows. -/
theorem norm_read (r : Fin 16384) (k : Fin 1024) :
    (val_main_v14 (F := Ideal) x0 x1 (ix2 r k) : EReal) = rmsRow (fun k => x0 (ix2 r k)) (fun k => x1 (ix2 3 k)) k := by
  unfold rmsRow
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The product with all the weights. -/
theorem entry_read (r : Fin 16384) (f : Fin 8456) :
    (val_main_v17 (F := Ideal) x0 x1 x2 (ix2 r f) : EReal) = entry x0 x1 x2 r f := by
  unfold entry projAt
  simp only [← norm_read]
  generalize h : val_main_v14 (F := Ideal) x0 x1 = y
  unfold val_main_v17
  rw [h]
  pointwise [val_main_v16, val_main_v15]

theorem ref3 : val_main_v19 (F := Ideal) x0 x1 x2 = arr3 x0 x1 x2 := by
  refine ext2 (n0 := 16384) (n1 := 512) fun r f => ?_
  refine Eq.trans ?_ (entry_read x0 x1 x2 r ⟨0 + f.val, by omega⟩)
  unfold val_main_v19 val_main_v18
  generalize val_main_v17 (F := Ideal) x0 x1 x2 = y
  pointwise []

theorem ref6 : val_main_v22 (F := Ideal) x0 x1 x2 = arr6 x0 x1 x2 := by
  refine ext2 (n0 := 16384) (n1 := 1792) fun r f => ?_
  refine Eq.trans ?_ (entry_read x0 x1 x2 r ⟨1536 + f.val, by omega⟩)
  unfold val_main_v22 val_main_v18
  generalize val_main_v17 (F := Ideal) x0 x1 x2 = y
  pointwise []

/-- Two arrays of five axes that agree at every index are equal. -/
theorem ext5 {α : Type} {n0 n1 n2 n3 n4 : ℕ} {f g : (⟨5, ![n0, n1, n2, n3, n4]⟩ : Shape).Idx → α}
    (h : ∀ (a : Fin n0) (b : Fin n1) (c : Fin n2) (d : Fin n3) (e : Fin n4), f (ix5 a b c d e) = g (ix5 a b c d e)) :
    f = g := funext fun y => by rw [eq_ix5 y]; exact h _ _ _ _ _

theorem ref4 : val_main_v28 (F := Ideal) x0 x1 x2 x3 = byHead (arr4 x0 x1 x2 x3) := by
  refine ext5 (n0 := 4) (n1 := 4) (n2 := 4096) (n3 := 8) (n4 := 64) fun b l p h d => ?_
  refine Eq.trans ?_ (byHead_at _ b l p h d).symm
  show (_ : EReal) = if l.val = 3 then entry x0 x1 x2 ⟨b.val * 4096 + p.val, by omega⟩ ⟨512 + (h.val * 64 + d.val), by omega⟩
    else x3 (ix4 b l ⟨h.val * 64 + d.val, by omega⟩ p)
  simp only [← entry_read]
  unfold val_main_v28 val_main_v27 val_main_v26 val_main_v20 val_main_v18
  generalize val_main_v17 (F := Ideal) x0 x1 x2 = y
  pointwise [val_main_v25, val_main_v24, val_main_v23]
  by_cases h3 : l.val < 3
  · rw [dif_pos h3, if_neg (by omega)]
  · rw [dif_neg h3, if_pos (by omega)]

theorem ref5 : val_main_v34 (F := Ideal) x0 x1 x2 x3 = byHead (arr5 x0 x1 x2 x3) := by
  refine ext5 (n0 := 4) (n1 := 4) (n2 := 4096) (n3 := 8) (n4 := 64) fun b l p h d => ?_
  refine Eq.trans ?_ (byHead_at _ b l p h d).symm
  show (_ : EReal) = if l.val = 3 then entry x0 x1 x2 ⟨b.val * 4096 + p.val, by omega⟩ ⟨1024 + (h.val * 64 + d.val), by omega⟩
    else x3 (ix4 b l ⟨h.val * 64 + d.val, by omega⟩ p)
  simp only [← entry_read]
  unfold val_main_v34 val_main_v33 val_main_v32 val_main_v21 val_main_v18
  generalize val_main_v17 (F := Ideal) x0 x1 x2 = y
  pointwise [val_main_v31, val_main_v30, val_main_v29]
  by_cases h3 : l.val < 3
  · rw [dif_pos h3, if_neg (by omega)]
  · rw [dif_neg h3, if_pos (by omega)]

/-- The reference takes the last rows by the same steps. -/
theorem ref_last : val_main_v37 (F := Ideal) x0 x1 x2 = lastRows (arr6 x0 x1 x2) := by
  rw [← ref6]
  rfl

end Cert.Dense.Qkv

end
-- ==== Proof.Qkv.Claims.lean ====
/-
  The five claims of the projection to the attention's inputs.
-/
module

public import proofs.«01_k».proof.Defs
public import proofs.«01_k».proof.Proof.Qkv.Reference
public import proofs.«01_k».proof.Proof.Gen.Qkv.Frame
public import proofs.«01_k».proof.Proof.Gen.QkvIdeal.Frame
public import proofs.«01_k».proof.Proof.Gen.QkvRefIdeal.Run

@[expose] public section

set_option maxRecDepth 65536

noncomputable section

namespace Cert.Dense.Qkv

open Idealize.ShloMosaic Idealize.ShloMosaic.TcCoe Idealize.SL.Sem

/-- The kernel runs, keeps its arguments and leaves the machine quiet. -/
theorem frame_p : Cert.quiescent_Qkv := fun m ρ _ => Cert.Qkv.Gen.frame m ρ

/-- So does the kernel over the extended reals. -/
theorem frame_pi : Cert.quiescent_QkvIdeal := fun m ρ _ => Cert.QkvIdeal.Gen.frame m ρ

/-- So does the reference. -/
theorem frame_ri : Cert.quiescent_QkvRefIdeal := fun m ρ _ =>
  (θ_run Cert.QkvRefIdeal.defs _ _).mono
    (fun r h => ⟨fun c => (h c).2.2.2.2.2, sem_eq_zero_of_no_sems (by decide) r.2⟩)
    (Cert.QkvRefIdeal.Value.run (F := Ideal) m ρ)

theorem preserves : Cert.preserves_Qkv_QkvIdeal := trivial

/-- What the kernel's run leaves: the arrays of the call, and what the host code after the call makes of them. -/
theorem run (m : (ℓ : Loc Cert.QkvIdeal.nD Cert.QkvIdeal.τ Cert.QkvIdeal.sig) → Buf (Elt Ideal) ℓ) (ρ : Dev Cert.QkvIdeal.nD → PrngReg) :
    θ_run (Cert.QkvIdeal.defs (F := Ideal)) (onTc (τ := Cert.QkvIdeal.τ) (Cert.QkvIdeal.main (F := Ideal))) ⟨m, fun _ => 0, ρ⟩ fun r => ∀ c : Dev Cert.QkvIdeal.nD,
      r.2.mem ((c.tc : Thread Cert.QkvIdeal.nD Cert.QkvIdeal.τ).loc Cert.QkvIdeal.main_v3_0) = (Cert.QkvIdeal.Gen.dats m 0 c).arrAt 3 Cert.QkvIdeal.cfg0.N
      ∧ r.2.mem ((c.tc : Thread Cert.QkvIdeal.nD Cert.QkvIdeal.τ).loc Cert.QkvIdeal.main_v5) = byHead ((Cert.QkvIdeal.Gen.dats m 0 c).arrAt 4 Cert.QkvIdeal.cfg0.N)
      ∧ r.2.mem ((c.tc : Thread Cert.QkvIdeal.nD Cert.QkvIdeal.τ).loc Cert.QkvIdeal.main_v7) = byHead ((Cert.QkvIdeal.Gen.dats m 0 c).arrAt 5 Cert.QkvIdeal.cfg0.N)
      ∧ r.2.mem ((c.tc : Thread Cert.QkvIdeal.nD Cert.QkvIdeal.τ).loc Cert.QkvIdeal.main_v3_3) = (Cert.QkvIdeal.Gen.dats m 0 c).arrAt 6 Cert.QkvIdeal.cfg0.N
      ∧ r.2.mem ((c.tc : Thread Cert.QkvIdeal.nD Cert.QkvIdeal.τ).loc Cert.QkvIdeal.main_v10) = lastRows ((Cert.QkvIdeal.Gen.dats m 0 c).arrAt 6 Cert.QkvIdeal.cfg0.N)
      ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4) :=
  (θ_run Cert.QkvIdeal.defs _ _).mono (fun r h c => ⟨(h.1 c).1 3, ((h.1 c).2 Cert.QkvIdeal.main_v5 (Pipeline.mem_restRefs_of Cert.QkvIdeal.main_v5 (by decide) (by decide))).trans (heads4 m c), ((h.1 c).2 Cert.QkvIdeal.main_v7 (Pipeline.mem_restRefs_of Cert.QkvIdeal.main_v7 (by decide) (by decide))).trans (heads5 m c), (h.1 c).1 6, ((h.1 c).2 Cert.QkvIdeal.main_v10 (Pipeline.mem_restRefs_of Cert.QkvIdeal.main_v10 (by decide) (by decide))).trans (last m c), h.2 c⟩)
    (θ_run_and (Cert.QkvIdeal.Gen.run_main m ρ) (Cert.QkvIdeal.Gen.unchanged m ρ))

/-- On the same arguments the kernel and the reference end with the same arrays. -/
theorem algebraic : Cert.algebraic_QkvIdeal_QkvRefIdeal := by
  intro m ρ m' ρ' _ hagree
  refine ⟨fun c => (Cert.QkvIdeal.Gen.dats m 0 c).arrAt 3 Cert.QkvIdeal.cfg0.N, fun c => byHead ((Cert.QkvIdeal.Gen.dats m 0 c).arrAt 4 Cert.QkvIdeal.cfg0.N), fun c => byHead ((Cert.QkvIdeal.Gen.dats m 0 c).arrAt 5 Cert.QkvIdeal.cfg0.N), fun c => (Cert.QkvIdeal.Gen.dats m 0 c).arrAt 6 Cert.QkvIdeal.cfg0.N, fun c => lastRows ((Cert.QkvIdeal.Gen.dats m 0 c).arrAt 6 Cert.QkvIdeal.cfg0.N), run m ρ, ?_⟩
  refine (θ_run Cert.QkvRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.QkvRefIdeal.Value.run (F := Ideal) m' ρ')
  all_goals obtain ⟨h0, h1, h2, h3, h4⟩ := hagree c
  · rw [Cert.QkvRefIdeal.Read.val_main_v19_eq, h0, h1, h2]
    exact (ref3 _ _ _).trans (final3 m c).symm
  · rw [Cert.QkvRefIdeal.Read.val_main_v28_eq, h0, h1, h2, h3]
    exact (ref4 _ _ _ _).trans (congrArg byHead (final4 m c).symm)
  · rw [Cert.QkvRefIdeal.Read.val_main_v34_eq, h0, h1, h2, h4]
    exact (ref5 _ _ _ _).trans (congrArg byHead (final5 m c).symm)
  · rw [Cert.QkvRefIdeal.Read.val_main_v22_eq, h0, h1, h2]
    exact (ref6 _ _ _).trans (final6 m c).symm
  · rw [Cert.QkvRefIdeal.Read.val_main_v37_eq, h0, h1, h2]
    exact (ref_last _ _ _).trans (congrArg lastRows (final6 m c).symm)

end Cert.Dense.Qkv

end
-- ==== Proof.Merge.Block.lean ====
/-
  What a grid step of the merge stores.
-/
module

public import proofs.«01_k».proof.Proof.Dense.Rows
public import proofs.«01_k».proof.Proof.Gen.MergeIdeal.Value

@[expose] public section

set_option maxRecDepth 65536

noncomputable section

namespace Cert.Dense.Merge

open Idealize.ShloMosaic Idealize.ShloMosaic.TcCoe Idealize.ShloMosaic.Tactic Cert.Dense
open Cert.MergeIdeal Cert.MergeIdeal.Gen

variable (x0 x4 x5 x6 : Vec Ideal S512x1024 .f32) (x1 x2 x3 : Vec Ideal S512x512 .f32) (x7 x8 x9 : Vec Ideal S1x512x1024 .bf16)
  (x10 : Vec Ideal S1x1024x1024 .bf16)

/-- The stored block, at row `r` and column `c`, is the row function of row `r`. -/
theorem out_apply (r : Fin 512) (c : Fin 1024) :
    (out0_11 x0 x1 x2 x3 x4 x5 x6 x7 x8 x9 x10 (ix2 r c) : EReal)
      = mergeRow (fun k => x0 (ix2 r k)) (fun k => x1 (ix2 r k)) (fun k => x2 (ix2 r k)) (fun k => x3 (ix2 r k))
          (fun k => x4 (ix2 r k)) (fun k => x5 (ix2 r k)) (fun k => x6 (ix2 r k)) (fun k f => x7 (ix3 0 k f))
          (fun k f => x8 (ix3 0 k f)) (fun k f => x9 (ix3 0 k f)) (fun k f => x10 (ix3 0 k f)) c := by
  unfold out0_11
  rw [View.canon_unit_zero (by decide)]
  iterate 11 rw [View.ld_unit_zero (by decide)]
  unfold mergeRow
  pointwise [k0_pay1]

end Cert.Dense.Merge

end
-- ==== Proof.Merge.Array.lean ====
/-
  What the result array of the merge holds after the grid: the row function of every row.
-/
module

public import proofs.«01_k».proof.Proof.Merge.Block
public import Idealize.ShloMosaic.Lib.StableHlo.ReadAt

@[expose] public section

set_option maxRecDepth 65536

noncomputable section

namespace Cert.Dense.Merge

open Idealize.ShloMosaic Idealize.ShloMosaic.TcCoe Idealize.ShloMosaic.Tactic Cert.Dense
open Cert.MergeIdeal Cert.MergeIdeal.Gen

/-- The merge as an array. -/
def mergeArr (x : Vec Ideal S16384x1024 .f32) (oa ob oc : Vec Ideal S16384x512 .f32) (g : Vec Ideal S16384x3072 .f32)
    (wa wb wc : Vec Ideal S4x512x1024 .f32) (wo : Vec Ideal S4x1024x1024 .f32) : Vec Ideal S16384x1024 .f32 := fun y =>
  mergeRow (fun k => x (ix2 (y 0) k)) (fun k => oa (ix2 (y 0) k)) (fun k => ob (ix2 (y 0) k)) (fun k => oc (ix2 (y 0) k))
    (fun k => g (ix2 (y 0) ⟨k.val, by omega⟩)) (fun k => g (ix2 (y 0) ⟨1024 + k.val, by omega⟩)) (fun k => g (ix2 (y 0) ⟨2048 + k.val, by omega⟩))
    (fun k f => wa (ix3 0 k f)) (fun k f => wb (ix3 0 k f)) (fun k f => wc (ix3 0 k f)) (fun k f => wo (ix3 0 k f)) (y 1)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 1 := by decide +kernel
theorem index6 : ∀ t : Fin grid0.N, win0_6.index t 0 = t.val ∧ win0_6.index t 1 = 2 := by decide +kernel
theorem index7 : ∀ t : Fin grid0.N, win0_7.index t 0 = 0 ∧ win0_7.index t 1 = 0 ∧ win0_7.index t 2 = 0 := by decide +kernel
theorem index8 : ∀ t : Fin grid0.N, win0_8.index t 0 = 0 ∧ win0_8.index t 1 = 0 ∧ win0_8.index t 2 = 0 := by decide +kernel
theorem index9 : ∀ t : Fin grid0.N, win0_9.index t 0 = 0 ∧ win0_9.index t 1 = 0 ∧ win0_9.index t 2 = 0 := by decide +kernel
theorem index10 : ∀ t : Fin grid0.N, win0_10.index t 0 = 0 ∧ win0_10.index t 1 = 0 ∧ win0_10.index t 2 = 0 := by decide +kernel
theorem index11 : ∀ t : Fin grid0.N, win0_11.index t 0 = t.val ∧ win0_11.index t 1 = 0 := by decide +kernel
theorem N_lt (t : Fin cfg0.N) : t.val < 32 := t.isLt

variable (m : (ℓ : Loc nD τ sig) → Buf (Elt Ideal) ℓ) (c : Dev nD)

abbrev a0 : Vec Ideal S16384x1024 .f32 := m ((c : Thread nD τ).loc main_arg0)
abbrev a1 : Vec Ideal S16384x512 .f32 := m ((c : Thread nD τ).loc main_arg1)
abbrev a2 : Vec Ideal S16384x512 .f32 := m ((c : Thread nD τ).loc main_arg2)
abbrev a3 : Vec Ideal S16384x512 .f32 := m ((c : Thread nD τ).loc main_arg3)
abbrev a4 : Vec Ideal S16384x3072 .f32 := m ((c : Thread nD τ).loc main_arg4)
abbrev a5 : Vec Ideal S4x512x1024 .f32 := m ((c : Thread nD τ).loc main_arg5)
abbrev a6 : Vec Ideal S4x512x1024 .f32 := m ((c : Thread nD τ).loc main_arg6)
abbrev a7 : Vec Ideal S4x512x1024 .f32 := m ((c : Thread nD τ).loc main_arg7)
abbrev a8 : Vec Ideal S4x1024x1024 .f32 := m ((c : Thread nD τ).loc main_arg8)

/-- The row of the array a point's row `r` is. -/
def rowOf (t : Fin cfg0.N) (r : Fin 512) : Fin 16384 := ⟨t.val * 512 + r.val, by have := N_lt t; omega⟩

theorem v0_at (k : Fin 512) (f : Fin 1024) : (V m c main_v0 (ix3 (0 : Fin 4) k f) : EReal) = a5 m c (ix3 0 k f) := by
  unfold V; after_reads_at
theorem v1_at (k : Fin 512) (f : Fin 1024) : (V m c main_v1 (ix3 (0 : Fin 4) k f) : EReal) = a6 m c (ix3 0 k f) := by
  unfold V; after_reads_at
theorem v2_at (k : Fin 512) (f : Fin 1024) : (V m c main_v2 (ix3 (0 : Fin 4) k f) : EReal) = a7 m c (ix3 0 k f) := by
  unfold V; after_reads_at
theorem v3_at (k : Fin 1024) (f : Fin 1024) : (V m c main_v3 (ix3 (0 : Fin 4) k f) : EReal) = a8 m c (ix3 0 k f) := by
  unfold V; after_reads_at
theorem iblk0 (t : Fin cfg0.N) (r : Fin 512) (k : Fin 1024) :
    (iblk m c 0 t (ix2 r k) : EReal) = a0 m c (ix2 (rowOf t r) k) := by
  unfold iblk
  rw [View.read_apply]
  refine (congrFun (V_main_arg0 m c) _).trans (congrArg (a0 m c) (funext fun a => Fin.ext ?_))
  match a with
  | ⟨0, _⟩ => show win0_0.index t 0 * 512 + 1 * r.val = t.val * 512 + r.val; rw [(index0 t).1, Nat.one_mul]
  | ⟨1, _⟩ => show win0_0.index t 1 * 1024 + 1 * k.val = k.val; rw [(index0 t).2]; omega
theorem iblk1 (t : Fin cfg0.N) (r : Fin 512) (k : Fin 512) :
    (iblk m c 1 t (ix2 r k) : EReal) = a1 m c (ix2 (rowOf t r) k) := by
  unfold iblk
  rw [View.read_apply]
  refine (congrFun (V_main_arg1 m c) _).trans (congrArg (a1 m c) (funext fun a => Fin.ext ?_))
  match a with
  | ⟨0, _⟩ => show win0_1.index t 0 * 512 + 1 * r.val = t.val * 512 + r.val; rw [(index1 t).1, Nat.one_mul]
  | ⟨1, _⟩ => show win0_1.index t 1 * 512 + 1 * k.val = k.val; rw [(index1 t).2]; omega
theorem iblk2 (t : Fin cfg0.N) (r : Fin 512) (k : Fin 512) :
    (iblk m c 2 t (ix2 r k) : EReal) = a2 m c (ix2 (rowOf t r) k) := by
  unfold iblk
  rw [View.read_apply]
  refine (congrFun (V_main_arg2 m c) _).trans (congrArg (a2 m c) (funext fun a => Fin.ext ?_))
  match a with
  | ⟨0, _⟩ => show win0_2.index t 0 * 512 + 1 * r.val = t.val * 512 + r.val; rw [(index2 t).1, Nat.one_mul]
  | ⟨1, _⟩ => show win0_2.index t 1 * 512 + 1 * k.val = k.val; rw [(index2 t).2]; omega
theorem iblk3 (t : Fin cfg0.N) (r : Fin 512) (k : Fin 512) :
    (iblk m c 3 t (ix2 r k) : EReal) = a3 m c (ix2 (rowOf t r) k) := by
  unfold iblk
  rw [View.read_apply]
  refine (congrFun (V_main_arg3 m c) _).trans (congrArg (a3 m c) (funext fun a => Fin.ext ?_))
  match a with
  | ⟨0, _⟩ => show win0_3.index t 0 * 512 + 1 * r.val = t.val * 512 + r.val; rw [(index3 t).1, Nat.one_mul]
  | ⟨1, _⟩ => show win0_3.index t 1 * 512 + 1 * k.val = k.val; rw [(index3 t).2]; omega
theorem iblk4 (t : Fin cfg0.N) (r : Fin 512) (k : Fin 1024) :
    (iblk m c 4 t (ix2 r k) : EReal) = a4 m c (ix2 (rowOf t r) ⟨k.val, by omega⟩) := by
  unfold iblk
  rw [View.read_apply]
  refine (congrFun (V_main_arg4 m c) _).trans (congrArg (a4 m c) (funext fun a => Fin.ext ?_))
  match a with
  | ⟨0, _⟩ => show win0_4.index t 0 * 512 + 1 * r.val = t.val * 512 + r.val; rw [(index4 t).1, Nat.one_mul]
  | ⟨1, _⟩ => show win0_4.index t 1 * 1024 + 1 * k.val = k.val; rw [(index4 t).2]; omega
theorem iblk5 (t : Fin cfg0.N) (r : Fin 512) (k : Fin 1024) :
    (iblk m c 5 t (ix2 r k) : EReal) = a4 m c (ix2 (rowOf t r) ⟨1024 + k.val, by omega⟩) := by
  unfold iblk
  rw [View.read_apply]
  refine (congrFun (V_main_arg4 m c) _).trans (congrArg (a4 m c) (funext fun a => Fin.ext ?_))
  match a with
  | ⟨0, _⟩ => show win0_5.index t 0 * 512 + 1 * r.val = t.val * 512 + r.val; rw [(index5 t).1, Nat.one_mul]
  | ⟨1, _⟩ => show win0_5.index t 1 * 1024 + 1 * k.val = 1024 + k.val; rw [(index5 t).2]; omega
theorem iblk6 (t : Fin cfg0.N) (r : Fin 512) (k : Fin 1024) :
    (iblk m c 6 t (ix2 r k) : EReal) = a4 m c (ix2 (rowOf t r) ⟨2048 + k.val, by omega⟩) := by
  unfold iblk
  rw [View.read_apply]
  refine (congrFun (V_main_arg4 m c) _).trans (congrArg (a4 m c) (funext fun a => Fin.ext ?_))
  match a with
  | ⟨0, _⟩ => show win0_6.index t 0 * 512 + 1 * r.val = t.val * 512 + r.val; rw [(index6 t).1, Nat.one_mul]
  | ⟨1, _⟩ => show win0_6.index t 1 * 1024 + 1 * k.val = 2048 + k.val; rw [(index6 t).2]; omega
theorem iblk7 (t : Fin cfg0.N) (k : Fin 512) (f : Fin 1024) :
    (iblk m c 7 t (ix3 (0 : Fin 1) k f) : EReal) = a5 m c (ix3 0 k f) := by
  refine Eq.trans ?_ (v0_at m c k f)
  unfold iblk
  rw [View.read_apply]
  refine congrArg (V m c main_v0) (funext fun a => Fin.ext ?_)
  match a with
  | ⟨0, _⟩ => show win0_7.index t 0 * 1 + 1 * 0 = 0; rw [(index7 t).1]
  | ⟨1, _⟩ => show win0_7.index t 1 * 512 + 1 * k.val = k.val; rw [(index7 t).2.1]; omega
  | ⟨2, _⟩ => show win0_7.index t 2 * 1024 + 1 * f.val = f.val; rw [(index7 t).2.2]; omega
theorem iblk8 (t : Fin cfg0.N) (k : Fin 512) (f : Fin 1024) :
    (iblk m c 8 t (ix3 (0 : Fin 1) k f) : EReal) = a6 m c (ix3 0 k f) := by
  refine Eq.trans ?_ (v1_at m c k f)
  unfold iblk
  rw [View.read_apply]
  refine congrArg (V m c main_v1) (funext fun a => Fin.ext ?_)
  match a with
  | ⟨0, _⟩ => show win0_8.index t 0 * 1 + 1 * 0 = 0; rw [(index8 t).1]
  | ⟨1, _⟩ => show win0_8.index t 1 * 512 + 1 * k.val = k.val; rw [(index8 t).2.1]; omega
  | ⟨2, _⟩ => show win0_8.index t 2 * 1024 + 1 * f.val = f.val; rw [(index8 t).2.2]; omega
theorem iblk9 (t : Fin cfg0.N) (k : Fin 512) (f : Fin 1024) :
    (iblk m c 9 t (ix3 (0 : Fin 1) k f) : EReal) = a7 m c (ix3 0 k f) := by
  refine Eq.trans ?_ (v2_at m c k f)
  unfold iblk
  rw [View.read_apply]
  refine congrArg (V m c main_v2) (funext fun a => Fin.ext ?_)
  match a with
  | ⟨0, _⟩ => show win0_9.index t 0 * 1 + 1 * 0 = 0; rw [(index9 t).1]
  | ⟨1, _⟩ => show win0_9.index t 1 * 512 + 1 * k.val = k.val; rw [(index9 t).2.1]; omega
  | ⟨2, _⟩ => show win0_9.index t 2 * 1024 + 1 * f.val = f.val; rw [(index9 t).2.2]; omega
theorem iblk10 (t : Fin cfg0.N) (k : Fin 1024) (f : Fin 1024) :
    (iblk m c 10 t (ix3 (0 : Fin 1) k f) : EReal) = a8 m c (ix3 0 k f) := by
  refine Eq.trans ?_ (v3_at m c k f)
  unfold iblk
  rw [View.read_apply]
  refine congrArg (V m c main_v3) (funext fun a => Fin.ext ?_)
  match a with
  | ⟨0, _⟩ => show win0_10.index t 0 * 1 + 1 * 0 = 0; rw [(index10 t).1]
  | ⟨1, _⟩ => show win0_10.index t 1 * 1024 + 1 * k.val = k.val; rw [(index10 t).2.1]; omega
  | ⟨2, _⟩ => show win0_10.index t 2 * 1024 + 1 * f.val = f.val; rw [(index10 t).2.2]; omega

/-- What a point writes back is its block of the merge. -/
theorem flushed_eq (t : Fin cfg0.N) :
    (dats m 0 c).flushed 11 t = ((cfg0.win 11).blk t).view.read (Elt Ideal)
      (mergeArr (a0 m c) (a1 m c) (a2 m c) (a3 m c) (a4 m c) (a5 m c) (a6 m c) (a7 m c) (a8 m c)) := by
  rw [Cert.MergeIdeal.Value.flushed11]
  refine ext2 (n0 := 512) (n1 := 1024) fun r k => ?_
  have e : (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) : EReal)
      = mergeArr (a0 m c) (a1 m c) (a2 m c) (a3 m c) (a4 m c) (a5 m c) (a6 m c) (a7 m c) (a8 m c) (ix2 (rowOf t r) k) := by
    rw [out_apply]
    simp only [iblk0, iblk1, iblk2, iblk3, iblk4, iblk5, iblk6, iblk7, iblk8, iblk9, iblk10]
    rfl
  refine Eq.trans e ?_
  rw [View.read_apply]
  refine congrArg (mergeArr (a0 m c) (a1 m c) (a2 m c) (a3 m c) (a4 m c) (a5 m c) (a6 m c) (a7 m c) (a8 m c)) (funext fun a => Fin.ext ?_)
  match a with
  | ⟨0, _⟩ => show _ = win0_11.index t 0 * 512 + 1 * r.val; rw [(index11 t).1, Nat.one_mul]; rfl
  | ⟨1, _⟩ => show _ = win0_11.index t 1 * 1024 + 1 * k.val; rw [(index11 t).2, Nat.one_mul, Nat.zero_mul, Nat.zero_add]; rfl

/-- After the grid the result array is the merge. -/
theorem final_out : (dats m 0 c).arrAt 11 cfg0.N = mergeArr (a0 m c) (a1 m c) (a2 m c) (a3 m c) (a4 m c) (a5 m c) (a6 m c) (a7 m c) (a8 m c) :=
  (dats m 0 c).arrAt_eq_of_cover 11 _ (fun t _ => flushed_eq m c t) fun i => by
    have h0 : (i 0 : Nat) < 16384 := (i 0).isLt
    have h1 : (i 1 : Nat) < 1024 := (i 1).isLt
    have hN : (i 0 : Nat) / 512 < 32 := by omega
    let t : Fin cfg0.N := ⟨_, hN⟩
    refine ⟨t, flush0_11 t, ?_⟩
    show i ∈ ((View.whole main_v4).slice (win0_11.rect t)).set
    rw [View.set_slice_whole, Rect.mem_set_unit]
    intro a
    match a with
    | ⟨0, _⟩ =>
      show win0_11.index t 0 * 512 ≤ (i 0 : Nat) ∧ (i 0 : Nat) < win0_11.index t 0 * 512 + 512
      rw [(index11 t).1]; dsimp only [t]; omega
    | ⟨1, _⟩ =>
      show win0_11.index t 1 * 1024 ≤ (i 1 : Nat) ∧ (i 1 : Nat) < win0_11.index t 1 * 1024 + 1024
      rw [(index11 t).2]; omega

end Cert.Dense.Merge

end
-- ==== Proof.Merge.Reference.lean ====
/-
  What the reference of the merge computes, read at an index: the row function.
-/
module

public import proofs.«01_k».proof.Proof.Merge.Array
public import proofs.«01_k».proof.Proof.Gen.MergeRefIdeal.Read

@[expose] public section

set_option maxRecDepth 65536

noncomputable section

namespace Cert.Dense.Merge

open Idealize.ShloMosaic Idealize.ShloMosaic.TcCoe Idealize.ShloMosaic.Tactic Cert.Dense
open Cert.MergeRefIdeal Cert.MergeRefIdeal.Read

variable (x0 : Vec Ideal S16384x1024 .f32) (x1 x2 x3 : Vec Ideal S16384x512 .f32) (x4 : Vec Ideal S16384x3072 .f32)
  (x5 x6 x7 : Vec Ideal S4x512x1024 .f32) (x8 : Vec Ideal S4x1024x1024 .f32)

/-- The gated sum of the three projections. -/
theorem sum_read (r : Fin 16384) (d : Fin 1024) :
    (val_main_v16 (F := Ideal) x1 x2 x3 x4 x5 x6 x7 (ix2 r d) : EReal)
      = x4 (ix2 r ⟨d.val, by omega⟩) * (∑ k, x1 (ix2 r k) * x5 (ix3 0 k d)) + x4 (ix2 r ⟨1024 + d.val, by omega⟩) * (∑ k, x2 (ix2 r k) * x6 (ix3 0 k d))
        + x4 (ix2 r ⟨2048 + d.val, by omega⟩) * (∑ k, x3 (ix2 r k) * x7 (ix3 0 k d)) := by
  pointwise [val_main_v16, val_main_v15, val_main_v14, val_main_v13, val_main_v12, val_main_v11, val_main_v10, val_main_v9, val_main_v8,
    val_main_v7, val_main_v6, val_main_v5, val_main_v4, val_main_v3, val_main_v2, val_main_v1, val_main_v0]

/-- The reference's result is the merge. -/
theorem ref_read : val_main_v20 (F := Ideal) x0 x1 x2 x3 x4 x5 x6 x7 x8 = mergeArr x0 x1 x2 x3 x4 x5 x6 x7 x8 := by
  refine ext2 (n0 := 16384) (n1 := 1024) fun r c => ?_
  unfold mergeArr mergeRow
  refine Eq.trans ?_ (congrArg (x0 (ix2 r c) + ·) (Finset.sum_congr rfl fun d _ =>
    congrArg (· * x8 (ix3 0 d c)) (sum_read x1 x2 x3 x4 x5 x6 x7 r d)))
  generalize h : val_main_v16 (F := Ideal) x1 x2 x3 x4 x5 x6 x7 = y
  unfold val_main_v20 val_main_v19
  rw [h]
  pointwise [val_main_v18, val_main_v17]

end Cert.Dense.Merge

end
-- ==== Proof.Merge.Claims.lean ====
/-
  The five claims of the merge.
-/
module

public import proofs.«01_k».proof.Defs
public import proofs.«01_k».proof.Proof.Merge.Reference
public import proofs.«01_k».proof.Proof.Gen.Merge.Frame
public import proofs.«01_k».proof.Proof.Gen.MergeIdeal.Frame
public import proofs.«01_k».proof.Proof.Gen.MergeRefIdeal.Run

@[expose] public section

set_option maxRecDepth 65536

noncomputable section

namespace Cert.Dense.Merge

open Idealize.ShloMosaic Idealize.ShloMosaic.TcCoe Idealize.SL.Sem

/-- The kernel runs, keeps its arguments and leaves the machine quiet. -/
theorem frame_p : Cert.quiescent_Merge := fun m ρ _ => Cert.Merge.Gen.frame m ρ

/-- So does the kernel over the extended reals. -/
theorem frame_pi : Cert.quiescent_MergeIdeal := fun m ρ _ => Cert.MergeIdeal.Gen.frame m ρ

/-- So does the reference. -/
theorem frame_ri : Cert.quiescent_MergeRefIdeal := fun m ρ _ =>
  (θ_run Cert.MergeRefIdeal.defs _ _).mono
    (fun r h => ⟨fun c => (h c).2, sem_eq_zero_of_no_sems (by decide) r.2⟩)
    (Cert.MergeRefIdeal.Value.run (F := Ideal) m ρ)

theorem preserves : Cert.preserves_Merge_MergeIdeal := trivial

/-- On the same arguments the kernel and the reference end with the same array. -/
theorem algebraic : Cert.algebraic_MergeIdeal_MergeRefIdeal := by
  intro m ρ m' ρ' _ hagree
  refine ⟨fun c => (Cert.MergeIdeal.Gen.dats m 0 c).arrAt 11 Cert.MergeIdeal.cfg0.N, Cert.MergeIdeal.Value.run_blocks m ρ, ?_⟩
  refine (θ_run Cert.MergeRefIdeal.defs _ _).mono (fun _ h c => ⟨(h c).1.trans ?_, (h c).2⟩)
    (Cert.MergeRefIdeal.Value.run (F := Ideal) m' ρ')
  all_goals obtain ⟨h0, h1, h2, h3, h4, h5, h6, h7, h8⟩ := hagree c
  rw [Cert.MergeRefIdeal.Read.val_main_v20_eq, h0, h1, h2, h3, h4, h5, h6, h7, h8]
  exact (ref_read _ _ _ _ _ _ _ _ _ ).trans (final_out m c).symm

end Cert.Dense.Merge

end
-- ==== Proof.Norm.Array.lean ====
/-
  What the result array of the final norm holds after the grid: the norm of every row.
-/
module

public import proofs.«01_k».proof.Proof.Dense.Rows
public import proofs.«01_k».proof.Proof.Gen.NormIdeal.Value
public import Idealize.ShloMosaic.Lib.StableHlo.ReadAt

@[expose] public section

set_option maxRecDepth 65536

noncomputable section

namespace Cert.Dense.Norm

open Idealize.ShloMosaic Idealize.ShloMosaic.TcCoe Idealize.ShloMosaic.Tactic Cert.Dense
open Cert.NormIdeal Cert.NormIdeal.Gen

/-- The stored block, at row `r` and column `c`, is the norm of row `r`. -/
theorem out_apply (x0 : Vec Ideal S512x1024 .f32) (x1 : Vec Ideal S1x1024 .f32) (r : Fin 512) (c : Fin 1024) :
    (out0_2 x0 x1 (ix2 r c) : EReal) = rmsRow (fun k => x0 (ix2 r k)) (fun k => x1 (ix2 0 k)) c := by
  unfold out0_2
  rw [View.canon_unit_zero (by decide), View.ld_unit_zero (by decide), View.ld_unit_zero (by decide)]
  unfold rmsRow
  pointwise [k0_pay1]

/-- The norm as an array. -/
def normArr (x : Vec Ideal S16384x1024 .f32) (w : Vec Ideal S1024 .f32) : Vec Ideal S16384x1024 .f32 := fun y =>
  rmsRow (fun k => x (ix2 (y 0) k)) (fun k => w (ix1 k)) (y 1)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem N_lt (t : Fin cfg0.N) : t.val < 32 := t.isLt

variable (m : (ℓ : Loc nD τ sig) → Buf (Elt Ideal) ℓ) (c : Dev nD)

abbrev a0 : Vec Ideal S16384x1024 .f32 := m ((c : Thread nD τ).loc main_arg0)
abbrev a1 : Vec Ideal S1024 .f32 := m ((c : Thread nD τ).loc main_arg1)

/-- The row of the array a point's row `r` is. -/
def rowOf (t : Fin cfg0.N) (r : Fin 512) : Fin 16384 := ⟨t.val * 512 + r.val, by have := N_lt t; omega⟩

theorem v0_at (k : Fin 1024) : (V m c main_v0 (ix2 (0 : Fin 1) k) : EReal) = a1 m c (ix1 k) := by
  unfold V; after_reads_at
theorem iblk0 (t : Fin cfg0.N) (r : Fin 512) (k : Fin 1024) :
    (iblk m c 0 t (ix2 r k) : EReal) = a0 m c (ix2 (rowOf t r) k) := by
  unfold iblk
  rw [View.read_apply]
  refine (congrFun (V_main_arg0 m c) _).trans (congrArg (a0 m c) (funext fun a => Fin.ext ?_))
  match a with
  | ⟨0, _⟩ => show win0_0.index t 0 * 512 + 1 * r.val = t.val * 512 + r.val; rw [(index0 t).1, Nat.one_mul]
  | ⟨1, _⟩ => show win0_0.index t 1 * 1024 + 1 * k.val = k.val; rw [(index0 t).2]; omega
theorem iblk1 (t : Fin cfg0.N) (k : Fin 1024) : (iblk m c 1 t (ix2 (0 : Fin 1) k) : EReal) = a1 m c (ix1 k) := by
  refine Eq.trans ?_ (v0_at m c k)
  unfold iblk
  rw [View.read_apply]
  refine congrArg (V m c main_v0) (funext fun a => Fin.ext ?_)
  match a with
  | ⟨0, _⟩ => show win0_1.index t 0 * 1 + 1 * 0 = 0; rw [(index1 t).1]
  | ⟨1, _⟩ => show win0_1.index t 1 * 1024 + 1 * k.val = k.val; rw [(index1 t).2]; omega

/-- What a point writes back is its block of the norm. -/
theorem flushed_eq (t : Fin cfg0.N) :
    (dats m 0 c).flushed 2 t = ((cfg0.win 2).blk t).view.read (Elt Ideal) (normArr (a0 m c) (a1 m c)) := by
  rw [Cert.NormIdeal.Value.flushed2]
  refine ext2 (n0 := 512) (n1 := 1024) fun r k => ?_
  have e : (out0_2 (iblk m c 0 t) (iblk m c 1 t) (ix2 r k) : EReal) = normArr (a0 m c) (a1 m c) (ix2 (rowOf t r) k) := by
    rw [out_apply]
    simp only [iblk0, iblk1]
    rfl
  refine Eq.trans e ?_
  rw [View.read_apply]
  refine congrArg (normArr (a0 m c) (a1 m c)) (funext fun a => Fin.ext ?_)
  match a with
  | ⟨0, _⟩ => show _ = win0_2.index t 0 * 512 + 1 * r.val; rw [(index2 t).1, Nat.one_mul]; rfl
  | ⟨1, _⟩ => show _ = win0_2.index t 1 * 1024 + 1 * k.val; rw [(index2 t).2, Nat.one_mul, Nat.zero_mul, Nat.zero_add]; rfl

/-- After the grid the result array is the norm. -/
theorem final_out : (dats m 0 c).arrAt 2 cfg0.N = normArr (a0 m c) (a1 m c) :=
  (dats m 0 c).arrAt_eq_of_cover 2 _ (fun t _ => flushed_eq m c t) fun i => by
    have h0 : (i 0 : Nat) < 16384 := (i 0).isLt
    have h1 : (i 1 : Nat) < 1024 := (i 1).isLt
    have hN : (i 0 : Nat) / 512 < 32 := by omega
    let t : Fin cfg0.N := ⟨_, hN⟩
    refine ⟨t, flush0_2 t, ?_⟩
    show i ∈ ((View.whole main_v1).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [(index2 t).1]; dsimp only [t]; omega
    | ⟨1, _⟩ =>
      show win0_2.index t 1 * 1024 ≤ (i 1 : Nat) ∧ (i 1 : Nat) < win0_2.index t 1 * 1024 + 1024
      rw [(index2 t).2]; omega

end Cert.Dense.Norm

end
-- ==== Proof.Norm.Reference.lean ====
/-
  What the reference of the final norm computes, read at an index.
-/
module

public import proofs.«01_k».proof.Proof.Norm.Array
public import proofs.«01_k».proof.Proof.Gen.NormRefIdeal.Read

@[expose] public section

set_option maxRecDepth 65536

noncomputable section

namespace Cert.Dense.Norm

open Idealize.ShloMosaic Idealize.ShloMosaic.TcCoe Idealize.ShloMosaic.Tactic Cert.Dense
open Cert.NormRefIdeal Cert.NormRefIdeal.Read

/-- The reference's result is the norm. -/
theorem ref_read (x0 : Vec Ideal S16384x1024 .f32) (x1 : Vec Ideal S1024 .f32) : val_main_v12 (F := Ideal) x0 x1 = normArr x0 x1 := by
  refine ext2 (n0 := 16384) (n1 := 1024) fun r c => ?_
  unfold normArr rmsRow
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

end Cert.Dense.Norm

end
-- ==== Proof.Norm.Claims.lean ====
/-
  The five claims of the final norm.
-/
module

public import proofs.«01_k».proof.Defs
public import proofs.«01_k».proof.Proof.Norm.Reference
public import proofs.«01_k».proof.Proof.Gen.Norm.Frame
public import proofs.«01_k».proof.Proof.Gen.NormIdeal.Frame
public import proofs.«01_k».proof.Proof.Gen.NormRefIdeal.Run

@[expose] public section

set_option maxRecDepth 65536

noncomputable section

namespace Cert.Dense.Norm

open Idealize.ShloMosaic Idealize.ShloMosaic.TcCoe Idealize.SL.Sem

/-- The kernel runs, keeps its arguments and leaves the machine quiet. -/
theorem frame_p : Cert.quiescent_Norm := fun m ρ _ => Cert.Norm.Gen.frame m ρ

/-- So does the kernel over the extended reals. -/
theorem frame_pi : Cert.quiescent_NormIdeal := fun m ρ _ => Cert.NormIdeal.Gen.frame m ρ

/-- So does the reference. -/
theorem frame_ri : Cert.quiescent_NormRefIdeal := fun m ρ _ =>
  (θ_run Cert.NormRefIdeal.defs _ _).mono
    (fun r h => ⟨fun c => (h c).2, sem_eq_zero_of_no_sems (by decide) r.2⟩)
    (Cert.NormRefIdeal.Value.run (F := Ideal) m ρ)

theorem preserves : Cert.preserves_Norm_NormIdeal := trivial

/-- On the same arguments the kernel and the reference end with the same array. -/
theorem algebraic : Cert.algebraic_NormIdeal_NormRefIdeal := by
  intro m ρ m' ρ' _ hagree
  refine ⟨fun c => (Cert.NormIdeal.Gen.dats m 0 c).arrAt 2 Cert.NormIdeal.cfg0.N, Cert.NormIdeal.Value.run_blocks m ρ, ?_⟩
  refine (θ_run Cert.NormRefIdeal.defs _ _).mono (fun _ h c => ⟨(h c).1.trans ?_, (h c).2⟩)
    (Cert.NormRefIdeal.Value.run (F := Ideal) m' ρ')
  all_goals obtain ⟨h0, h1⟩ := hagree c
  rw [Cert.NormRefIdeal.Read.val_main_v12_eq, h0, h1]
  exact (ref_read _ _).trans (final_out m c).symm

end Cert.Dense.Norm

end
-- ==== Proof.SampleQkv.Block.lean ====
/-
  What a grid step of the projection stores.
-/
module

public import proofs.«01_k».proof.Proof.Dense.Rows
public import proofs.«01_k».proof.Proof.Gen.SampleQkvIdeal.Frame

@[expose] public section

set_option maxRecDepth 65536

noncomputable section

namespace Cert.Dense.SampleQkv

open Idealize.ShloMosaic Idealize.ShloMosaic.TcCoe Idealize.ShloMosaic.Tactic Cert.Dense
open Cert.SampleQkvIdeal Cert.SampleQkvIdeal.Gen

variable (x0 : Vec Ideal S512x1024 .f32) (x1 : Vec Ideal S1x1x1024 .f32) (x2 : Vec Ideal S1x1024x3328 .bf16)

/-- The normalized block. -/
theorem norm_apply (r : Fin 512) (k : Fin 1024) :
    (k0_pay2 (F := Ideal) x0 x1 (ix2 r k) : EReal) = rmsRow (fun k => x0 (ix2 r k)) (fun k => x1 (ix3 0 0 k)) k := by
  unfold rmsRow
  pointwise [k0_pay2]

/-- The columns that this part of the product takes. -/
theorem cols3 (k : Fin 1024) (f : Fin 512) : (View.ld x2 r0_2 (ix3 (0 : Fin 1) k f) : EReal) = x2 (ix3 0 k ⟨0 + f.val, by omega⟩) := by
  refine congrArg x2 (funext fun a => Fin.ext ?_)
  match a with
  | ⟨0, _⟩ => rfl
  | ⟨1, _⟩ => show 0 + 1 * k.val = k.val; omega
  | ⟨2, _⟩ => show 0 + 1 * f.val = 0 + f.val; omega
theorem out3_apply (r : Fin 512) (f : Fin 512) :
    (out0_3 x0 x1 x2 (ix2 r f) : EReal) = projAt (fun k => x0 (ix2 r k)) (fun k => x1 (ix3 0 0 k)) (fun k => x2 (ix3 0 k ⟨0 + f.val, by omega⟩)) := by
  unfold out0_3
  rw [View.canon_unit_zero (by decide), View.ld_unit_zero (S := S512x1024) (by decide), View.ld_unit_zero (S := S1x1x1024) (by decide)]
  unfold projAt
  simp only [← norm_apply, ← cols3]
  generalize View.ld x2 r0_2 = y
  unfold k0_pay3
  generalize k0_pay2 (F := Ideal) x0 x1 = h
  pointwise []

/-- The columns that this part of the product takes. -/
theorem cols4 (k : Fin 1024) (f : Fin 512) : (View.ld x2 r0_4 (ix3 (0 : Fin 1) k f) : EReal) = x2 (ix3 0 k ⟨512 + f.val, by omega⟩) := by
  refine congrArg x2 (funext fun a => Fin.ext ?_)
  match a with
  | ⟨0, _⟩ => rfl
  | ⟨1, _⟩ => show 0 + 1 * k.val = k.val; omega
  | ⟨2, _⟩ => show 512 + 1 * f.val = 512 + f.val; omega
theorem out4_apply (r : Fin 512) (f : Fin 512) :
    (out0_4 x0 x1 x2 (ix2 r f) : EReal) = projAt (fun k => x0 (ix2 r k)) (fun k => x1 (ix3 0 0 k)) (fun k => x2 (ix3 0 k ⟨512 + f.val, by omega⟩)) := by
  unfold out0_4
  rw [View.canon_unit_zero (by decide), View.ld_unit_zero (S := S512x1024) (by decide), View.ld_unit_zero (S := S1x1x1024) (by decide)]
  unfold projAt
  simp only [← norm_apply, ← cols4]
  generalize View.ld x2 r0_4 = y
  unfold k0_pay4
  generalize k0_pay2 (F := Ideal) x0 x1 = h
  pointwise []

/-- The columns that this part of the product takes. -/
theorem cols5 (k : Fin 1024) (f : Fin 512) : (View.ld x2 r0_5 (ix3 (0 : Fin 1) k f) : EReal) = x2 (ix3 0 k ⟨1024 + f.val, by omega⟩) := by
  refine congrArg x2 (funext fun a => Fin.ext ?_)
  match a with
  | ⟨0, _⟩ => rfl
  | ⟨1, _⟩ => show 0 + 1 * k.val = k.val; omega
  | ⟨2, _⟩ => show 1024 + 1 * f.val = 1024 + f.val; omega
theorem out5_apply (r : Fin 512) (f : Fin 512) :
    (out0_5 x0 x1 x2 (ix2 r f) : EReal) = projAt (fun k => x0 (ix2 r k)) (fun k => x1 (ix3 0 0 k)) (fun k => x2 (ix3 0 k ⟨1024 + f.val, by omega⟩)) := by
  unfold out0_5
  rw [View.canon_unit_zero (by decide), View.ld_unit_zero (S := S512x1024) (by decide), View.ld_unit_zero (S := S1x1x1024) (by decide)]
  unfold projAt
  simp only [← norm_apply, ← cols5]
  generalize View.ld x2 r0_5 = y
  unfold k0_pay5
  generalize k0_pay2 (F := Ideal) x0 x1 = h
  pointwise []

/-- The columns that this part of the product takes. -/
theorem cols6 (k : Fin 1024) (f : Fin 1792) : (View.ld x2 r0_6 (ix3 (0 : Fin 1) k f) : EReal) = x2 (ix3 0 k ⟨1536 + f.val, by omega⟩) := by
  refine congrArg x2 (funext fun a => Fin.ext ?_)
  match a with
  | ⟨0, _⟩ => rfl
  | ⟨1, _⟩ => show 0 + 1 * k.val = k.val; omega
  | ⟨2, _⟩ => show 1536 + 1 * f.val = 1536 + f.val; omega
theorem out6_apply (r : Fin 512) (f : Fin 1792) :
    (out0_6 x0 x1 x2 (ix2 r f) : EReal) = projAt (fun k => x0 (ix2 r k)) (fun k => x1 (ix3 0 0 k)) (fun k => x2 (ix3 0 k ⟨1536 + f.val, by omega⟩)) := by
  unfold out0_6
  rw [View.canon_unit_zero (by decide), View.ld_unit_zero (S := S512x1024) (by decide), View.ld_unit_zero (S := S1x1x1024) (by decide)]
  unfold projAt
  simp only [← norm_apply, ← cols6]
  generalize View.ld x2 r0_6 = y
  unfold k0_pay1
  generalize k0_pay2 (F := Ideal) x0 x1 = h
  pointwise []

end Cert.Dense.SampleQkv

end
-- ==== Proof.SampleQkv.Array.lean ====
/-
  What the result arrays of the sample rows' projection hold after the grid: the columns of every row's norm against the weights.
-/
module

public import proofs.«01_k».proof.Proof.SampleQkv.Block
public import Idealize.ShloMosaic.Lib.StableHlo.ReadAt

@[expose] public section

set_option maxRecDepth 65536

noncomputable section

namespace Cert.Dense.SampleQkv

open Idealize.ShloMosaic Idealize.ShloMosaic.TcCoe Idealize.ShloMosaic.Tactic Cert.Dense
open Cert.SampleQkvIdeal Cert.SampleQkvIdeal.Gen

section
variable (x : Vec Ideal S512x1024 .f32) (w : Vec Ideal S4x1024 .f32) (W : Vec Ideal S4x1024x8456 .f32)
/-- Row `r` against column `f` of the first layer's weights. -/
def entry (r : Fin 512) (f : Fin 8456) : EReal := projAt (fun k => x (ix2 r k)) (fun k => w (ix2 0 k)) (fun k => W (ix3 0 k f))
/-- The queries. -/
def arr3 : Vec Ideal S512x512 .f32 := fun y => entry x w W (y 0) ⟨0 + (y 1).val, by have : (y 1).val < 512 := (y 1).isLt; omega⟩
/-- The keys. -/
def arr4 : Vec Ideal S512x512 .f32 := fun y => entry x w W (y 0) ⟨512 + (y 1).val, by have : (y 1).val < 512 := (y 1).isLt; omega⟩
/-- The values. -/
def arr5 : Vec Ideal S512x512 .f32 := fun y => entry x w W (y 0) ⟨1024 + (y 1).val, by have : (y 1).val < 512 := (y 1).isLt; omega⟩
/-- The other recurrence's inputs. -/
def arr6 : Vec Ideal S512x1792 .f32 := fun y => entry x w W (y 0) ⟨1536 + (y 1).val, by have : (y 1).val < 1792 := (y 1).isLt; omega⟩
end

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem N_lt (t : Fin cfg0.N) : t.val < 1 := t.isLt

variable (m : (ℓ : Loc nD τ sig) → Buf (Elt Ideal) ℓ) (c : Dev nD)

abbrev a0 : Vec Ideal S512x1024 .f32 := m ((c : Thread nD τ).loc main_arg0)
abbrev a1 : Vec Ideal S4x1024 .f32 := m ((c : Thread nD τ).loc main_arg1)
abbrev a2 : Vec Ideal S4x1024x8456 .f32 := m ((c : Thread nD τ).loc main_arg2)

/-- The row of the array a point's row `r` is. -/
def rowOf (t : Fin cfg0.N) (r : Fin 512) : Fin 512 := ⟨t.val * 512 + r.val, by have := N_lt t; omega⟩

/-- The normalization's weights with an axis put in. -/
theorem v2_at (k : Fin 1024) : (V m c main_v2 (ix3 (0 : Fin 4) (0 : Fin 1) k) : EReal) = a1 m c (ix2 0 k) := by
  unfold V; after_reads_at
/-- The weights' columns as the call takes them. -/
theorem v1_at (k : Fin 1024) (f : Fin 3328) :
    (V m c main_v1 (ix3 (0 : Fin 4) k f) : EReal) = a2 m c (ix3 0 k ⟨f.val, by omega⟩) := by
  unfold V; after_reads_at
theorem iblk0 (t : Fin cfg0.N) (r : Fin 512) (k : Fin 1024) :
    (iblk m c 0 t (ix2 r k) : EReal) = a0 m c (ix2 (rowOf t r) k) := by
  unfold iblk
  rw [View.read_apply]
  refine (congrFun (V_main_arg0 m c) _).trans (congrArg (a0 m c) (funext fun a => Fin.ext ?_))
  match a with
  | ⟨0, _⟩ => show win0_0.index t 0 * 512 + 1 * r.val = t.val * 512 + r.val; rw [(index0 t).1, Nat.one_mul]
  | ⟨1, _⟩ => show win0_0.index t 1 * 1024 + 1 * k.val = k.val; rw [(index0 t).2]; omega
theorem iblk1 (t : Fin cfg0.N) (k : Fin 1024) : (iblk m c 1 t (ix3 (0 : Fin 1) (0 : Fin 1) k) : EReal) = a1 m c (ix2 0 k) := by
  refine Eq.trans ?_ (v2_at m c k)
  unfold iblk
  rw [View.read_apply]
  refine congrArg (V m c main_v2) (funext fun a => Fin.ext ?_)
  match a with
  | ⟨0, _⟩ => show win0_1.index t 0 * 1 + 1 * 0 = 0; rw [(index1 t).1]
  | ⟨1, _⟩ => show win0_1.index t 1 * 1 + 1 * 0 = 0; rw [(index1 t).2.1]
  | ⟨2, _⟩ => show win0_1.index t 2 * 1024 + 1 * k.val = k.val; rw [(index1 t).2.2]; omega
theorem iblk2 (t : Fin cfg0.N) (k : Fin 1024) (f : Fin 3328) : (iblk m c 2 t (ix3 (0 : Fin 1) k f) : EReal) = a2 m c (ix3 0 k ⟨f.val, by omega⟩) := by
  refine Eq.trans ?_ (v1_at m c k f)
  unfold iblk
  rw [View.read_apply]
  refine congrArg (V m c main_v1) (funext fun a => Fin.ext ?_)
  match a with
  | ⟨0, _⟩ => show win0_2.index t 0 * 1 + 1 * 0 = 0; rw [(index2 t).1]
  | ⟨1, _⟩ => show win0_2.index t 1 * 1024 + 1 * k.val = k.val; rw [(index2 t).2.1]; omega
  | ⟨2, _⟩ => show win0_2.index t 2 * 3328 + 1 * f.val = f.val; rw [(index2 t).2.2]; omega

theorem prod_eq (t : Fin cfg0.N) (r : Fin 512) (f : Fin 3328) :
    projAt (fun k => iblk m c 0 t (ix2 r k)) (fun k => iblk m c 1 t (ix3 0 0 k)) (fun k => iblk m c 2 t (ix3 0 k f)) = entry (a0 m c) (a1 m c) (a2 m c) (rowOf t r) ⟨f.val, by omega⟩ := by
  simp only [iblk0, iblk1, iblk2]
  rfl

/-- What a point writes back of result 0 is its block. -/
theorem flushed3_eq (t : Fin cfg0.N) :
    (dats m 0 c).flushed 3 t = ((cfg0.win 3).blk t).view.read (Elt Ideal) (arr3 (a0 m c) (a1 m c) (a2 m c)) := by
  show (cfg0.win 3).cut (grid0.coords t) ((dats m 0 c).after 3 t) = _
  rw [after0_3]
  refine ext2 (n0 := 512) (n1 := 512) fun r f => ?_
  refine Eq.trans ((out3_apply (iblk m c 0 t) (iblk m c 1 t) (iblk m c 2 t) r f).trans (prod_eq m c t r _)) ?_
  rw [View.read_apply]
  refine Eq.trans (?_ : _ = arr3 (a0 m c) (a1 m c) (a2 m c) (ix2 (rowOf t r) f)) (congrArg (arr3 (a0 m c) (a1 m c) (a2 m c)) (funext fun a => Fin.ext ?_))
  · rfl
  match a with
  | ⟨0, _⟩ => show _ = win0_3.index t 0 * 512 + 1 * r.val; rw [(index3 t).1, Nat.one_mul]; rfl
  | ⟨1, _⟩ => show _ = win0_3.index t 1 * 512 + 1 * f.val; rw [(index3 t).2, Nat.one_mul, Nat.zero_mul, Nat.zero_add]; rfl

theorem final3 : (dats m 0 c).arrAt 3 cfg0.N = arr3 (a0 m c) (a1 m c) (a2 m c) :=
  (dats m 0 c).arrAt_eq_of_cover 3 _ (fun t _ => flushed3_eq m c t) fun i => by
    have h0 : (i 0 : Nat) < 512 := (i 0).isLt
    have h1 : (i 1 : Nat) < 512 := (i 1).isLt
    have hN : (i 0 : Nat) / 512 < 1 := by omega
    let t : Fin cfg0.N := ⟨_, hN⟩
    refine ⟨t, flush0_3 t, ?_⟩
    show i ∈ ((View.whole main_v3_0).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [(index3 t).1]; dsimp only [t]; omega
    | ⟨1, _⟩ =>
      show win0_3.index t 1 * 512 ≤ (i 1 : Nat) ∧ (i 1 : Nat) < win0_3.index t 1 * 512 + 512
      rw [(index3 t).2]; omega

/-- What a point writes back of result 1 is its block. -/
theorem flushed4_eq (t : Fin cfg0.N) :
    (dats m 0 c).flushed 4 t = ((cfg0.win 4).blk t).view.read (Elt Ideal) (arr4 (a0 m c) (a1 m c) (a2 m c)) := by
  show (cfg0.win 4).cut (grid0.coords t) ((dats m 0 c).after 4 t) = _
  rw [after0_4]
  refine ext2 (n0 := 512) (n1 := 512) fun r f => ?_
  refine Eq.trans ((out4_apply (iblk m c 0 t) (iblk m c 1 t) (iblk m c 2 t) r f).trans (prod_eq m c t r _)) ?_
  rw [View.read_apply]
  refine Eq.trans (?_ : _ = arr4 (a0 m c) (a1 m c) (a2 m c) (ix2 (rowOf t r) f)) (congrArg (arr4 (a0 m c) (a1 m c) (a2 m c)) (funext fun a => Fin.ext ?_))
  · rfl
  match a with
  | ⟨0, _⟩ => show _ = win0_4.index t 0 * 512 + 1 * r.val; rw [(index4 t).1, Nat.one_mul]; rfl
  | ⟨1, _⟩ => show _ = win0_4.index t 1 * 512 + 1 * f.val; rw [(index4 t).2, Nat.one_mul, Nat.zero_mul, Nat.zero_add]; rfl

theorem final4 : (dats m 0 c).arrAt 4 cfg0.N = arr4 (a0 m c) (a1 m c) (a2 m c) :=
  (dats m 0 c).arrAt_eq_of_cover 4 _ (fun t _ => flushed4_eq m c t) fun i => by
    have h0 : (i 0 : Nat) < 512 := (i 0).isLt
    have h1 : (i 1 : Nat) < 512 := (i 1).isLt
    have hN : (i 0 : Nat) / 512 < 1 := by omega
    let t : Fin cfg0.N := ⟨_, hN⟩
    refine ⟨t, flush0_4 t, ?_⟩
    show i ∈ ((View.whole main_v3_1).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index4 t).1]; dsimp only [t]; omega
    | ⟨1, _⟩ =>
      show win0_4.index t 1 * 512 ≤ (i 1 : Nat) ∧ (i 1 : Nat) < win0_4.index t 1 * 512 + 512
      rw [(index4 t).2]; omega

/-- What a point writes back of result 2 is its block. -/
theorem flushed5_eq (t : Fin cfg0.N) :
    (dats m 0 c).flushed 5 t = ((cfg0.win 5).blk t).view.read (Elt Ideal) (arr5 (a0 m c) (a1 m c) (a2 m c)) := by
  show (cfg0.win 5).cut (grid0.coords t) ((dats m 0 c).after 5 t) = _
  rw [after0_5]
  refine ext2 (n0 := 512) (n1 := 512) fun r f => ?_
  refine Eq.trans ((out5_apply (iblk m c 0 t) (iblk m c 1 t) (iblk m c 2 t) r f).trans (prod_eq m c t r _)) ?_
  rw [View.read_apply]
  refine Eq.trans (?_ : _ = arr5 (a0 m c) (a1 m c) (a2 m c) (ix2 (rowOf t r) f)) (congrArg (arr5 (a0 m c) (a1 m c) (a2 m c)) (funext fun a => Fin.ext ?_))
  · rfl
  match a with
  | ⟨0, _⟩ => show _ = win0_5.index t 0 * 512 + 1 * r.val; rw [(index5 t).1, Nat.one_mul]; rfl
  | ⟨1, _⟩ => show _ = win0_5.index t 1 * 512 + 1 * f.val; rw [(index5 t).2, Nat.one_mul, Nat.zero_mul, Nat.zero_add]; rfl

theorem final5 : (dats m 0 c).arrAt 5 cfg0.N = arr5 (a0 m c) (a1 m c) (a2 m c) :=
  (dats m 0 c).arrAt_eq_of_cover 5 _ (fun t _ => flushed5_eq m c t) fun i => by
    have h0 : (i 0 : Nat) < 512 := (i 0).isLt
    have h1 : (i 1 : Nat) < 512 := (i 1).isLt
    have hN : (i 0 : Nat) / 512 < 1 := by omega
    let t : Fin cfg0.N := ⟨_, hN⟩
    refine ⟨t, flush0_5 t, ?_⟩
    show i ∈ ((View.whole main_v3_2).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index5 t).1]; dsimp only [t]; omega
    | ⟨1, _⟩ =>
      show win0_5.index t 1 * 512 ≤ (i 1 : Nat) ∧ (i 1 : Nat) < win0_5.index t 1 * 512 + 512
      rw [(index5 t).2]; omega

/-- What a point writes back of result 3 is its block. -/
theorem flushed6_eq (t : Fin cfg0.N) :
    (dats m 0 c).flushed 6 t = ((cfg0.win 6).blk t).view.read (Elt Ideal) (arr6 (a0 m c) (a1 m c) (a2 m c)) := by
  show (cfg0.win 6).cut (grid0.coords t) ((dats m 0 c).after 6 t) = _
  rw [after0_6]
  refine ext2 (n0 := 512) (n1 := 1792) fun r f => ?_
  refine Eq.trans ((out6_apply (iblk m c 0 t) (iblk m c 1 t) (iblk m c 2 t) r f).trans (prod_eq m c t r _)) ?_
  rw [View.read_apply]
  refine Eq.trans (?_ : _ = arr6 (a0 m c) (a1 m c) (a2 m c) (ix2 (rowOf t r) f)) (congrArg (arr6 (a0 m c) (a1 m c) (a2 m c)) (funext fun a => Fin.ext ?_))
  · rfl
  match a with
  | ⟨0, _⟩ => show _ = win0_6.index t 0 * 512 + 1 * r.val; rw [(index6 t).1, Nat.one_mul]; rfl
  | ⟨1, _⟩ => show _ = win0_6.index t 1 * 1792 + 1 * f.val; rw [(index6 t).2, Nat.one_mul, Nat.zero_mul, Nat.zero_add]; rfl

theorem final6 : (dats m 0 c).arrAt 6 cfg0.N = arr6 (a0 m c) (a1 m c) (a2 m c) :=
  (dats m 0 c).arrAt_eq_of_cover 6 _ (fun t _ => flushed6_eq m c t) fun i => by
    have h0 : (i 0 : Nat) < 512 := (i 0).isLt
    have h1 : (i 1 : Nat) < 1792 := (i 1).isLt
    have hN : (i 0 : Nat) / 512 < 1 := by omega
    let t : Fin cfg0.N := ⟨_, hN⟩
    refine ⟨t, flush0_6 t, ?_⟩
    show i ∈ ((View.whole main_v3_3).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(index6 t).1]; dsimp only [t]; omega
    | ⟨1, _⟩ =>
      show win0_6.index t 1 * 1792 ≤ (i 1 : Nat) ∧ (i 1 : Nat) < win0_6.index t 1 * 1792 + 1792
      rw [(index6 t).2]; omega

/-- The rows by sequence, position and head. -/
def heads (x : Vec Ideal S512x512 .f32) : Vec Ideal S128x4x8x64 .f32 := shapeCast S128x4x8x64 x shapeCasts_S512x512_S128x4x8x64

/-- The last position's row of every sequence. -/
def lastRows (x : Vec Ideal S512x1792 .f32) : Vec Ideal S128x1792 .f32 :=
  shapeCast S128x1792 (extractStridedSlice S128x1x1792 ![0, 3, 0] (shapeCast S128x4x1792 x shapeCasts_S512x1792_S128x4x1792)
    slices_S128x4x1792_S128x1x1792_0_3_0) shapeCasts_S128x1x1792_S128x1792

/-- What the host code after the call leaves of the keys. -/
theorem heads4 : Pipeline.afterTail₀ cfgs (dats m) 0 (V0 m) [hostOps1] c main_v4 = heads ((dats m 0 c).arrAt 4 cfg0.N) := by
  rw [← Pipeline.withArrays_arr spec0 winFacts0.arr_inj c (V0 m c) (fun w => (dats m 0 c).arrAt w cfg0.N) 4]
  unfold Pipeline.afterTail₀
  after_results_simp
  rfl

/-- What it leaves of the values. -/
theorem heads5 : Pipeline.afterTail₀ cfgs (dats m) 0 (V0 m) [hostOps1] c main_v5 = heads ((dats m 0 c).arrAt 5 cfg0.N) := by
  rw [← Pipeline.withArrays_arr spec0 winFacts0.arr_inj c (V0 m c) (fun w => (dats m 0 c).arrAt w cfg0.N) 5]
  unfold Pipeline.afterTail₀
  after_results_simp
  rfl

/-- What it leaves of the last result. -/
theorem last : Pipeline.afterTail₀ cfgs (dats m) 0 (V0 m) [hostOps1] c main_v8 = lastRows ((dats m 0 c).arrAt 6 cfg0.N) := by
  rw [← Pipeline.withArrays_arr spec0 winFacts0.arr_inj c (V0 m c) (fun w => (dats m 0 c).arrAt w cfg0.N) 6]
  unfold Pipeline.afterTail₀
  after_results_simp
  rfl

end Cert.Dense.SampleQkv

end
-- ==== Proof.SampleQkv.Reference.lean ====
/-
  What the reference of the sample rows' projection computes, read at an index.
-/
module

public import proofs.«01_k».proof.Proof.SampleQkv.Array
public import proofs.«01_k».proof.Proof.Gen.SampleQkvRefIdeal.Read

@[expose] public section

set_option maxRecDepth 65536

noncomputable section

namespace Cert.Dense.SampleQkv

open Idealize.ShloMosaic Idealize.ShloMosaic.TcCoe Idealize.ShloMosaic.Tactic Cert.Dense
open Cert.SampleQkvRefIdeal Cert.SampleQkvRefIdeal.Read

variable (x0 : Vec Ideal S512x1024 .f32) (x1 : Vec Ideal S4x1024 .f32) (x2 : Vec Ideal S4x1024x8456 .f32)

/-- The normalized rows. -/
theorem norm_read (r : Fin 512) (k : Fin 1024) :
    (val_main_v14 (F := Ideal) x0 x1 (ix2 r k) : EReal) = rmsRow (fun k => x0 (ix2 r k)) (fun k => x1 (ix2 0 k)) k := by
  unfold rmsRow
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The product with all the weights. -/
theorem entry_read (r : Fin 512) (f : Fin 8456) :
    (val_main_v17 (F := Ideal) x0 x1 x2 (ix2 r f) : EReal) = entry x0 x1 x2 r f := by
  unfold entry projAt
  simp only [← norm_read]
  generalize h : val_main_v14 (F := Ideal) x0 x1 = y
  unfold val_main_v17
  rw [h]
  pointwise [val_main_v16, val_main_v15]

theorem ref3 : val_main_v19 (F := Ideal) x0 x1 x2 = arr3 x0 x1 x2 := by
  refine ext2 (n0 := 512) (n1 := 512) fun r f => ?_
  refine Eq.trans ?_ (entry_read x0 x1 x2 r ⟨0 + f.val, by omega⟩)
  unfold val_main_v19 val_main_v18
  generalize val_main_v17 (F := Ideal) x0 x1 x2 = y
  pointwise []

theorem ref4 : val_main_v20 (F := Ideal) x0 x1 x2 = arr4 x0 x1 x2 := by
  refine ext2 (n0 := 512) (n1 := 512) fun r f => ?_
  refine Eq.trans ?_ (entry_read x0 x1 x2 r ⟨512 + f.val, by omega⟩)
  unfold val_main_v20 val_main_v18
  generalize val_main_v17 (F := Ideal) x0 x1 x2 = y
  pointwise []

theorem ref5 : val_main_v21 (F := Ideal) x0 x1 x2 = arr5 x0 x1 x2 := by
  refine ext2 (n0 := 512) (n1 := 512) fun r f => ?_
  refine Eq.trans ?_ (entry_read x0 x1 x2 r ⟨1024 + f.val, by omega⟩)
  unfold val_main_v21 val_main_v18
  generalize val_main_v17 (F := Ideal) x0 x1 x2 = y
  pointwise []

theorem ref6 : val_main_v22 (F := Ideal) x0 x1 x2 = arr6 x0 x1 x2 := by
  refine ext2 (n0 := 512) (n1 := 1792) fun r f => ?_
  refine Eq.trans ?_ (entry_read x0 x1 x2 r ⟨1536 + f.val, by omega⟩)
  unfold val_main_v22 val_main_v18
  generalize val_main_v17 (F := Ideal) x0 x1 x2 = y
  pointwise []

/-! The reference takes the heads and the last rows by the same steps. -/

theorem ref_heads4 : val_main_v23 (F := Ideal) x0 x1 x2 = heads (arr4 x0 x1 x2) := by
  rw [← ref4]
  rfl
theorem ref_heads5 : val_main_v24 (F := Ideal) x0 x1 x2 = heads (arr5 x0 x1 x2) := by
  rw [← ref5]
  rfl
theorem ref_last : val_main_v27 (F := Ideal) x0 x1 x2 = lastRows (arr6 x0 x1 x2) := by
  rw [← ref6]
  rfl

end Cert.Dense.SampleQkv

end
-- ==== Proof.SampleQkv.Claims.lean ====
/-
  The five claims of the projection of the sample rows.
-/
module

public import proofs.«01_k».proof.Defs
public import proofs.«01_k».proof.Proof.SampleQkv.Reference
public import proofs.«01_k».proof.Proof.Gen.SampleQkv.Frame
public import proofs.«01_k».proof.Proof.Gen.SampleQkvIdeal.Frame
public import proofs.«01_k».proof.Proof.Gen.SampleQkvRefIdeal.Run

@[expose] public section

set_option maxRecDepth 65536

noncomputable section

namespace Cert.Dense.SampleQkv

open Idealize.ShloMosaic Idealize.ShloMosaic.TcCoe Idealize.SL.Sem

/-- The kernel runs, keeps its arguments and leaves the machine quiet. -/
theorem frame_p : Cert.quiescent_SampleQkv := fun m ρ _ => Cert.SampleQkv.Gen.frame m ρ

/-- So does the kernel over the extended reals. -/
theorem frame_pi : Cert.quiescent_SampleQkvIdeal := fun m ρ _ => Cert.SampleQkvIdeal.Gen.frame m ρ

/-- So does the reference. -/
theorem frame_ri : Cert.quiescent_SampleQkvRefIdeal := fun m ρ _ =>
  (θ_run Cert.SampleQkvRefIdeal.defs _ _).mono
    (fun r h => ⟨fun c => (h c).2.2.2.2.2, sem_eq_zero_of_no_sems (by decide) r.2⟩)
    (Cert.SampleQkvRefIdeal.Value.run (F := Ideal) m ρ)

theorem preserves : Cert.preserves_SampleQkv_SampleQkvIdeal := trivial

/-- What the kernel's run leaves: the arrays of the call, and what the host code after the call makes of them. -/
theorem run (m : (ℓ : Loc Cert.SampleQkvIdeal.nD Cert.SampleQkvIdeal.τ Cert.SampleQkvIdeal.sig) → Buf (Elt Ideal) ℓ) (ρ : Dev Cert.SampleQkvIdeal.nD → PrngReg) :
    θ_run (Cert.SampleQkvIdeal.defs (F := Ideal)) (onTc (τ := Cert.SampleQkvIdeal.τ) (Cert.SampleQkvIdeal.main (F := Ideal))) ⟨m, fun _ => 0, ρ⟩ fun r => ∀ c : Dev Cert.SampleQkvIdeal.nD,
      r.2.mem ((c.tc : Thread Cert.SampleQkvIdeal.nD Cert.SampleQkvIdeal.τ).loc Cert.SampleQkvIdeal.main_v3_0) = (Cert.SampleQkvIdeal.Gen.dats m 0 c).arrAt 3 Cert.SampleQkvIdeal.cfg0.N
      ∧ r.2.mem ((c.tc : Thread Cert.SampleQkvIdeal.nD Cert.SampleQkvIdeal.τ).loc Cert.SampleQkvIdeal.main_v4) = heads ((Cert.SampleQkvIdeal.Gen.dats m 0 c).arrAt 4 Cert.SampleQkvIdeal.cfg0.N)
      ∧ r.2.mem ((c.tc : Thread Cert.SampleQkvIdeal.nD Cert.SampleQkvIdeal.τ).loc Cert.SampleQkvIdeal.main_v5) = heads ((Cert.SampleQkvIdeal.Gen.dats m 0 c).arrAt 5 Cert.SampleQkvIdeal.cfg0.N)
      ∧ r.2.mem ((c.tc : Thread Cert.SampleQkvIdeal.nD Cert.SampleQkvIdeal.τ).loc Cert.SampleQkvIdeal.main_v3_3) = (Cert.SampleQkvIdeal.Gen.dats m 0 c).arrAt 6 Cert.SampleQkvIdeal.cfg0.N
      ∧ r.2.mem ((c.tc : Thread Cert.SampleQkvIdeal.nD Cert.SampleQkvIdeal.τ).loc Cert.SampleQkvIdeal.main_v8) = lastRows ((Cert.SampleQkvIdeal.Gen.dats m 0 c).arrAt 6 Cert.SampleQkvIdeal.cfg0.N)
      ∧ r.2.mem ((c.tc : Thread Cert.SampleQkvIdeal.nD Cert.SampleQkvIdeal.τ).loc Cert.SampleQkvIdeal.main_arg0) = m ((c.tc : Thread Cert.SampleQkvIdeal.nD Cert.SampleQkvIdeal.τ).loc Cert.SampleQkvIdeal.main_arg0)
      ∧ r.2.mem ((c.tc : Thread Cert.SampleQkvIdeal.nD Cert.SampleQkvIdeal.τ).loc Cert.SampleQkvIdeal.main_arg1) = m ((c.tc : Thread Cert.SampleQkvIdeal.nD Cert.SampleQkvIdeal.τ).loc Cert.SampleQkvIdeal.main_arg1)
      ∧ r.2.mem ((c.tc : Thread Cert.SampleQkvIdeal.nD Cert.SampleQkvIdeal.τ).loc Cert.SampleQkvIdeal.main_arg2) = m ((c.tc : Thread Cert.SampleQkvIdeal.nD Cert.SampleQkvIdeal.τ).loc Cert.SampleQkvIdeal.main_arg2) :=
  (θ_run Cert.SampleQkvIdeal.defs _ _).mono (fun r h c => ⟨(h.1 c).1 3, ((h.1 c).2 Cert.SampleQkvIdeal.main_v4 (Pipeline.mem_restRefs_of Cert.SampleQkvIdeal.main_v4 (by decide) (by decide))).trans (heads4 m c), ((h.1 c).2 Cert.SampleQkvIdeal.main_v5 (Pipeline.mem_restRefs_of Cert.SampleQkvIdeal.main_v5 (by decide) (by decide))).trans (heads5 m c), (h.1 c).1 6, ((h.1 c).2 Cert.SampleQkvIdeal.main_v8 (Pipeline.mem_restRefs_of Cert.SampleQkvIdeal.main_v8 (by decide) (by decide))).trans (last m c), h.2 c⟩)
    (θ_run_and (Cert.SampleQkvIdeal.Gen.run_main m ρ) (Cert.SampleQkvIdeal.Gen.unchanged m ρ))

/-- On the same arguments the kernel and the reference end with the same arrays. -/
theorem algebraic : Cert.algebraic_SampleQkvIdeal_SampleQkvRefIdeal := by
  intro m ρ m' ρ' _ hagree
  refine ⟨fun c => (Cert.SampleQkvIdeal.Gen.dats m 0 c).arrAt 3 Cert.SampleQkvIdeal.cfg0.N, fun c => heads ((Cert.SampleQkvIdeal.Gen.dats m 0 c).arrAt 4 Cert.SampleQkvIdeal.cfg0.N), fun c => heads ((Cert.SampleQkvIdeal.Gen.dats m 0 c).arrAt 5 Cert.SampleQkvIdeal.cfg0.N), fun c => (Cert.SampleQkvIdeal.Gen.dats m 0 c).arrAt 6 Cert.SampleQkvIdeal.cfg0.N, fun c => lastRows ((Cert.SampleQkvIdeal.Gen.dats m 0 c).arrAt 6 Cert.SampleQkvIdeal.cfg0.N), run m ρ, ?_⟩
  refine (θ_run Cert.SampleQkvRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.SampleQkvRefIdeal.Value.run (F := Ideal) m' ρ')
  all_goals obtain ⟨h0, h1, h2⟩ := hagree c
  · rw [Cert.SampleQkvRefIdeal.Read.val_main_v19_eq, h0, h1, h2]
    exact (ref3 _ _ _).trans (final3 m c).symm
  · rw [Cert.SampleQkvRefIdeal.Read.val_main_v23_eq, h0, h1, h2]
    exact (ref_heads4 _ _ _).trans (congrArg heads (final4 m c).symm)
  · rw [Cert.SampleQkvRefIdeal.Read.val_main_v24_eq, h0, h1, h2]
    exact (ref_heads5 _ _ _).trans (congrArg heads (final5 m c).symm)
  · rw [Cert.SampleQkvRefIdeal.Read.val_main_v22_eq, h0, h1, h2]
    exact (ref6 _ _ _).trans (final6 m c).symm
  · rw [Cert.SampleQkvRefIdeal.Read.val_main_v27_eq, h0, h1, h2]
    exact (ref_last _ _ _).trans (congrArg lastRows (final6 m c).symm)

end Cert.Dense.SampleQkv

end
-- ==== Proof.SampleNorm.Array.lean ====
/-
  What the result array of the final norm of the sample rows holds after the grid: the norm of every row.
-/
module

public import proofs.«01_k».proof.Proof.Dense.Rows
public import proofs.«01_k».proof.Proof.Gen.SampleNormIdeal.Value
public import Idealize.ShloMosaic.Lib.StableHlo.ReadAt

@[expose] public section

set_option maxRecDepth 65536

noncomputable section

namespace Cert.Dense.SampleNorm

open Idealize.ShloMosaic Idealize.ShloMosaic.TcCoe Idealize.ShloMosaic.Tactic Cert.Dense
open Cert.SampleNormIdeal Cert.SampleNormIdeal.Gen

/-- The stored block, at row `r` and column `c`, is the norm of row `r`. -/
theorem out_apply (x0 : Vec Ideal S512x1024 .f32) (x1 : Vec Ideal S1x1024 .f32) (r : Fin 512) (c : Fin 1024) :
    (out0_2 x0 x1 (ix2 r c) : EReal) = rmsRow (fun k => x0 (ix2 r k)) (fun k => x1 (ix2 0 k)) c := by
  unfold out0_2
  rw [View.canon_unit_zero (by decide), View.ld_unit_zero (by decide), View.ld_unit_zero (by decide)]
  unfold rmsRow
  pointwise [k0_pay1]

/-- The norm as an array. -/
def normArr (x : Vec Ideal S512x1024 .f32) (w : Vec Ideal S1024 .f32) : Vec Ideal S512x1024 .f32 := fun y =>
  rmsRow (fun k => x (ix2 (y 0) k)) (fun k => w (ix1 k)) (y 1)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem N_lt (t : Fin cfg0.N) : t.val < 1 := t.isLt

variable (m : (ℓ : Loc nD τ sig) → Buf (Elt Ideal) ℓ) (c : Dev nD)

abbrev a0 : Vec Ideal S512x1024 .f32 := m ((c : Thread nD τ).loc main_arg0)
abbrev a1 : Vec Ideal S1024 .f32 := m ((c : Thread nD τ).loc main_arg1)

/-- The row of the array a point's row `r` is. -/
def rowOf (t : Fin cfg0.N) (r : Fin 512) : Fin 512 := ⟨t.val * 512 + r.val, by have := N_lt t; omega⟩

theorem v0_at (k : Fin 1024) : (V m c main_v0 (ix2 (0 : Fin 1) k) : EReal) = a1 m c (ix1 k) := by
  unfold V; after_reads_at
theorem iblk0 (t : Fin cfg0.N) (r : Fin 512) (k : Fin 1024) :
    (iblk m c 0 t (ix2 r k) : EReal) = a0 m c (ix2 (rowOf t r) k) := by
  unfold iblk
  rw [View.read_apply]
  refine (congrFun (V_main_arg0 m c) _).trans (congrArg (a0 m c) (funext fun a => Fin.ext ?_))
  match a with
  | ⟨0, _⟩ => show win0_0.index t 0 * 512 + 1 * r.val = t.val * 512 + r.val; rw [(index0 t).1, Nat.one_mul]
  | ⟨1, _⟩ => show win0_0.index t 1 * 1024 + 1 * k.val = k.val; rw [(index0 t).2]; omega
theorem iblk1 (t : Fin cfg0.N) (k : Fin 1024) : (iblk m c 1 t (ix2 (0 : Fin 1) k) : EReal) = a1 m c (ix1 k) := by
  refine Eq.trans ?_ (v0_at m c k)
  unfold iblk
  rw [View.read_apply]
  refine congrArg (V m c main_v0) (funext fun a => Fin.ext ?_)
  match a with
  | ⟨0, _⟩ => show win0_1.index t 0 * 1 + 1 * 0 = 0; rw [(index1 t).1]
  | ⟨1, _⟩ => show win0_1.index t 1 * 1024 + 1 * k.val = k.val; rw [(index1 t).2]; omega

/-- What a point writes back is its block of the norm. -/
theorem flushed_eq (t : Fin cfg0.N) :
    (dats m 0 c).flushed 2 t = ((cfg0.win 2).blk t).view.read (Elt Ideal) (normArr (a0 m c) (a1 m c)) := by
  rw [Cert.SampleNormIdeal.Value.flushed2]
  refine ext2 (n0 := 512) (n1 := 1024) fun r k => ?_
  have e : (out0_2 (iblk m c 0 t) (iblk m c 1 t) (ix2 r k) : EReal) = normArr (a0 m c) (a1 m c) (ix2 (rowOf t r) k) := by
    rw [out_apply]
    simp only [iblk0, iblk1]
    rfl
  refine Eq.trans e ?_
  rw [View.read_apply]
  refine congrArg (normArr (a0 m c) (a1 m c)) (funext fun a => Fin.ext ?_)
  match a with
  | ⟨0, _⟩ => show _ = win0_2.index t 0 * 512 + 1 * r.val; rw [(index2 t).1, Nat.one_mul]; rfl
  | ⟨1, _⟩ => show _ = win0_2.index t 1 * 1024 + 1 * k.val; rw [(index2 t).2, Nat.one_mul, Nat.zero_mul, Nat.zero_add]; rfl

/-- After the grid the result array is the norm. -/
theorem final_out : (dats m 0 c).arrAt 2 cfg0.N = normArr (a0 m c) (a1 m c) :=
  (dats m 0 c).arrAt_eq_of_cover 2 _ (fun t _ => flushed_eq m c t) fun i => by
    have h0 : (i 0 : Nat) < 512 := (i 0).isLt
    have h1 : (i 1 : Nat) < 1024 := (i 1).isLt
    have hN : (i 0 : Nat) / 512 < 1 := by omega
    let t : Fin cfg0.N := ⟨_, hN⟩
    refine ⟨t, flush0_2 t, ?_⟩
    show i ∈ ((View.whole main_v1).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [(index2 t).1]; dsimp only [t]; omega
    | ⟨1, _⟩ =>
      show win0_2.index t 1 * 1024 ≤ (i 1 : Nat) ∧ (i 1 : Nat) < win0_2.index t 1 * 1024 + 1024
      rw [(index2 t).2]; omega

end Cert.Dense.SampleNorm

end
-- ==== Proof.SampleNorm.Reference.lean ====
/-
  What the reference of the final norm of the sample rows computes, read at an index.
-/
module

public import proofs.«01_k».proof.Proof.SampleNorm.Array
public import proofs.«01_k».proof.Proof.Gen.SampleNormRefIdeal.Read

@[expose] public section

set_option maxRecDepth 65536

noncomputable section

namespace Cert.Dense.SampleNorm

open Idealize.ShloMosaic Idealize.ShloMosaic.TcCoe Idealize.ShloMosaic.Tactic Cert.Dense
open Cert.SampleNormRefIdeal Cert.SampleNormRefIdeal.Read

/-- The reference's result is the norm. -/
theorem ref_read (x0 : Vec Ideal S512x1024 .f32) (x1 : Vec Ideal S1024 .f32) : val_main_v12 (F := Ideal) x0 x1 = normArr x0 x1 := by
  refine ext2 (n0 := 512) (n1 := 1024) fun r c => ?_
  unfold normArr rmsRow
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

end Cert.Dense.SampleNorm

end
-- ==== Proof.SampleNorm.Claims.lean ====
/-
  The five claims of the sample rows' final norm.
-/
module

public import proofs.«01_k».proof.Defs
public import proofs.«01_k».proof.Proof.SampleNorm.Reference
public import proofs.«01_k».proof.Proof.Gen.SampleNorm.Frame
public import proofs.«01_k».proof.Proof.Gen.SampleNormIdeal.Frame
public import proofs.«01_k».proof.Proof.Gen.SampleNormRefIdeal.Run

@[expose] public section

set_option maxRecDepth 65536

noncomputable section

namespace Cert.Dense.SampleNorm

open Idealize.ShloMosaic Idealize.ShloMosaic.TcCoe Idealize.SL.Sem

/-- The kernel runs, keeps its arguments and leaves the machine quiet. -/
theorem frame_p : Cert.quiescent_SampleNorm := fun m ρ _ => Cert.SampleNorm.Gen.frame m ρ

/-- So does the kernel over the extended reals. -/
theorem frame_pi : Cert.quiescent_SampleNormIdeal := fun m ρ _ => Cert.SampleNormIdeal.Gen.frame m ρ

/-- So does the reference. -/
theorem frame_ri : Cert.quiescent_SampleNormRefIdeal := fun m ρ _ =>
  (θ_run Cert.SampleNormRefIdeal.defs _ _).mono
    (fun r h => ⟨fun c => (h c).2, sem_eq_zero_of_no_sems (by decide) r.2⟩)
    (Cert.SampleNormRefIdeal.Value.run (F := Ideal) m ρ)

theorem preserves : Cert.preserves_SampleNorm_SampleNormIdeal := trivial

/-- On the same arguments the kernel and the reference end with the same array. -/
theorem algebraic : Cert.algebraic_SampleNormIdeal_SampleNormRefIdeal := by
  intro m ρ m' ρ' _ hagree
  refine ⟨fun c => (Cert.SampleNormIdeal.Gen.dats m 0 c).arrAt 2 Cert.SampleNormIdeal.cfg0.N, Cert.SampleNormIdeal.Value.run_blocks m ρ, ?_⟩
  refine (θ_run Cert.SampleNormRefIdeal.defs _ _).mono (fun _ h c => ⟨(h c).1.trans ?_, (h c).2⟩)
    (Cert.SampleNormRefIdeal.Value.run (F := Ideal) m' ρ')
  all_goals obtain ⟨h0, h1⟩ := hagree c
  rw [Cert.SampleNormRefIdeal.Read.val_main_v12_eq, h0, h1]
  exact (ref_read _ _).trans (final_out m c).symm

end Cert.Dense.SampleNorm

end
-- ==== Proof.SampleGates.Block.lean ====
/-
  What a grid step of the projection stores.
-/
module

public import proofs.«01_k».proof.Proof.Dense.Rows
public import proofs.«01_k».proof.Proof.Gen.SampleGatesIdeal.Frame

@[expose] public section

set_option maxRecDepth 65536

noncomputable section

namespace Cert.Dense.SampleGates

open Idealize.ShloMosaic Idealize.ShloMosaic.TcCoe Idealize.ShloMosaic.Tactic Cert.Dense
open Cert.SampleGatesIdeal Cert.SampleGatesIdeal.Gen

variable (x0 : Vec Ideal S512x1024 .f32) (x1 : Vec Ideal S1x1x1024 .f32) (x2 : Vec Ideal S1x1024x5248 .bf16)

/-- The normalized block. -/
theorem norm_apply (r : Fin 512) (k : Fin 1024) :
    (k0_pay2 (F := Ideal) x0 x1 (ix2 r k) : EReal) = rmsRow (fun k => x0 (ix2 r k)) (fun k => x1 (ix3 0 0 k)) k := by
  unfold rmsRow
  pointwise [k0_pay2]

/-- The columns that this part of the product takes. -/
theorem cols3 (k : Fin 1024) (f : Fin 1536) : (View.ld x2 r0_2 (ix3 (0 : Fin 1) k f) : EReal) = x2 (ix3 0 k ⟨0 + f.val, by omega⟩) := by
  refine congrArg x2 (funext fun a => Fin.ext ?_)
  match a with
  | ⟨0, _⟩ => rfl
  | ⟨1, _⟩ => show 0 + 1 * k.val = k.val; omega
  | ⟨2, _⟩ => show 0 + 1 * f.val = 0 + f.val; omega
theorem out3_apply (r : Fin 512) (f : Fin 1536) :
    (out0_3 x0 x1 x2 (ix2 r f) : EReal) = projAt (fun k => x0 (ix2 r k)) (fun k => x1 (ix3 0 0 k)) (fun k => x2 (ix3 0 k ⟨0 + f.val, by omega⟩)) := by
  unfold out0_3
  rw [View.canon_unit_zero (by decide), View.ld_unit_zero (S := S512x1024) (by decide), View.ld_unit_zero (S := S1x1x1024) (by decide)]
  unfold projAt
  simp only [← norm_apply, ← cols3]
  generalize View.ld x2 r0_2 = y
  unfold k0_pay3
  generalize k0_pay2 (F := Ideal) x0 x1 = h
  pointwise []

/-- The columns that this part of the product takes. -/
theorem cols4 (k : Fin 1024) (f : Fin 128) : (View.ld x2 r0_4 (ix3 (0 : Fin 1) k f) : EReal) = x2 (ix3 0 k ⟨1536 + f.val, by omega⟩) := by
  refine congrArg x2 (funext fun a => Fin.ext ?_)
  match a with
  | ⟨0, _⟩ => rfl
  | ⟨1, _⟩ => show 0 + 1 * k.val = k.val; omega
  | ⟨2, _⟩ => show 1536 + 1 * f.val = 1536 + f.val; omega
theorem out4_apply (r : Fin 512) (f : Fin 128) :
    (out0_4 x0 x1 x2 (ix2 r f) : EReal) = projAt (fun k => x0 (ix2 r k)) (fun k => x1 (ix3 0 0 k)) (fun k => x2 (ix3 0 k ⟨1536 + f.val, by omega⟩)) := by
  unfold out0_4
  rw [View.canon_unit_zero (by decide), View.ld_unit_zero (S := S512x1024) (by decide), View.ld_unit_zero (S := S1x1x1024) (by decide)]
  unfold projAt
  simp only [← norm_apply, ← cols4]
  generalize View.ld x2 r0_4 = y
  unfold k0_pay4
  generalize k0_pay2 (F := Ideal) x0 x1 = h
  pointwise []

/-- The columns that this part of the product takes. -/
theorem cols5 (k : Fin 1024) (f : Fin 512) : (View.ld x2 r0_6 (ix3 (0 : Fin 1) k f) : EReal) = x2 (ix3 0 k ⟨1664 + f.val, by omega⟩) := by
  refine congrArg x2 (funext fun a => Fin.ext ?_)
  match a with
  | ⟨0, _⟩ => rfl
  | ⟨1, _⟩ => show 0 + 1 * k.val = k.val; omega
  | ⟨2, _⟩ => show 1664 + 1 * f.val = 1664 + f.val; omega
theorem out5_apply (r : Fin 512) (f : Fin 512) :
    (out0_5 x0 x1 x2 (ix2 r f) : EReal) = projAt (fun k => x0 (ix2 r k)) (fun k => x1 (ix3 0 0 k)) (fun k => x2 (ix3 0 k ⟨1664 + f.val, by omega⟩)) := by
  unfold out0_5
  rw [View.canon_unit_zero (by decide), View.ld_unit_zero (S := S512x1024) (by decide), View.ld_unit_zero (S := S1x1x1024) (by decide)]
  unfold projAt
  simp only [← norm_apply, ← cols5]
  generalize View.ld x2 r0_6 = y
  unfold k0_pay5
  generalize k0_pay2 (F := Ideal) x0 x1 = h
  pointwise []

/-- The columns that this part of the product takes. -/
theorem cols6 (k : Fin 1024) (f : Fin 3072) : (View.ld x2 r0_8 (ix3 (0 : Fin 1) k f) : EReal) = x2 (ix3 0 k ⟨2176 + f.val, by omega⟩) := by
  refine congrArg x2 (funext fun a => Fin.ext ?_)
  match a with
  | ⟨0, _⟩ => rfl
  | ⟨1, _⟩ => show 0 + 1 * k.val = k.val; omega
  | ⟨2, _⟩ => show 2176 + 1 * f.val = 2176 + f.val; omega
theorem out6_apply (r : Fin 512) (f : Fin 3072) :
    (out0_6 x0 x1 x2 (ix2 r f) : EReal) = sg (projAt (fun k => x0 (ix2 r k)) (fun k => x1 (ix3 0 0 k)) (fun k => x2 (ix3 0 k ⟨2176 + f.val, by omega⟩))) := by
  unfold out0_6
  rw [View.canon_unit_zero (by decide), View.ld_unit_zero (S := S512x1024) (by decide), View.ld_unit_zero (S := S1x1x1024) (by decide)]
  unfold projAt
  simp only [← norm_apply, ← cols6]
  generalize View.ld x2 r0_8 = y
  generalize k0_pay2 (F := Ideal) x0 x1 = h
  unfold sg
  pointwise [k0_pay1]
  simp only [zero_sub]

end Cert.Dense.SampleGates

end
-- ==== Proof.SampleGates.Array.lean ====
/-
  What the result arrays of the projection hold after the grid: the columns of every row's norm against the weights.
-/
module

public import proofs.«01_k».proof.Proof.SampleGates.Block
public import Idealize.ShloMosaic.Lib.StableHlo.ReadAt

@[expose] public section

set_option maxRecDepth 65536

noncomputable section

namespace Cert.Dense.SampleGates

open Idealize.ShloMosaic Idealize.ShloMosaic.TcCoe Idealize.ShloMosaic.Tactic Cert.Dense
open Cert.SampleGatesIdeal Cert.SampleGatesIdeal.Gen

section
variable (x : Vec Ideal S512x1024 .f32) (w : Vec Ideal S4x1024 .f32) (W : Vec Ideal S4x1024x8456 .f32)
/-- Row `r` against column `f` of the weights. -/
def entry (r : Fin 512) (f : Fin 8456) : EReal := projAt (fun k => x (ix2 r k)) (fun k => w (ix2 0 k)) (fun k => W (ix3 0 k f))
/-- The recurrence's inputs. -/
def arr3 : Vec Ideal S512x1536 .f32 := fun y => entry x w W (y 0) ⟨3328 + (y 1).val, by have : (y 1).val < 1536 := (y 1).isLt; omega⟩
/-- The two rates of every head, padded with zeros. -/
def arr4 : Vec Ideal S512x128 .f32 := fun y => if h : (y 1).val < 8 then entry x w W (y 0) ⟨4864 + (y 1).val, by omega⟩ else 0
/-- The recurrence's output gate. -/
def arr5 : Vec Ideal S512x512 .f32 := fun y => entry x w W (y 0) ⟨4872 + (y 1).val, by have : (y 1).val < 512 := (y 1).isLt; omega⟩
/-- The gates of the three mixers. -/
def arr6 : Vec Ideal S512x3072 .f32 := fun y => sg (entry x w W (y 0) ⟨5384 + (y 1).val, by have : (y 1).val < 3072 := (y 1).isLt; omega⟩)
end

theorem index0 : ∀ t : Fin grid0.N, win0_0.index t 0 = t.val ∧ win0_0.index t 1 = 0 := by decide +kernel
theorem index1 : ∀ t : Fin grid0.N, win0_1.index t 0 = 0 ∧ win0_1.index t 1 = 0 ∧ win0_1.index t 2 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem N_lt (t : Fin cfg0.N) : t.val < 1 := t.isLt

variable (m : (ℓ : Loc nD τ sig) → Buf (Elt Ideal) ℓ) (c : Dev nD)

abbrev a0 : Vec Ideal S512x1024 .f32 := m ((c : Thread nD τ).loc main_arg0)
abbrev a1 : Vec Ideal S4x1024 .f32 := m ((c : Thread nD τ).loc main_arg1)
abbrev a2 : Vec Ideal S4x1024x8456 .f32 := m ((c : Thread nD τ).loc main_arg2)

/-- The row of the array a point's row `r` is. -/
def rowOf (t : Fin cfg0.N) (r : Fin 512) : Fin 512 := ⟨t.val * 512 + r.val, by have := N_lt t; omega⟩

/-- The normalization's weights with an axis put in. -/
theorem v6_at (k : Fin 1024) : (V m c main_v6 (ix3 (0 : Fin 4) (0 : Fin 1) k) : EReal) = a1 m c (ix2 0 k) := by
  unfold V; after_reads_at
/-- The weights' columns as the call takes them: the first group. -/
theorem v5_a (k : Fin 1024) (f : Fin 1536) :
    (V m c main_v5 (ix3 (0 : Fin 4) k (⟨f.val, by omega⟩ : Fin 5248)) : EReal) = a2 m c (ix3 0 k ⟨3328 + f.val, by omega⟩) := by
  unfold V; after_reads_at; after_reads_at
theorem sitofp_zero : (FloatOps.sitofp FTy.f32 0#32 : Ideal .f32) = (0 : EReal) := by
  show (((0#32 : BitVec 32).toInt : ℝ) : EReal) = 0
  simp
/-- The second group: eight columns, then zeros. -/
theorem v5_b (k : Fin 1024) (f : Fin 128) : (V m c main_v5 (ix3 (0 : Fin 4) k (⟨1536 + f.val, by omega⟩ : Fin 5248)) : EReal)
    = if h : f.val < 8 then a2 m c (ix3 0 k ⟨4864 + f.val, by omega⟩) else 0 := by
  unfold V; after_reads_at; after_reads_at
  rw [sitofp_zero]
/-- The rest. -/
theorem v5_c (k : Fin 1024) (f : Fin 3584) :
    (V m c main_v5 (ix3 (0 : Fin 4) k (⟨1664 + f.val, by omega⟩ : Fin 5248)) : EReal) = a2 m c (ix3 0 k ⟨4872 + f.val, by omega⟩) := by
  unfold V; after_reads_at
  rw [dif_neg (by omega), dif_neg (by omega)]
  after_reads_at
  have e : (1664 + f.val - 1536 - 128 : ℕ) = f.val := by omega
  simp only [e]

theorem iblk0 (t : Fin cfg0.N) (r : Fin 512) (k : Fin 1024) :
    (iblk m c 0 t (ix2 r k) : EReal) = a0 m c (ix2 (rowOf t r) k) := by
  unfold iblk
  rw [View.read_apply]
  refine (congrFun (V_main_arg0 m c) _).trans (congrArg (a0 m c) (funext fun a => Fin.ext ?_))
  match a with
  | ⟨0, _⟩ => show win0_0.index t 0 * 512 + 1 * r.val = t.val * 512 + r.val; rw [(index0 t).1, Nat.one_mul]
  | ⟨1, _⟩ => show win0_0.index t 1 * 1024 + 1 * k.val = k.val; rw [(index0 t).2]; omega
theorem iblk1 (t : Fin cfg0.N) (k : Fin 1024) : (iblk m c 1 t (ix3 (0 : Fin 1) (0 : Fin 1) k) : EReal) = a1 m c (ix2 0 k) := by
  refine Eq.trans ?_ (v6_at m c k)
  unfold iblk
  rw [View.read_apply]
  refine congrArg (V m c main_v6) (funext fun a => Fin.ext ?_)
  match a with
  | ⟨0, _⟩ => show win0_1.index t 0 * 1 + 1 * 0 = 0; rw [(index1 t).1]
  | ⟨1, _⟩ => show win0_1.index t 1 * 1 + 1 * 0 = 0; rw [(index1 t).2.1]
  | ⟨2, _⟩ => show win0_1.index t 2 * 1024 + 1 * k.val = k.val; rw [(index1 t).2.2]; omega
theorem iblk2 (t : Fin cfg0.N) (k : Fin 1024) (f : Fin 5248) : (iblk m c 2 t (ix3 (0 : Fin 1) k f) : EReal) = V m c main_v5 (ix3 (0 : Fin 4) k f) := by
  unfold iblk
  rw [View.read_apply]
  refine congrArg (V m c main_v5) (funext fun a => Fin.ext ?_)
  match a with
  | ⟨0, _⟩ => show win0_2.index t 0 * 1 + 1 * 0 = 0; rw [(index2 t).1]
  | ⟨1, _⟩ => show win0_2.index t 1 * 1024 + 1 * k.val = k.val; rw [(index2 t).2.1]; omega
  | ⟨2, _⟩ => show win0_2.index t 2 * 5248 + 1 * f.val = f.val; rw [(index2 t).2.2]; omega

theorem entry_eq (t : Fin cfg0.N) (r : Fin 512) (g : Fin 5248) (f : Fin 8456)
    (h : ∀ k, (V m c main_v5 (ix3 (0 : Fin 4) k g) : EReal) = a2 m c (ix3 0 k f)) :
    projAt (fun k => iblk m c 0 t (ix2 r k)) (fun k => iblk m c 1 t (ix3 0 0 k)) (fun k => iblk m c 2 t (ix3 0 k g))
      = entry (a0 m c) (a1 m c) (a2 m c) (rowOf t r) f := by
  simp only [iblk0, iblk1, iblk2, h]
  rfl

/-- What a point writes back of result 0 is its block. -/
theorem flushed3_eq (t : Fin cfg0.N) :
    (dats m 0 c).flushed 3 t = ((cfg0.win 3).blk t).view.read (Elt Ideal) (arr3 (a0 m c) (a1 m c) (a2 m c)) := by
  show (cfg0.win 3).cut (grid0.coords t) ((dats m 0 c).after 3 t) = _
  rw [after0_3]
  refine ext2 (n0 := 512) (n1 := 1536) fun r f => ?_
  have e : (out0_3 (iblk m c 0 t) (iblk m c 1 t) (iblk m c 2 t) (ix2 r f) : EReal) = arr3 (a0 m c) (a1 m c) (a2 m c) (ix2 (rowOf t r) f) := by
    rw [out3_apply]
    refine entry_eq m c t r _ _ fun k => Eq.trans ?_ (v5_a m c k f)
    simp only [Nat.zero_add]
  refine Eq.trans e ?_
  rw [View.read_apply]
  refine congrArg (arr3 (a0 m c) (a1 m c) (a2 m c)) (funext fun a => Fin.ext ?_)
  match a with
  | ⟨0, _⟩ => show _ = win0_3.index t 0 * 512 + 1 * r.val; rw [(index3 t).1, Nat.one_mul]; rfl
  | ⟨1, _⟩ => show _ = win0_3.index t 1 * 1536 + 1 * f.val; rw [(index3 t).2, Nat.one_mul, Nat.zero_mul, Nat.zero_add]; rfl

theorem final3 : (dats m 0 c).arrAt 3 cfg0.N = arr3 (a0 m c) (a1 m c) (a2 m c) :=
  (dats m 0 c).arrAt_eq_of_cover 3 _ (fun t _ => flushed3_eq m c t) fun i => by
    have h0 : (i 0 : Nat) < 512 := (i 0).isLt
    have h1 : (i 1 : Nat) < 1536 := (i 1).isLt
    have hN : (i 0 : Nat) / 512 < 1 := by omega
    let t : Fin cfg0.N := ⟨_, hN⟩
    refine ⟨t, flush0_3 t, ?_⟩
    show i ∈ ((View.whole main_v7_0).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [(index3 t).1]; dsimp only [t]; omega
    | ⟨1, _⟩ =>
      show win0_3.index t 1 * 1536 ≤ (i 1 : Nat) ∧ (i 1 : Nat) < win0_3.index t 1 * 1536 + 1536
      rw [(index3 t).2]; omega

/-- What a point writes back of result 1 is its block. -/
theorem flushed4_eq (t : Fin cfg0.N) :
    (dats m 0 c).flushed 4 t = ((cfg0.win 4).blk t).view.read (Elt Ideal) (arr4 (a0 m c) (a1 m c) (a2 m c)) := by
  show (cfg0.win 4).cut (grid0.coords t) ((dats m 0 c).after 4 t) = _
  rw [after0_4]
  refine ext2 (n0 := 512) (n1 := 128) fun r f => ?_
  have e : (out0_4 (iblk m c 0 t) (iblk m c 1 t) (iblk m c 2 t) (ix2 r f) : EReal) = arr4 (a0 m c) (a1 m c) (a2 m c) (ix2 (rowOf t r) f) := by
    rw [out4_apply]
    have e4 : arr4 (a0 m c) (a1 m c) (a2 m c) (ix2 (rowOf t r) f)
        = if h : f.val < 8 then entry (a0 m c) (a1 m c) (a2 m c) (rowOf t r) ⟨4864 + f.val, by omega⟩ else 0 := rfl
    rw [e4]
    by_cases hf : f.val < 8
    · rw [dif_pos hf]
      exact entry_eq m c t r _ ⟨4864 + f.val, by omega⟩ fun k => (v5_b m c k f).trans (dif_pos hf)
    · rw [dif_neg hf]
      unfold projAt
      refine Finset.sum_eq_zero fun k _ => ?_
      beta_reduce
      rw [iblk2, v5_b, dif_neg hf, mul_zero]
  refine Eq.trans e ?_
  rw [View.read_apply]
  refine congrArg (arr4 (a0 m c) (a1 m c) (a2 m c)) (funext fun a => Fin.ext ?_)
  match a with
  | ⟨0, _⟩ => show _ = win0_4.index t 0 * 512 + 1 * r.val; rw [(index4 t).1, Nat.one_mul]; rfl
  | ⟨1, _⟩ => show _ = win0_4.index t 1 * 128 + 1 * f.val; rw [(index4 t).2, Nat.one_mul, Nat.zero_mul, Nat.zero_add]; rfl

theorem final4 : (dats m 0 c).arrAt 4 cfg0.N = arr4 (a0 m c) (a1 m c) (a2 m c) :=
  (dats m 0 c).arrAt_eq_of_cover 4 _ (fun t _ => flushed4_eq m c t) fun i => by
    have h0 : (i 0 : Nat) < 512 := (i 0).isLt
    have h1 : (i 1 : Nat) < 128 := (i 1).isLt
    have hN : (i 0 : Nat) / 512 < 1 := by omega
    let t : Fin cfg0.N := ⟨_, hN⟩
    refine ⟨t, flush0_4 t, ?_⟩
    show i ∈ ((View.whole main_v7_1).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [(index4 t).1]; dsimp only [t]; omega
    | ⟨1, _⟩ =>
      show win0_4.index t 1 * 128 ≤ (i 1 : Nat) ∧ (i 1 : Nat) < win0_4.index t 1 * 128 + 128
      rw [(index4 t).2]; omega

/-- What a point writes back of result 2 is its block. -/
theorem flushed5_eq (t : Fin cfg0.N) :
    (dats m 0 c).flushed 5 t = ((cfg0.win 5).blk t).view.read (Elt Ideal) (arr5 (a0 m c) (a1 m c) (a2 m c)) := by
  show (cfg0.win 5).cut (grid0.coords t) ((dats m 0 c).after 5 t) = _
  rw [after0_5]
  refine ext2 (n0 := 512) (n1 := 512) fun r f => ?_
  have e : (out0_5 (iblk m c 0 t) (iblk m c 1 t) (iblk m c 2 t) (ix2 r f) : EReal) = arr5 (a0 m c) (a1 m c) (a2 m c) (ix2 (rowOf t r) f) := by
    rw [out5_apply]
    exact entry_eq m c t r _ _ fun k => v5_c m c k ⟨f.val, by omega⟩
  refine Eq.trans e ?_
  rw [View.read_apply]
  refine congrArg (arr5 (a0 m c) (a1 m c) (a2 m c)) (funext fun a => Fin.ext ?_)
  match a with
  | ⟨0, _⟩ => show _ = win0_5.index t 0 * 512 + 1 * r.val; rw [(index5 t).1, Nat.one_mul]; rfl
  | ⟨1, _⟩ => show _ = win0_5.index t 1 * 512 + 1 * f.val; rw [(index5 t).2, Nat.one_mul, Nat.zero_mul, Nat.zero_add]; rfl

theorem final5 : (dats m 0 c).arrAt 5 cfg0.N = arr5 (a0 m c) (a1 m c) (a2 m c) :=
  (dats m 0 c).arrAt_eq_of_cover 5 _ (fun t _ => flushed5_eq m c t) fun i => by
    have h0 : (i 0 : Nat) < 512 := (i 0).isLt
    have h1 : (i 1 : Nat) < 512 := (i 1).isLt
    have hN : (i 0 : Nat) / 512 < 1 := by omega
    let t : Fin cfg0.N := ⟨_, hN⟩
    refine ⟨t, flush0_5 t, ?_⟩
    show i ∈ ((View.whole main_v7_2).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [(index5 t).1]; dsimp only [t]; omega
    | ⟨1, _⟩ =>
      show win0_5.index t 1 * 512 ≤ (i 1 : Nat) ∧ (i 1 : Nat) < win0_5.index t 1 * 512 + 512
      rw [(index5 t).2]; omega

/-- What a point writes back of result 3 is its block. -/
theorem flushed6_eq (t : Fin cfg0.N) :
    (dats m 0 c).flushed 6 t = ((cfg0.win 6).blk t).view.read (Elt Ideal) (arr6 (a0 m c) (a1 m c) (a2 m c)) := by
  show (cfg0.win 6).cut (grid0.coords t) ((dats m 0 c).after 6 t) = _
  rw [after0_6]
  refine ext2 (n0 := 512) (n1 := 3072) fun r f => ?_
  have e : (out0_6 (iblk m c 0 t) (iblk m c 1 t) (iblk m c 2 t) (ix2 r f) : EReal) = arr6 (a0 m c) (a1 m c) (a2 m c) (ix2 (rowOf t r) f) := by
    rw [out6_apply]
    refine congrArg sg (entry_eq m c t r _ _ fun k => ?_)
    have e := v5_c m c k ⟨512 + f.val, by omega⟩
    simp only [← Nat.add_assoc] at e
    exact e
  refine Eq.trans e ?_
  rw [View.read_apply]
  refine congrArg (arr6 (a0 m c) (a1 m c) (a2 m c)) (funext fun a => Fin.ext ?_)
  match a with
  | ⟨0, _⟩ => show _ = win0_6.index t 0 * 512 + 1 * r.val; rw [(index6 t).1, Nat.one_mul]; rfl
  | ⟨1, _⟩ => show _ = win0_6.index t 1 * 3072 + 1 * f.val; rw [(index6 t).2, Nat.one_mul, Nat.zero_mul, Nat.zero_add]; rfl

theorem final6 : (dats m 0 c).arrAt 6 cfg0.N = arr6 (a0 m c) (a1 m c) (a2 m c) :=
  (dats m 0 c).arrAt_eq_of_cover 6 _ (fun t _ => flushed6_eq m c t) fun i => by
    have h0 : (i 0 : Nat) < 512 := (i 0).isLt
    have h1 : (i 1 : Nat) < 3072 := (i 1).isLt
    have hN : (i 0 : Nat) / 512 < 1 := by omega
    let t : Fin cfg0.N := ⟨_, hN⟩
    refine ⟨t, flush0_6 t, ?_⟩
    show i ∈ ((View.whole main_v7_3).slice (win0_6.rect t)).set
    rw [View.set_slice_whole, Rect.mem_set_unit]
    intro a
    match a with
    | ⟨0, _⟩ =>
      show win0_6.index t 0 * 512 ≤ (i 0 : Nat) ∧ (i 0 : Nat) < win0_6.index t 0 * 512 + 512
      rw [(index6 t).1]; dsimp only [t]; omega
    | ⟨1, _⟩ =>
      show win0_6.index t 1 * 3072 ≤ (i 1 : Nat) ∧ (i 1 : Nat) < win0_6.index t 1 * 3072 + 3072
      rw [(index6 t).2]; omega

/-- The last three of every sequence's seven rows: the three before, then the four of the call. -/
def lastRows (z : Vec Ideal S128x3x1536 .f32) (x : Vec Ideal S512x1536 .f32) : Vec Ideal S128x3x1536 .f32 :=
  extractStridedSlice S128x3x1536 ![0, 4, 0] (concatenate S128x7x1536 1 [⟨S128x3x1536, z⟩,
    ⟨S128x4x1536, shapeCast S128x4x1536 x shapeCasts_S512x1536_S128x4x1536⟩] concatenates_S128x3x1536_S128x4x1536_S128x7x1536_d1)
    slices_S128x7x1536_S128x3x1536_0_4_0

abbrev a3 : Vec Ideal S128x3x1536 .f32 := m ((c : Thread nD τ).loc main_arg3)

/-- The rows before the call, as the host code after the call finds them. -/
theorem rows_before : a3 m c = Pipeline.withArrays spec0 c (V0 m c) (fun w => (dats m 0 c).arrAt w cfg0.N) (Proc.devRef .tc main_arg3) := by
  rw [Pipeline.withArrays_of_ne spec0 c _ _ main_arg3 (by decide)]
  exact (V_main_arg3 m c).symm

/-- What the host code after the call leaves of the first result. -/
theorem last : Pipeline.afterTail₀ cfgs (dats m) 0 (V0 m) [hostOps1] c main_v10 = lastRows (a3 m c) ((dats m 0 c).arrAt 3 cfg0.N) := by
  rw [← Pipeline.withArrays_arr spec0 winFacts0.arr_inj c (V0 m c) (fun w => (dats m 0 c).arrAt w cfg0.N) 3]
  rw [rows_before]
  unfold Pipeline.afterTail₀
  after_results_simp
  rfl

end Cert.Dense.SampleGates

end
-- ==== Proof.SampleGates.Reference.lean ====
/-
  What the reference of the projection computes, read at an index.
-/
module

public import proofs.«01_k».proof.Proof.SampleGates.Array
public import proofs.«01_k».proof.Proof.Gen.SampleGatesRefIdeal.Read

@[expose] public section

set_option maxRecDepth 65536

noncomputable section

namespace Cert.Dense.SampleGates

open Idealize.ShloMosaic Idealize.ShloMosaic.TcCoe Idealize.ShloMosaic.Tactic Cert.Dense
open Cert.SampleGatesRefIdeal Cert.SampleGatesRefIdeal.Read

variable (x0 : Vec Ideal S512x1024 .f32) (x1 : Vec Ideal S4x1024 .f32) (x2 : Vec Ideal S4x1024x8456 .f32)

/-- The normalized rows. -/
theorem norm_read (r : Fin 512) (k : Fin 1024) :
    (val_main_v14 (F := Ideal) x0 x1 (ix2 r k) : EReal) = rmsRow (fun k => x0 (ix2 r k)) (fun k => x1 (ix2 0 k)) k := by
  unfold rmsRow
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The product with all the weights. -/
theorem entry_read (r : Fin 512) (f : Fin 8456) :
    (val_main_v17 (F := Ideal) x0 x1 x2 (ix2 r f) : EReal) = entry x0 x1 x2 r f := by
  unfold entry projAt
  simp only [← norm_read]
  generalize h : val_main_v14 (F := Ideal) x0 x1 = y
  unfold val_main_v17
  rw [h]
  pointwise [val_main_v16, val_main_v15]

theorem ref3 : val_main_v19 (F := Ideal) x0 x1 x2 = arr3 x0 x1 x2 := by
  refine ext2 (n0 := 512) (n1 := 1536) fun r f => ?_
  refine Eq.trans ?_ (entry_read x0 x1 x2 r ⟨3328 + f.val, by omega⟩)
  unfold val_main_v19 val_main_v18
  generalize val_main_v17 (F := Ideal) x0 x1 x2 = y
  pointwise []

theorem ref4 : val_main_v23 (F := Ideal) x0 x1 x2 = arr4 x0 x1 x2 := by
  refine ext2 (n0 := 512) (n1 := 128) fun r f => ?_
  show (_ : EReal) = if h : f.val < 8 then entry x0 x1 x2 r ⟨4864 + f.val, by omega⟩ else 0
  simp only [← entry_read]
  unfold val_main_v23 val_main_v20 val_main_v18
  generalize val_main_v17 (F := Ideal) x0 x1 x2 = y
  pointwise [val_main_call0_v0, val_main_c]
  rw [sitofp_zero]
  simp only [← Nat.add_assoc, Nat.reduceAdd]

theorem ref5 : val_main_v21 (F := Ideal) x0 x1 x2 = arr5 x0 x1 x2 := by
  refine ext2 (n0 := 512) (n1 := 512) fun r f => ?_
  refine Eq.trans ?_ (entry_read x0 x1 x2 r ⟨4872 + f.val, by omega⟩)
  unfold val_main_v21 val_main_v18
  generalize val_main_v17 (F := Ideal) x0 x1 x2 = y
  pointwise []
  simp only [← Nat.add_assoc, Nat.reduceAdd]

theorem ref6 : val_main_v29 (F := Ideal) x0 x1 x2 = arr6 x0 x1 x2 := by
  refine ext2 (n0 := 512) (n1 := 3072) fun r f => ?_
  refine Eq.trans ?_ (congrArg sg (entry_read x0 x1 x2 r ⟨5384 + f.val, by omega⟩))
  unfold val_main_v29 val_main_v27 val_main_v25 val_main_v24 val_main_v22 val_main_v18
  generalize val_main_v17 (F := Ideal) x0 x1 x2 = y
  unfold sg
  pointwise [val_main_v28, val_main_v26, val_main_cst_2, val_main_cst_3]
  simp only [← Nat.add_assoc, Nat.reduceAdd]

/-- The reference takes the last rows by the same steps. -/
theorem ref_last (x3 : Vec Ideal S128x3x1536 .f32) : val_main_v32 (F := Ideal) x0 x1 x2 x3 = lastRows x3 (arr3 x0 x1 x2) := by
  rw [← ref3]
  rfl

end Cert.Dense.SampleGates

end
-- ==== Proof.SampleGates.Claims.lean ====
/-
  The five claims of the projection to the recurrence's inputs and the gates.
-/
module

public import proofs.«01_k».proof.Defs
public import proofs.«01_k».proof.Proof.SampleGates.Reference
public import proofs.«01_k».proof.Proof.Gen.SampleGates.Frame
public import proofs.«01_k».proof.Proof.Gen.SampleGatesIdeal.Frame
public import proofs.«01_k».proof.Proof.Gen.SampleGatesRefIdeal.Run

@[expose] public section

set_option maxRecDepth 65536

noncomputable section

namespace Cert.Dense.SampleGates

open Idealize.ShloMosaic Idealize.ShloMosaic.TcCoe Idealize.SL.Sem

/-- The kernel runs, keeps its arguments and leaves the machine quiet. -/
theorem frame_p : Cert.quiescent_SampleGates := fun m ρ _ => Cert.SampleGates.Gen.frame m ρ

/-- So does the kernel over the extended reals. -/
theorem frame_pi : Cert.quiescent_SampleGatesIdeal := fun m ρ _ => Cert.SampleGatesIdeal.Gen.frame m ρ

/-- So does the reference. -/
theorem frame_ri : Cert.quiescent_SampleGatesRefIdeal := fun m ρ _ =>
  (θ_run Cert.SampleGatesRefIdeal.defs _ _).mono
    (fun r h => ⟨fun c => (h c).2.2.2.2.2, sem_eq_zero_of_no_sems (by decide) r.2⟩)
    (Cert.SampleGatesRefIdeal.Value.run (F := Ideal) m ρ)

theorem preserves : Cert.preserves_SampleGates_SampleGatesIdeal := trivial

/-- What the kernel's run leaves: the arrays of the call, and what the host code after the call makes of them. -/
theorem run (m : (ℓ : Loc Cert.SampleGatesIdeal.nD Cert.SampleGatesIdeal.τ Cert.SampleGatesIdeal.sig) → Buf (Elt Ideal) ℓ) (ρ : Dev Cert.SampleGatesIdeal.nD → PrngReg) :
    θ_run (Cert.SampleGatesIdeal.defs (F := Ideal)) (onTc (τ := Cert.SampleGatesIdeal.τ) (Cert.SampleGatesIdeal.main (F := Ideal))) ⟨m, fun _ => 0, ρ⟩ fun r => ∀ c : Dev Cert.SampleGatesIdeal.nD,
      r.2.mem ((c.tc : Thread Cert.SampleGatesIdeal.nD Cert.SampleGatesIdeal.τ).loc Cert.SampleGatesIdeal.main_v7_0) = (Cert.SampleGatesIdeal.Gen.dats m 0 c).arrAt 3 Cert.SampleGatesIdeal.cfg0.N
      ∧ r.2.mem ((c.tc : Thread Cert.SampleGatesIdeal.nD Cert.SampleGatesIdeal.τ).loc Cert.SampleGatesIdeal.main_v7_1) = (Cert.SampleGatesIdeal.Gen.dats m 0 c).arrAt 4 Cert.SampleGatesIdeal.cfg0.N
      ∧ r.2.mem ((c.tc : Thread Cert.SampleGatesIdeal.nD Cert.SampleGatesIdeal.τ).loc Cert.SampleGatesIdeal.main_v7_2) = (Cert.SampleGatesIdeal.Gen.dats m 0 c).arrAt 5 Cert.SampleGatesIdeal.cfg0.N
      ∧ r.2.mem ((c.tc : Thread Cert.SampleGatesIdeal.nD Cert.SampleGatesIdeal.τ).loc Cert.SampleGatesIdeal.main_v7_3) = (Cert.SampleGatesIdeal.Gen.dats m 0 c).arrAt 6 Cert.SampleGatesIdeal.cfg0.N
      ∧ r.2.mem ((c.tc : Thread Cert.SampleGatesIdeal.nD Cert.SampleGatesIdeal.τ).loc Cert.SampleGatesIdeal.main_v10) = lastRows (a3 m c) ((Cert.SampleGatesIdeal.Gen.dats m 0 c).arrAt 3 Cert.SampleGatesIdeal.cfg0.N)
      ∧ r.2.mem ((c.tc : Thread Cert.SampleGatesIdeal.nD Cert.SampleGatesIdeal.τ).loc Cert.SampleGatesIdeal.main_arg0) = m ((c.tc : Thread Cert.SampleGatesIdeal.nD Cert.SampleGatesIdeal.τ).loc Cert.SampleGatesIdeal.main_arg0)
      ∧ r.2.mem ((c.tc : Thread Cert.SampleGatesIdeal.nD Cert.SampleGatesIdeal.τ).loc Cert.SampleGatesIdeal.main_arg1) = m ((c.tc : Thread Cert.SampleGatesIdeal.nD Cert.SampleGatesIdeal.τ).loc Cert.SampleGatesIdeal.main_arg1)
      ∧ r.2.mem ((c.tc : Thread Cert.SampleGatesIdeal.nD Cert.SampleGatesIdeal.τ).loc Cert.SampleGatesIdeal.main_arg2) = m ((c.tc : Thread Cert.SampleGatesIdeal.nD Cert.SampleGatesIdeal.τ).loc Cert.SampleGatesIdeal.main_arg2)
      ∧ r.2.mem ((c.tc : Thread Cert.SampleGatesIdeal.nD Cert.SampleGatesIdeal.τ).loc Cert.SampleGatesIdeal.main_arg3) = m ((c.tc : Thread Cert.SampleGatesIdeal.nD Cert.SampleGatesIdeal.τ).loc Cert.SampleGatesIdeal.main_arg3) :=
  (θ_run Cert.SampleGatesIdeal.defs _ _).mono (fun r h c => ⟨(h.1 c).1 3, (h.1 c).1 4, (h.1 c).1 5, (h.1 c).1 6, ((h.1 c).2 Cert.SampleGatesIdeal.main_v10 (Pipeline.mem_restRefs_of Cert.SampleGatesIdeal.main_v10 (by decide) (by decide))).trans (last m c), h.2 c⟩)
    (θ_run_and (Cert.SampleGatesIdeal.Gen.run_main m ρ) (Cert.SampleGatesIdeal.Gen.unchanged m ρ))

/-- On the same arguments the kernel and the reference end with the same arrays. -/
theorem algebraic : Cert.algebraic_SampleGatesIdeal_SampleGatesRefIdeal := by
  intro m ρ m' ρ' _ hagree
  refine ⟨fun c => (Cert.SampleGatesIdeal.Gen.dats m 0 c).arrAt 3 Cert.SampleGatesIdeal.cfg0.N, fun c => (Cert.SampleGatesIdeal.Gen.dats m 0 c).arrAt 4 Cert.SampleGatesIdeal.cfg0.N, fun c => (Cert.SampleGatesIdeal.Gen.dats m 0 c).arrAt 5 Cert.SampleGatesIdeal.cfg0.N, fun c => (Cert.SampleGatesIdeal.Gen.dats m 0 c).arrAt 6 Cert.SampleGatesIdeal.cfg0.N, fun c => lastRows (a3 m c) ((Cert.SampleGatesIdeal.Gen.dats m 0 c).arrAt 3 Cert.SampleGatesIdeal.cfg0.N), run m ρ, ?_⟩
  refine (θ_run Cert.SampleGatesRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.SampleGatesRefIdeal.Value.run (F := Ideal) m' ρ')
  all_goals obtain ⟨h0, h1, h2, h3⟩ := hagree c
  · rw [Cert.SampleGatesRefIdeal.Read.val_main_v19_eq, h0, h1, h2]
    exact (ref3 _ _ _).trans (final3 m c).symm
  · rw [Cert.SampleGatesRefIdeal.Read.val_main_v23_eq, h0, h1, h2]
    exact (ref4 _ _ _).trans (final4 m c).symm
  · rw [Cert.SampleGatesRefIdeal.Read.val_main_v21_eq, h0, h1, h2]
    exact (ref5 _ _ _).trans (final5 m c).symm
  · rw [Cert.SampleGatesRefIdeal.Read.val_main_v29_eq, h0, h1, h2]
    exact (ref6 _ _ _).trans (final6 m c).symm
  · rw [Cert.SampleGatesRefIdeal.Read.val_main_v32_eq, h0, h1, h2, h3]
    exact (ref_last _ _ _ _).trans (congrArg (lastRows (a3 m c)) (final3 m c).symm)

end Cert.Dense.SampleGates

end
-- ==== Proof.lean ====
/-
  The proof of `Cert.Claim`: the claims, in the order they are made.
-/
module

public import proofs.«01_k».proof.Defs
public import proofs.«01_k».proof.Proof.Attn.Claims
public import proofs.«01_k».proof.Proof.Ffn.Claims
public import proofs.«01_k».proof.Proof.Gates.Claims
public import proofs.«01_k».proof.Proof.Qkv.Claims
public import proofs.«01_k».proof.Proof.Merge.Claims
public import proofs.«01_k».proof.Proof.Norm.Claims
public import proofs.«01_k».proof.Proof.SampleQkv.Claims
public import proofs.«01_k».proof.Proof.SampleNorm.Claims
public import proofs.«01_k».proof.Proof.SampleGates.Claims
public import proofs.«01_k».proof.Proof.Gen.Kernel
public import proofs.«01_k».proof.Proof.Gen.KernelIdeal
public import proofs.«01_k».proof.Proof.Gen.ReferenceIdeal
public import proofs.«01_k».proof.Proof.Gen.Ffn
public import proofs.«01_k».proof.Proof.Gen.FfnIdeal
public import proofs.«01_k».proof.Proof.Gen.FfnRefIdeal
public import proofs.«01_k».proof.Proof.Gen.Gates
public import proofs.«01_k».proof.Proof.Gen.GatesIdeal
public import proofs.«01_k».proof.Proof.Gen.GatesRefIdeal
public import proofs.«01_k».proof.Proof.Gen.Qkv
public import proofs.«01_k».proof.Proof.Gen.QkvIdeal
public import proofs.«01_k».proof.Proof.Gen.QkvRefIdeal
public import proofs.«01_k».proof.Proof.Gen.Merge
public import proofs.«01_k».proof.Proof.Gen.MergeIdeal
public import proofs.«01_k».proof.Proof.Gen.MergeRefIdeal
public import proofs.«01_k».proof.Proof.Gen.Norm
public import proofs.«01_k».proof.Proof.Gen.NormIdeal
public import proofs.«01_k».proof.Proof.Gen.NormRefIdeal
public import proofs.«01_k».proof.Proof.Gen.SampleQkv
public import proofs.«01_k».proof.Proof.Gen.SampleQkv.Frame
public import proofs.«01_k».proof.Proof.Gen.SampleQkvIdeal
public import proofs.«01_k».proof.Proof.Gen.SampleQkvIdeal.Frame
public import proofs.«01_k».proof.Proof.Gen.SampleQkvRefIdeal
public import proofs.«01_k».proof.Proof.Gen.SampleQkvRefIdeal.Run
public import proofs.«01_k».proof.Proof.Gen.SampleQkvRefIdeal.Read
public import proofs.«01_k».proof.Proof.Gen.SampleNorm
public import proofs.«01_k».proof.Proof.Gen.SampleNorm.Frame
public import proofs.«01_k».proof.Proof.Gen.SampleNormIdeal
public import proofs.«01_k».proof.Proof.Gen.SampleNormIdeal.Frame
public import proofs.«01_k».proof.Proof.Gen.SampleNormIdeal.Value
public import proofs.«01_k».proof.Proof.Gen.SampleNormRefIdeal
public import proofs.«01_k».proof.Proof.Gen.SampleNormRefIdeal.Run
public import proofs.«01_k».proof.Proof.Gen.SampleNormRefIdeal.Read
public import proofs.«01_k».proof.Proof.Gen.SampleGates
public import proofs.«01_k».proof.Proof.Gen.SampleGates.Frame
public import proofs.«01_k».proof.Proof.Gen.SampleGatesIdeal
public import proofs.«01_k».proof.Proof.Gen.SampleGatesIdeal.Frame
public import proofs.«01_k».proof.Proof.Gen.SampleGatesRefIdeal
public import proofs.«01_k».proof.Proof.Gen.SampleGatesRefIdeal.Run
public import proofs.«01_k».proof.Proof.Gen.SampleGatesRefIdeal.Read
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts,
    Cert.Gates.Gen.facts, Cert.GatesIdeal.Gen.facts, Cert.GatesRefIdeal.Gen.facts,
    Cert.Qkv.Gen.facts, Cert.QkvIdeal.Gen.facts, Cert.QkvRefIdeal.Gen.facts,
    Cert.Merge.Gen.facts, Cert.MergeIdeal.Gen.facts, Cert.MergeRefIdeal.Gen.facts,
    Cert.Norm.Gen.facts, Cert.NormIdeal.Gen.facts, Cert.NormRefIdeal.Gen.facts,
    Cert.SampleQkv.Gen.facts, Cert.SampleQkvIdeal.Gen.facts, Cert.SampleQkvRefIdeal.Gen.facts,
    Cert.SampleNorm.Gen.facts, Cert.SampleNormIdeal.Gen.facts, Cert.SampleNormRefIdeal.Gen.facts,
    Cert.SampleGates.Gen.facts, Cert.SampleGatesIdeal.Gen.facts, Cert.SampleGatesRefIdeal.Gen.facts,
    Cert.Attn.frame_p, Cert.Attn.frame_pi, Cert.Attn.frame_ri,
    Cert.Dense.Ffn.frame_p, Cert.Dense.Ffn.frame_pi, Cert.Dense.Ffn.frame_ri,
    Cert.Dense.Gates.frame_p, Cert.Dense.Gates.frame_pi, Cert.Dense.Gates.frame_ri,
    Cert.Dense.Qkv.frame_p, Cert.Dense.Qkv.frame_pi, Cert.Dense.Qkv.frame_ri,
    Cert.Dense.Merge.frame_p, Cert.Dense.Merge.frame_pi, Cert.Dense.Merge.frame_ri,
    Cert.Dense.Norm.frame_p, Cert.Dense.Norm.frame_pi, Cert.Dense.Norm.frame_ri,
    Cert.Dense.SampleQkv.frame_p, Cert.Dense.SampleQkv.frame_pi, Cert.Dense.SampleQkv.frame_ri,
    Cert.Dense.SampleNorm.frame_p, Cert.Dense.SampleNorm.frame_pi, Cert.Dense.SampleNorm.frame_ri,
    Cert.Dense.SampleGates.frame_p, Cert.Dense.SampleGates.frame_pi, Cert.Dense.SampleGates.frame_ri,
    Cert.Attn.preserves, Cert.Attn.algebraic,
    Cert.Dense.Ffn.preserves, Cert.Dense.Ffn.algebraic,
    Cert.Dense.Gates.preserves, Cert.Dense.Gates.algebraic,
    Cert.Dense.Qkv.preserves, Cert.Dense.Qkv.algebraic,
    Cert.Dense.Merge.preserves, Cert.Dense.Merge.algebraic,
    Cert.Dense.Norm.preserves, Cert.Dense.Norm.algebraic,
    Cert.Dense.SampleQkv.preserves, Cert.Dense.SampleQkv.algebraic,
    Cert.Dense.SampleNorm.preserves, Cert.Dense.SampleNorm.algebraic,
    Cert.Dense.SampleGates.preserves, Cert.Dense.SampleGates.algebraic⟩

end Cert.Proof

end
